-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x4096 .f32) (main_arg2 : FVec F S2x512x8x64 .f32) (main_arg3 : FVec F S2x512x8x64 .f32) (main_arg4 : FVec F S4096x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_scores_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .f32) (main_arg1 : FVec F S768x4096 .f32) (main_arg2 : FVec F S2x512x64x64 .f32) (main_arg3 : FVec F S2x512x64x64 .f32) (main_arg4 : FVec F S4096x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x64x64 .f32 := Host.absf main_arg2
  let main_cst_2 : FVec F S_ .f32 := constant S_ .f32 0x7F800000#32
  let main_v10 : FVec F S2x512x64x64 .f32 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩
abbrev S768x512 : Shape := ⟨2, ![768, 512]⟩
abbrev S512x768 : Shape := ⟨2, ![512, 768]⟩
abbrev S2x512x512 : Shape := ⟨3, ![2, 512, 512]⟩
abbrev S7x2x64x768 : Shape := ⟨4, ![7, 2, 64, 768]⟩
abbrev S2x64x768 : Shape := ⟨3, ![2, 64, 768]⟩
abbrev S7 : Shape := ⟨1, ![7]⟩
abbrev S1x512x768 : Shape := ⟨3, ![1, 512, 768]⟩
abbrev S512x512 : Shape := ⟨2, ![512, 512]⟩
abbrev S1x512x512 : Shape := ⟨3, ![1, 512, 512]⟩
abbrev S1x64x512 : Shape := ⟨3, ![1, 64, 512]⟩
abbrev S64x512 : Shape := ⟨2, ![64, 512]⟩
abbrev S128x512 : Shape := ⟨2, ![128, 512]⟩
abbrev S128x8x64 : Shape := ⟨3, ![128, 8, 64]⟩
abbrev S8x128x64 : Shape := ⟨3, ![8, 128, 64]⟩
abbrev S1x64x8x64 : Shape := ⟨4, ![1, 64, 8, 64]⟩
abbrev S64x8x64 : Shape := ⟨3, ![64, 8, 64]⟩
abbrev S8x128x128 : Shape := ⟨3, ![8, 128, 128]⟩
abbrev S8x128 : Shape := ⟨2, ![8, 128]⟩
abbrev S8x128x1 : Shape := ⟨3, ![8, 128, 1]⟩
abbrev S128x768 : Shape := ⟨2, ![128, 768]⟩
abbrev S64x768 : Shape := ⟨2, ![64, 768]⟩
abbrev S1x1x64x768 : Shape := ⟨4, ![1, 1, 64, 768]⟩
abbrev S1 : Shape := ⟨1, ![1]⟩
abbrev S1x2x64x768 : Shape := ⟨4, ![1, 2, 64, 768]⟩
abbrev S8x64x64 : Shape := ⟨3, ![8, 64, 64]⟩
abbrev S8x64x128 : Shape := ⟨3, ![8, 64, 128]⟩
abbrev S8x64 : Shape := ⟨2, ![8, 64]⟩
abbrev S8x64x1 : Shape := ⟨3, ![8, 64, 1]⟩
abbrev S1x64x768 : Shape := ⟨3, ![1, 64, 768]⟩

abbrev nBuf : Space → Nat
  | .hbm => 30
  | .vmem => 14
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x512x8x64, .f32⟩
  | .hbm, ⟨3, _⟩ => ⟨S2x512x8x64, .f32⟩
  | .hbm, ⟨4, _⟩ => ⟨S4096x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S512x768, .f32⟩
  | .hbm, ⟨29, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S768x512, .bf16⟩
  | .local _ .vmem, ⟨7, _⟩ => ⟨S512x768, .bf16⟩
  | .local _ .vmem, ⟨8, _⟩ => ⟨S2x512x512, .bf16⟩
  | .local _ .vmem, ⟨9, _⟩ => ⟨S7x2x64x768, .bf16⟩
  | .local _ .vmem, ⟨10, _⟩ => ⟨S7x2x64x768, .bf16⟩
  | .local _ .vmem, ⟨11, _⟩ => ⟨S2x64x768, .f32⟩
  | .local _ .vmem, ⟨12, _⟩ => ⟨S2x64x768, .bf16⟩
  | .local _ .vmem, ⟨13, _⟩ => ⟨S7x2x64x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_54 : BitVec 32) : Fin 3 → Nat :=
  let c0_60 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.addi v2 c1_i32_54
  let c8_i32_55 : BitVec 32 := 8#32
  let v67 : BitVec 32 := Scalar.remsi v66 c8_i32_55
  let c64_i32 : BitVec 32 := 64#32
  let v72 : BitVec 32 := Scalar.muli v67 c64_i32
  let v73 : Index := Scalar.indexCast v72
  let c0_61 : Index := 0#32
  ![0, v73.toNat, 0]
def k0_off2 (d0 : Dev nD) (c1_i32_56 : BitVec 32) : Fin 3 → Nat :=
  let c0_63 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v68 : BitVec 32 := Scalar.addi v2 c1_i32_56
  let c4_i32_57 : BitVec 32 := 4#32
  let v69 : BitVec 32 := Scalar.addi v68 c4_i32_57
  let c8_i32_58 : BitVec 32 := 8#32
  let v70 : BitVec 32 := Scalar.remsi v69 c8_i32_58
  let c64_i32_62 : BitVec 32 := 64#32
  let v76 : BitVec 32 := Scalar.muli v70 c64_i32_62
  let v77 : Index := Scalar.indexCast v76
  let c0_64 : Index := 0#32
  ![0, v77.toNat, 0]
def k0_off3 (d0 : Dev nD) (c1_i32_54 : BitVec 32) : Fin 4 → Nat :=
  let c0_66 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.addi v2 c1_i32_54
  let c8_i32_55 : BitVec 32 := 8#32
  let v67 : BitVec 32 := Scalar.remsi v66 c8_i32_55
  let c4_i32_59 : BitVec 32 := 4#32
  let v71 : BitVec 32 := Scalar.remsi v67 c4_i32_59
  let c64_i32_65 : BitVec 32 := 64#32
  let v83 : BitVec 32 := Scalar.muli v71 c64_i32_65
  let v84 : Index := Scalar.indexCast v83
  let c0_67 : Index := 0#32
  let c0_68 : Index := 0#32
  ![0, v84.toNat, 0, 0]
def k0_off4 (d0 : Dev nD) (c1_i32_54 : BitVec 32) : Fin 4 → Nat :=
  let c0_70 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.addi v2 c1_i32_54
  let c8_i32_55 : BitVec 32 := 8#32
  let v67 : BitVec 32 := Scalar.remsi v66 c8_i32_55
  let c4_i32_59 : BitVec 32 := 4#32
  let v71 : BitVec 32 := Scalar.remsi v67 c4_i32_59
  let c64_i32_69 : BitVec 32 := 64#32
  let v87 : BitVec 32 := Scalar.muli v71 c64_i32_69
  let c256_i32 : BitVec 32 := 256#32
  let v88 : BitVec 32 := Scalar.addi v87 c256_i32
  let v89 : Index := Scalar.indexCast v88
  let c0_71 : Index := 0#32
  let c0_72 : Index := 0#32
  ![0, v89.toNat, 0, 0]
def k0_off5 (d0 : Dev nD) (c1_i32_54 : BitVec 32) : Fin 3 → Nat :=
  let c1_96 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.addi v2 c1_i32_54
  let c8_i32_55 : BitVec 32 := 8#32
  let v67 : BitVec 32 := Scalar.remsi v66 c8_i32_55
  let c64_i32_95 : BitVec 32 := 64#32
  let v130 : BitVec 32 := Scalar.muli v67 c64_i32_95
  let v131 : Index := Scalar.indexCast v130
  let c0_97 : Index := 0#32
  ![1, v131.toNat, 0]
def k0_off6 (d0 : Dev nD) (c1_i32_56 : BitVec 32) : Fin 3 → Nat :=
  let c1_99 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v68 : BitVec 32 := Scalar.addi v2 c1_i32_56
  let c4_i32_57 : BitVec 32 := 4#32
  let v69 : BitVec 32 := Scalar.addi v68 c4_i32_57
  let c8_i32_58 : BitVec 32 := 8#32
  let v70 : BitVec 32 := Scalar.remsi v69 c8_i32_58
  let c64_i32_98 : BitVec 32 := 64#32
  let v134 : BitVec 32 := Scalar.muli v70 c64_i32_98
  let v135 : Index := Scalar.indexCast v134
  let c0_100 : Index := 0#32
  ![1, v135.toNat, 0]
def k0_off7 (d0 : Dev nD) (c1_i32_54 : BitVec 32) : Fin 4 → Nat :=
  let c1_102 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.addi v2 c1_i32_54
  let c8_i32_55 : BitVec 32 := 8#32
  let v67 : BitVec 32 := Scalar.remsi v66 c8_i32_55
  let c4_i32_59 : BitVec 32 := 4#32
  let v71 : BitVec 32 := Scalar.remsi v67 c4_i32_59
  let c64_i32_101 : BitVec 32 := 64#32
  let v141 : BitVec 32 := Scalar.muli v71 c64_i32_101
  let v142 : Index := Scalar.indexCast v141
  let c0_103 : Index := 0#32
  let c0_104 : Index := 0#32
  ![1, v142.toNat, 0, 0]
def k0_off8 (d0 : Dev nD) (c1_i32_54 : BitVec 32) : Fin 4 → Nat :=
  let c1_107 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.addi v2 c1_i32_54
  let c8_i32_55 : BitVec 32 := 8#32
  let v67 : BitVec 32 := Scalar.remsi v66 c8_i32_55
  let c4_i32_59 : BitVec 32 := 4#32
  let v71 : BitVec 32 := Scalar.remsi v67 c4_i32_59
  let c64_i32_105 : BitVec 32 := 64#32
  let v145 : BitVec 32 := Scalar.muli v71 c64_i32_105
  let c256_i32_106 : BitVec 32 := 256#32
  let v146 : BitVec 32 := Scalar.addi v145 c256_i32_106
  let v147 : Index := Scalar.indexCast v146
  let c0_108 : Index := 0#32
  let c0_109 : Index := 0#32
  ![1, v147.toNat, 0, 0]
def k0_dev8 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v188 : BitVec 32 := Scalar.addi v2 c1_i32_133
  let c8_i32_134 : BitVec 32 := 8#32
  let v189 : BitVec 32 := Scalar.remsi v188 c8_i32_134
  let c1_i32_139 : BitVec 32 := 1#32
  let v190 : BitVec 32 := Scalar.muli v189 c1_i32_139
  let v191 : BitVec 32 := Scalar.addi c0_i32_140 v190
  v191.toNat
def k0_dev9 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_147 : BitVec 32 := 5#32
  let v200 : BitVec 32 := Scalar.addi v2 c5_i32_147
  let c8_i32_148 : BitVec 32 := 8#32
  let v201 : BitVec 32 := Scalar.remsi v200 c8_i32_148
  let c1_i32_153 : BitVec 32 := 1#32
  let v202 : BitVec 32 := Scalar.muli v201 c1_i32_153
  let v203 : BitVec 32 := Scalar.addi c0_i32_154 v202
  v203.toNat
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_242 : BitVec 32 := 2#32
  let v334 : BitVec 32 := Scalar.addi v2 c2_i32_242
  let c8_i32_243 : BitVec 32 := 8#32
  let v335 : BitVec 32 := Scalar.remsi v334 c8_i32_243
  let c1_i32_248 : BitVec 32 := 1#32
  let v336 : BitVec 32 := Scalar.muli v335 c1_i32_248
  let v337 : BitVec 32 := Scalar.addi c0_i32_249 v336
  v337.toNat
def k0_dev11 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_256 : BitVec 32 := 6#32
  let v346 : BitVec 32 := Scalar.addi v2 c6_i32_256
  let c8_i32_257 : BitVec 32 := 8#32
  let v347 : BitVec 32 := Scalar.remsi v346 c8_i32_257
  let c1_i32_262 : BitVec 32 := 1#32
  let v348 : BitVec 32 := Scalar.muli v347 c1_i32_262
  let v349 : BitVec 32 := Scalar.addi c0_i32_263 v348
  v349.toNat
def k0_dev12 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_350 : BitVec 32 := 3#32
  let v480 : BitVec 32 := Scalar.addi v2 c3_i32_350
  let c8_i32_351 : BitVec 32 := 8#32
  let v481 : BitVec 32 := Scalar.remsi v480 c8_i32_351
  let c1_i32_356 : BitVec 32 := 1#32
  let v482 : BitVec 32 := Scalar.muli v481 c1_i32_356
  let v483 : BitVec 32 := Scalar.addi c0_i32_357 v482
  v483.toNat
def k0_dev13 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_364 : BitVec 32 := 7#32
  let v492 : BitVec 32 := Scalar.addi v2 c7_i32_364
  let c8_i32_365 : BitVec 32 := 8#32
  let v493 : BitVec 32 := Scalar.remsi v492 c8_i32_365
  let c1_i32_370 : BitVec 32 := 1#32
  let v494 : BitVec 32 := Scalar.muli v493 c1_i32_370
  let v495 : BitVec 32 := Scalar.addi c0_i32_371 v494
  v495.toNat
def k0_dev14 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_442 : BitVec 32 := 4#32
  let v601 : BitVec 32 := Scalar.addi v2 c4_i32_442
  let c8_i32_443 : BitVec 32 := 8#32
  let v602 : BitVec 32 := Scalar.remsi v601 c8_i32_443
  let c1_i32_448 : BitVec 32 := 1#32
  let v603 : BitVec 32 := Scalar.muli v602 c1_i32_448
  let v604 : BitVec 32 := Scalar.addi c0_i32_449 v603
  v604.toNat
def k0_off9 (d0 : Dev nD) : Fin 3 → Nat :=
  let c0_457 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_456 : BitVec 32 := 64#32
  let v613 : BitVec 32 := Scalar.muli v2 c64_i32_456
  let v614 : Index := Scalar.indexCast v613
  let c0_458 : Index := 0#32
  ![0, v614.toNat, 0]
def k0_off10 (d0 : Dev nD) : Fin 3 → Nat :=
  let c1_469 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_468 : BitVec 32 := 64#32
  let v635 : BitVec 32 := Scalar.muli v2 c64_i32_468
  let v636 : Index := Scalar.indexCast v635
  let c0_470 : Index := 0#32
  ![1, v636.toNat, 0]
def k0_off11 (d0 : Dev nD) : Fin 3 → Nat :=
  let c0_708 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_707 : BitVec 32 := 64#32
  let v840 : BitVec 32 := Scalar.muli v2 c64_i32_707
  let v841 : Index := Scalar.indexCast v840
  let c0_709 : Index := 0#32
  ![0, v841.toNat, 0]
def k0_dev15 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_716 : BitVec 32 := 1#32
  let v848 : BitVec 32 := Scalar.addi v2 c1_i32_716
  let c8_i32_717 : BitVec 32 := 8#32
  let v849 : BitVec 32 := Scalar.remsi v848 c8_i32_717
  let c1_i32_721 : BitVec 32 := 1#32
  let v850 : BitVec 32 := Scalar.muli v849 c1_i32_721
  let v851 : BitVec 32 := Scalar.addi c0_i32_722 v850
  v851.toNat
def k0_dev16 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_726 : BitVec 32 := 2#32
  let v858 : BitVec 32 := Scalar.addi v2 c2_i32_726
  let c8_i32_727 : BitVec 32 := 8#32
  let v859 : BitVec 32 := Scalar.remsi v858 c8_i32_727
  let c1_i32_731 : BitVec 32 := 1#32
  let v860 : BitVec 32 := Scalar.muli v859 c1_i32_731
  let v861 : BitVec 32 := Scalar.addi c0_i32_732 v860
  v861.toNat
def k0_dev17 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_736 : BitVec 32 := 3#32
  let v868 : BitVec 32 := Scalar.addi v2 c3_i32_736
  let c8_i32_737 : BitVec 32 := 8#32
  let v869 : BitVec 32 := Scalar.remsi v868 c8_i32_737
  let c1_i32_741 : BitVec 32 := 1#32
  let v870 : BitVec 32 := Scalar.muli v869 c1_i32_741
  let v871 : BitVec 32 := Scalar.addi c0_i32_742 v870
  v871.toNat
def k0_dev18 (d0 : Dev nD) : Nat :=
  let c0_i32_752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_746 : BitVec 32 := 4#32
  let v878 : BitVec 32 := Scalar.addi v2 c4_i32_746
  let c8_i32_747 : BitVec 32 := 8#32
  let v879 : BitVec 32 := Scalar.remsi v878 c8_i32_747
  let c1_i32_751 : BitVec 32 := 1#32
  let v880 : BitVec 32 := Scalar.muli v879 c1_i32_751
  let v881 : BitVec 32 := Scalar.addi c0_i32_752 v880
  v881.toNat
def k0_dev19 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_756 : BitVec 32 := 5#32
  let v888 : BitVec 32 := Scalar.addi v2 c5_i32_756
  let c8_i32_757 : BitVec 32 := 8#32
  let v889 : BitVec 32 := Scalar.remsi v888 c8_i32_757
  let c1_i32_761 : BitVec 32 := 1#32
  let v890 : BitVec 32 := Scalar.muli v889 c1_i32_761
  let v891 : BitVec 32 := Scalar.addi c0_i32_762 v890
  v891.toNat
def k0_dev20 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_766 : BitVec 32 := 6#32
  let v898 : BitVec 32 := Scalar.addi v2 c6_i32_766
  let c8_i32_767 : BitVec 32 := 8#32
  let v899 : BitVec 32 := Scalar.remsi v898 c8_i32_767
  let c1_i32_771 : BitVec 32 := 1#32
  let v900 : BitVec 32 := Scalar.muli v899 c1_i32_771
  let v901 : BitVec 32 := Scalar.addi c0_i32_772 v900
  v901.toNat
def k0_dev21 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_776 : BitVec 32 := 7#32
  let v908 : BitVec 32 := Scalar.addi v2 c7_i32_776
  let c8_i32_777 : BitVec 32 := 8#32
  let v909 : BitVec 32 := Scalar.remsi v908 c8_i32_777
  let c1_i32_781 : BitVec 32 := 1#32
  let v910 : BitVec 32 := Scalar.muli v909 c1_i32_781
  let v911 : BitVec 32 := Scalar.addi c0_i32_782 v910
  v911.toNat
def k0_off12 (d0 : Dev nD) (c1_i32_794 : BitVec 32) : Fin 3 → Nat :=
  let c0_802 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v924 : BitVec 32 := Scalar.subi v2 c1_i32_794
  let c8_i32_795 : BitVec 32 := 8#32
  let v925 : BitVec 32 := Scalar.addi v924 c8_i32_795
  let c8_i32_796 : BitVec 32 := 8#32
  let v926 : BitVec 32 := Scalar.remsi v925 c8_i32_796
  let c64_i32_801 : BitVec 32 := 64#32
  let v930 : BitVec 32 := Scalar.muli v926 c64_i32_801
  let v931 : Index := Scalar.indexCast v930
  let c0_803 : Index := 0#32
  ![0, v931.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x4096, .f32⟩
  | 2 => ⟨S2x512x64x64, .f32⟩
  | 3 => ⟨S2x512x64x64, .f32⟩
  | 4 => ⟨S4096x768, .f32⟩
  | 5 => ⟨S2x512x4096, .f32⟩
  | 6 => ⟨S2x512x64x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S2x64x512x512, .f32⟩
  | 99 => ⟨S_, .f32⟩
  | 100 => ⟨S2x64x512x512, .f32⟩
  | 101 => ⟨S2x64x512x512, .f32⟩
  | 102 => ⟨S1x1x512x512, .i1⟩
  | 103 => ⟨S_, .f32⟩
  | 104 => ⟨S_, .f32⟩
  | 105 => ⟨S2x64x512x512, .i1⟩
  | 106 => ⟨S2x64x512x512, .f32⟩
  | 107 => ⟨S2x64x512x512, .f32⟩
  | 108 => ⟨S_, .f32⟩
  | 109 => ⟨S2x64x512, .f32⟩
  | 110 => ⟨S2x64x512x1, .f32⟩
  | 111 => ⟨S2x64x512x512, .f32⟩
  | 112 => ⟨S2x64x512x512, .f32⟩
  | 113 => ⟨S2x64x512x512, .f32⟩
  | 114 => ⟨S_, .i1⟩
  | 115 => ⟨S512, .i1⟩
  | 116 => ⟨S1x1x512x1, .i1⟩
  | 117 => ⟨S_, .f32⟩
  | 118 => ⟨S2x64x512, .f32⟩
  | 119 => ⟨S2x64x512x1, .f32⟩
  | 120 => ⟨S_, .f32⟩
  | 121 => ⟨S_, .f32⟩
  | 122 => ⟨S2x64x512x1, .i1⟩
  | 123 => ⟨S2x64x512x1, .f32⟩
  | 124 => ⟨S2x64x512x1, .f32⟩
  | 125 => ⟨S2x64x512x512, .f32⟩
  | 126 => ⟨S2x64x512x512, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x64x512x512, .i1⟩
  | 3 => ⟨S2x64x512x512, .f32⟩
  | 4 => ⟨S2x64x512x512, .f32⟩
  | 5 => ⟨S2x64x64x512, .f32⟩
  | 6 => ⟨S2x512x64x64, .f32⟩
  | 7 => ⟨S2x512x4096, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Content.lean ====
/-
# What every buffer holds, device by device

The kernel is a ring-free exchange between eight devices. Device `c` owns eight heads; it computes, for
every chunk of 64 query rows, the contribution of its heads to the result, keeps its own chunk and sends
the other seven to the devices that own them. Each device adds the eight contributions to its chunk and
sends the finished chunk to everybody.

This module names those values over an arbitrary number system `F`, each as the kernel's own arithmetic
(the payloads of the skeleton) applied to the five inputs of the devices. Slots are numbered `0 … 6`:
slot `s` of a device concerns the device `s + 1` places further (`peer`) or nearer (`orig`).
-/
module

public import proofs.«01_k».proof.Proof.Gen.KernelIdeal
public import proofs.«01_k».proof.Proof.Gen.KernelIdeal.Skeleton
public import Idealize.ShloMosaic.Lib.Pointwise

@[expose] public section

noncomputable section

namespace Cert.Exchange

open Cert.KernelIdeal Cert.KernelIdeal.Gen
open Idealize.ShloMosaic

variable {F : FTy → Type} [FloatOps F]

/-! ## Devices and slots -/

set_option backward.proofsInPublic true in
/-- The device that slot `s` of `c` is sent to: `s + 1` places further round. -/
def peer (c : Dev nD) (s : Fin 7) : Dev nD := ⟨(c.val + (s.val + 1)) % 8, Nat.mod_lt _ (by decide)⟩
set_option backward.proofsInPublic true in
/-- The device whose slot `s` is sent to `c`. -/
def orig (c : Dev nD) (s : Fin 7) : Dev nD := ⟨(c.val + (7 - s.val)) % 8, Nat.mod_lt _ (by decide)⟩

theorem orig_peer (c : Dev nD) (s : Fin 7) : orig (peer c s) s = c := by revert c s; decide
theorem peer_orig (c : Dev nD) (s : Fin 7) : peer (orig c s) s = c := by revert c s; decide
theorem peer_ne (c : Dev nD) (s : Fin 7) : peer c s ≠ c := by revert c s; decide
theorem peer_rev (c : Dev nD) (s : Fin 7) : peer (peer c s) s.rev = c := by revert c s; decide
theorem orig_eq (c : Dev nD) (s : Fin 7) : orig c s = peer c s.rev := by revert c s; decide
theorem peer_inj (c : Dev nD) : Function.Injective (peer c) := by revert c; decide
theorem orig_inj (c : Dev nD) : Function.Injective (orig c) := by revert c; decide

/-! ## The inputs of one device -/

/-- What the five input windows of one device hold: the activations, the device's columns of the query
    projection, its heads' keys and values, its rows of the output projection. -/
structure Inp (F : FTy → Type) where
  x : FVec F S2x512x768 .f32
  wq : FVec F S768x512 .f32
  k : FVec F S2x512x8x64 .f32
  v : FVec F S2x512x8x64 .f32
  wo : FVec F S512x768 .f32

section One
variable (I : Inp F)

/-- The two projections, rounded. -/
def wqB : FVec F S768x512 .bf16 := k0_pay1 I.wq
def woB : FVec F S512x768 .bf16 := k0_pay2 I.wo

/-- One batch of the activations, as it is loaded. -/
def xBox (b : Fin 2) : Vec F S1x512x768 .f32 := fun i => I.x (ix3 b (i 1) (i 2))

/-- The scaled queries of one batch. -/
def qRow (b : Fin 2) : FVec F S1x512x512 .bf16 := k0_pay3 (xBox I b) (wqB I)

/-- The scaled queries, both batches. -/
def qC : Vec F S2x512x512 .bf16 := fun i => qRow I (i 0) (ix3 (0 : Fin 1) (i 1) (i 2))

set_option backward.proofsInPublic true in
/-- Row `r` of block `g` of 64 rows. -/
def row (g : Fin 8) (r : Fin 64) : Fin 512 := ⟨64 * g.val + r.val, by omega⟩

/-- The queries of chunk `ch`, batch `b`. -/
def qBox (b : Fin 2) (ch : Fin 8) : Vec F S1x64x512 .bf16 := fun i => qC I (ix3 b (row ch (i 1)) (i 2))

/-- Block `g` of 64 keys (or values) of batch `b`. -/
def kvBox (f : FVec F S2x512x8x64 .f32) (b : Fin 2) (g : Fin 8) : Vec F S1x64x8x64 .f32 :=
  fun i => f (ix4 b (row g (i 1)) (i 2) (i 3))

set_option backward.proofsInPublic true in
/-- The two key blocks a chunk of queries attends to: those congruent to it modulo 4. -/
def lowG (ch : Fin 8) : Fin 8 := ⟨ch.val % 4, by omega⟩
set_option backward.proofsInPublic true in
def highG (ch : Fin 8) : Fin 8 := ⟨ch.val % 4 + 4, by omega⟩

/-- The chunk four places on, computed together with `ch`. -/
def opp (ch : Fin 8) : Fin 8 := ⟨(ch.val + 4) % 8, Nat.mod_lt _ (by decide)⟩

/-- Attention of 128 query rows — the chunks `ch` and `opp ch` — and its product with the output projection. -/
def pairV (b : Fin 2) (ch : Fin 8) : FVec F S128x768 .f32 :=
  k0_pay6 (k0_pay5 (qBox I b ch) (qBox I b (opp ch))) (kvBox I.k b (lowG ch)) (kvBox I.k b (highG ch))
    (kvBox I.v b (lowG ch)) (kvBox I.v b (highG ch)) (woB I)

/-- Its first 64 rows and its last 64 rows, rounded. -/
def loV (b : Fin 2) (ch : Fin 8) : FVec F S1x1x64x768 .bf16 :=
  k0_pay8 (k0_pay7 (k0_pay5 (qBox I b ch) (qBox I b (opp ch))) (kvBox I.k b (lowG ch)) (kvBox I.k b (highG ch))
    (kvBox I.v b (lowG ch)) (kvBox I.v b (highG ch)) (woB I))
def hiV (b : Fin 2) (ch : Fin 8) : FVec F S1x1x64x768 .bf16 := k0_pay9 (pairV I b ch)

/-- Attention of one chunk, rounded. -/
def midV (b : Fin 2) (ch : Fin 8) : FVec F S1x1x64x768 .bf16 :=
  k0_pay49 (k0_pay48 (k0_pay44 (kvBox I.k b (lowG ch)) (kvBox I.k b (highG ch)))
    (k0_pay45 (kvBox I.v b (lowG ch)) (kvBox I.v b (highG ch))) (qBox I b ch)) (woB I)

/-- Attention of one chunk, not rounded; `ch` is the chunk, `g` the chunk whose key blocks are used. -/
def ownV (b : Fin 2) (g ch : Fin 8) : FVec F S1x64x768 .f32 :=
  k0_pay54 (k0_pay44 (kvBox I.k b (lowG g)) (kvBox I.k b (highG g)))
    (k0_pay46 (k0_pay45 (kvBox I.v b (lowG g)) (kvBox I.v b (highG g)))) (qBox I b ch) (woB I)

end One

section All
variable (I : Dev nD → Inp F)

/-- What slot `s` of device `c` sends, batch `b`. -/
def partV (c : Dev nD) (s : Fin 7) (b : Fin 2) : FVec F S1x1x64x768 .bf16 :=
  if s.val < 3 then loV (I c) b (peer c s)
  else if s.val = 3 then midV (I c) b (peer c s)
  else hiV (I c) b (opp (peer c s))

/-- The send buffer, filled. -/
def sendC (c : Dev nD) : Vec F S7x2x64x768 .bf16 :=
  fun i => partV I c (i 0) (i 1) (ix4 (0 : Fin 1) (0 : Fin 1) (i 2) (i 3))

/-- The receive buffer, filled: slot `s` is what `orig c s` sent. -/
def recvC (c : Dev nD) : Vec F S7x2x64x768 .bf16 :=
  fun i => partV I (orig c (i 0)) (i 0) (i 1) (ix4 (0 : Fin 1) (0 : Fin 1) (i 2) (i 3))

/-- The order in which the received slots are added. -/
def accOrder : Fin 7 → Fin 7 := ![0, 4, 1, 5, 2, 6, 3]

/-- Batch `b` of the accumulator after the own chunk and `n` received ones. -/
def accB (c : Dev nD) (b : Fin 2) : ℕ → FVec F S1x64x768 .f32
  | 0 => ownV (I c) b (peer c 3) c
  | n + 1 => k0_pay55 (accB c b n) (partV I (orig c (accOrder (Fin.ofNat 7 n))) (accOrder (Fin.ofNat 7 n)) b)

/-- The accumulator, its two batches after `n₀` and `n₁` received slots. -/
def accC (c : Dev nD) (n₀ n₁ : ℕ) : Vec F S2x64x768 .f32 :=
  fun i => accB I c (i 0) (if (i 0).val = 0 then n₀ else n₁) (ix3 (0 : Fin 1) (i 1) (i 2))

/-- The finished chunk. -/
def doneC (c : Dev nD) : Vec F S2x64x768 .f32 := accC I c 7 7

/-- The finished chunk, rounded: what every other device receives. -/
def rowsC (c : Dev nD) : Vec F S2x64x768 .bf16 := k0_pay69 (doneC I c)

/-- The gather buffer, filled: slot `s` is the finished chunk of `orig c s`. -/
def gathC (c : Dev nD) : Vec F S7x2x64x768 .bf16 :=
  fun i => rowsC I (orig c (i 0)) (ix3 (i 1) (i 2) (i 3))

/-- Another device's finished chunk as it is written into the result. -/
def chunkV (d : Dev nD) : FVec F S2x64x768 .f32 := k0_pay70 fun i => rowsC I d (ix3 (i 1) (i 2) (i 3))

set_option backward.proofsInPublic true in
/-- The chunk a result row lies in, and its place there. -/
def chunkOf (r : Fin 512) : Dev nD := ⟨r.val / 64, by show r.val / 64 < 8; omega⟩
set_option backward.proofsInPublic true in
def inChunk (r : Fin 512) : Fin 64 := ⟨r.val % 64, Nat.mod_lt _ (by decide)⟩

/-- The result buffer over its first contents `f`, once the own chunk and the gathered slots below `n` are in. -/
def outP (c : Dev nD) (f : Vec F S2x512x768 .f32) (n : ℕ) : Vec F S2x512x768 .f32 := fun i =>
  if chunkOf (i 1) = c then doneC I c (ix3 (i 0) (inChunk (i 1)) (i 2))
  else if (∃ s : Fin 7, s.val < n ∧ chunkOf (i 1) = orig c s) then chunkV I (chunkOf (i 1)) (ix3 (i 0) (inChunk (i 1)) (i 2))
  else f i

/-- The result buffer, complete. -/
def outC (c : Dev nD) : Vec F S2x512x768 .f32 := fun i =>
  if chunkOf (i 1) = c then doneC I c (ix3 (i 0) (inChunk (i 1)) (i 2))
  else chunkV I (chunkOf (i 1)) (ix3 (i 0) (inChunk (i 1)) (i 2))

theorem orig_cover (c d : Dev nD) (h : d ≠ c) : ∃ s : Fin 7, d = orig c s := by revert c d; decide

theorem outP_seven (c : Dev nD) (f : Vec F S2x512x768 .f32) : outP I c f 7 = outC I c := by
  funext i
  unfold outP outC
  by_cases h : chunkOf (i 1) = c
  · rw [if_pos h, if_pos h]
  · rw [if_neg h, if_neg h, if_pos]
    obtain ⟨s, hs⟩ := orig_cover c _ h
    exact ⟨s, s.isLt, hs⟩

end All

/-! ## The other payloads of the kernel are these ones -/

theorem pay53_eq (I : Inp F) (b : Fin 2) (g ch : Fin 8) :
    k0_pay53 (k0_pay43 (kvBox I.v b (lowG g)) (kvBox I.v b (highG g)))
      (k0_pay51 (k0_pay42 (k0_pay40 (kvBox I.k b (lowG g))) (k0_pay41 (kvBox I.k b (highG g)))) (qBox I b ch))
      (k0_pay52 (k0_pay42 (k0_pay40 (kvBox I.k b (lowG g))) (k0_pay41 (kvBox I.k b (highG g)))) (qBox I b ch))
      (constant S8x64x64 .f32 0x00000000#32) (woB I) = ownV I b g ch := rfl

theorem pay47_eq (I : Inp F) (b : Fin 2) (ch : Fin 8) :
    k0_pay47 (k0_pay42 (k0_pay40 (kvBox I.k b (lowG ch))) (k0_pay41 (kvBox I.k b (highG ch))))
      (k0_pay43 (kvBox I.v b (lowG ch)) (kvBox I.v b (highG ch))) (qBox I b ch) (woB I) = midV I b ch := rfl

end Cert.Exchange

end
-- ==== Proof.Cells.lean ====
/-
# Buffers, semaphores and the slots of the three exchange buffers

The kernel's own names for the memory of one device, the 28 transfer semaphores by kind and slot, and the
cut of each `[7, 2, 64, 768]` buffer into its seven slots.
-/
module

public import proofs.«01_k».proof.Proof.Content
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and the rounds of the exchange, a round's duties named by slots. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Memrefs -/

abbrev xM : Memref sig .tc .vmem S2x512x768 .f32 := Memref.whole cc0_stg0_0
abbrev wqM : Memref sig .tc .vmem S768x512 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S512x768 .f32 := Memref.whole cc0_stg4_0
abbrev oM : Memref sig .tc .vmem S2x512x768 .f32 := Memref.whole cc0_stg5_0
abbrev wqbM : Memref sig .tc .vmem S768x512 .bf16 := Memref.whole cc0_scratch0
abbrev wobM : Memref sig .tc .vmem S512x768 .bf16 := Memref.whole cc0_scratch1
abbrev qM : Memref sig .tc .vmem S2x512x512 .bf16 := Memref.whole cc0_scratch2
abbrev sM : Memref sig .tc .vmem S7x2x64x768 .bf16 := Memref.whole cc0_scratch3
abbrev rM : Memref sig .tc .vmem S7x2x64x768 .bf16 := Memref.whole cc0_scratch4
abbrev accM : Memref sig .tc .vmem S2x64x768 .f32 := Memref.whole cc0_scratch5
abbrev rowM : Memref sig .tc .vmem S2x64x768 .bf16 := Memref.whole cc0_scratch6
abbrev gM : Memref sig .tc .vmem S7x2x64x768 .bf16 := Memref.whole cc0_scratch7

/-! ## Semaphores -/

abbrev barSs : Sems sig S_ := SemArray.scalar (sig.barrier 0 rfl)
abbrev barS : Sem sig := barSs.sem

/-- The kinds of transfer semaphore: of the exchange of contributions (send, receive), of the gathering of
    the finished chunks (send, receive); each kind one semaphore per slot. -/
abbrev aS : Fin 4 := 0
abbrev aR : Fin 4 := 1
abbrev gS : Fin 4 := 2
abbrev gR : Fin 4 := 3

set_option backward.proofsInPublic true in
def dsem (k : Fin 4) (s : Fin 7) : DmaSem sig := ⟨6 + 7 * k.val + s.val, by show 6 + 7 * k.val + s.val < 34; omega⟩

abbrev barCell (c : Dev nD) : GSem nD τ sig := ((c : Thread nD τ), .reg barS)
abbrev cell (k : Fin 4) (c : Dev nD) (s : Fin 7) : GSem nD τ sig := ((c : Thread nD τ), .dma (dsem k s))

theorem dsem_inj : ∀ {k k' : Fin 4} {s s' : Fin 7}, dsem k s = dsem k' s' → k = k' ∧ s = s' := by
  unfold dsem
  intro k k' s s' h
  have := congrArg Fin.val h
  dsimp only at this
  exact ⟨Fin.ext (by omega), Fin.ext (by omega)⟩

/-! ## Slots -/

theorem slot_inb (s : Fin 7) : ∀ a, (![s.val, 0, 0, 0] : Fin 4 → Nat) a + S1x2x64x768.size a ≤ S7x2x64x768.size a := by
  revert s; decide

/-- Slot `s` of an exchange buffer, as the kernel slices it. -/
abbrev slotM (M : Memref sig .tc .vmem S7x2x64x768 .bf16) (s : Fin 7) : Memref sig .tc .vmem S2x64x768 .bf16 :=
  (M.slice (Rect.unit (s := S7x2x64x768) ![s.val, 0, 0, 0] S1x2x64x768.size (slot_inb s)) (fun _ => rfl)).squeeze S2x64x768 squeezes_S1x2x64x768_S2x64x768

/-- The slot an element lies in. -/
def slotOf (i : S7x2x64x768.Idx) : Fin 7 := i 0

/-- The elements of slot `s`. -/
def slotSet (s : Fin 7) : Finset S7x2x64x768.Idx := Finset.univ.filter fun i => slotOf i = s

theorem mem_slotSet {s : Fin 7} {i : S7x2x64x768.Idx} : i ∈ slotSet s ↔ slotOf i = s := by
  unfold slotSet; rw [Finset.mem_filter]; exact ⟨fun h => h.2, fun h => ⟨Finset.mem_univ _, h⟩⟩

theorem exists_of_mem_slot {s : Fin 7} {i : S7x2x64x768.Idx} (h : i ∈ slotSet s) :
    ∃ (b : Fin 2) (r : Fin 64) (e : Fin 768), i = ix4 s b r e :=
  ⟨i 1, i 2, i 3, by rw [← mem_slotSet.mp h]; exact eq_ix4 i⟩

theorem slotOf_ix4 (s : Fin 7) (b : Fin 2) (r : Fin 64) (e : Fin 768) : slotOf (ix4 s b r e) = s := rfl

/-- The bytes one slot's transfer credits. -/
abbrev N : ℕ := (slotM rM 0).view.dmaCredit
theorem N_pos : 0 < N := View.dmaCredit_pos _ (by decide)

/-- Where the elements of a slot lie in the buffer. -/
theorem slot_idx (s : Fin 7) (j : S2x64x768.Idx) :
    (Rect.unit (s := S7x2x64x768) ![s.val, 0, 0, 0] S1x2x64x768.size (slot_inb s)).emb
      (Shape.reshapeEquiv squeezes_S1x2x64x768_S2x64x768.numel_eq j) = ix4 s (j 0) (j 1) (j 2) := by
  rw [Shape.reshapeEquiv_cons_one (n := 3) (d := ![2, 64, 768])]
  funext a
  apply Fin.ext
  match a with
  | ⟨0, _⟩ => show s.val + 1 * 0 = s.val; omega
  | ⟨1, _⟩ => show 0 + 1 * (j 0).val = (j 0).val; omega
  | ⟨2, _⟩ => show 0 + 1 * (j 1).val = (j 1).val; omega
  | ⟨3, _⟩ => show 0 + 1 * (j 2).val = (j 2).val; omega

theorem slot_emb (M : Memref sig .tc .vmem S7x2x64x768 .bf16) (s : Fin 7) (j : S2x64x768.Idx) :
    (slotM M s).view.emb j = M.view.emb (ix4 s (j 0) (j 1) (j 2)) :=
  congrArg M.view.emb (slot_idx s j)

theorem slot_set_rect (s : Fin 7) :
    (Rect.unit (s := S7x2x64x768) ![s.val, 0, 0, 0] S1x2x64x768.size (slot_inb s)).set = slotSet s := by
  ext i
  rw [Rect.mem_set_unit, mem_slotSet]
  constructor
  · intro h
    have := h 0
    change s.val ≤ (i 0).val ∧ (i 0).val < s.val + 1 at this
    exact Fin.ext (le_antisymm (Nat.le_of_lt_succ this.2) this.1)
  · intro h a
    match a with
    | ⟨0, _⟩ => show s.val ≤ (i 0).val ∧ (i 0).val < s.val + 1; exact ⟨le_of_eq (congrArg Fin.val h).symm, lt_of_eq_of_lt (congrArg Fin.val h) (Nat.lt_succ_self _)⟩
    | ⟨1, _⟩ => exact ⟨Nat.zero_le _, by rw [show (![s.val, 0, 0, 0] : Fin 4 → Nat) ⟨1, _⟩ = 0 from rfl, Nat.zero_add]; exact (i 1).isLt⟩
    | ⟨2, _⟩ => exact ⟨Nat.zero_le _, by rw [show (![s.val, 0, 0, 0] : Fin 4 → Nat) ⟨2, _⟩ = 0 from rfl, Nat.zero_add]; exact (i 2).isLt⟩
    | ⟨3, _⟩ => exact ⟨Nat.zero_le _, by rw [show (![s.val, 0, 0, 0] : Fin 4 → Nat) ⟨3, _⟩ = 0 from rfl, Nat.zero_add]; exact (i 3).isLt⟩

theorem slot_set (M : Memref sig .tc .vmem S7x2x64x768 .bf16) (s : Fin 7) :
    (slotM M s).view.set = (slotSet s).map M.view.emb := by
  show (((M.view.slice _).reshape _ _).set) = _
  rw [View.set_reshape, View.set_slice]
  exact congrArg (Finset.map _) (slot_set_rect s)

/-- Of a whole buffer, the slot's elements are the buffer's own. -/
theorem slot_set_s (s : Fin 7) : (slotM sM s).view.set = slotSet s := (slot_set sM s).trans (Finset.map_refl)
theorem slot_set_r (s : Fin 7) : (slotM rM s).view.set = slotSet s := (slot_set rM s).trans (Finset.map_refl)
theorem slot_set_g (s : Fin 7) : (slotM gM s).view.set = slotSet s := (slot_set gM s).trans (Finset.map_refl)

theorem slots_disjoint {s s' : Fin 7} (h : s ≠ s') : Disjoint (slotSet s) (slotSet s') := by
  rw [Finset.disjoint_left]
  intro i h1 h2
  exact h ((mem_slotSet.mp h1).symm.trans (mem_slotSet.mp h2))

theorem slots_cover : (Finset.univ.biUnion slotSet : Finset S7x2x64x768.Idx) = Finset.univ := by
  ext i
  simp only [Finset.mem_biUnion, Finset.mem_univ, true_and, iff_true]
  exact ⟨slotOf i, mem_slotSet.mpr rfl⟩

/-- The three slot families, at contents. -/
def sPts (c : Dev nD) (s : Fin 7) (f : Vec F S7x2x64x768 .bf16) : sProp 𝕄 :=
  (((c : Thread nD τ).loc cc0_scratch3) ↦[slotSet s]{fullShare} f)
def rPts (c : Dev nD) (s : Fin 7) (f : Vec F S7x2x64x768 .bf16) : sProp 𝕄 :=
  (((c : Thread nD τ).loc cc0_scratch4) ↦[slotSet s]{fullShare} f)
def gPts (c : Dev nD) (s : Fin 7) (f : Vec F S7x2x64x768 .bf16) : sProp 𝕄 :=
  (((c : Thread nD τ).loc cc0_scratch7) ↦[slotSet s]{fullShare} f)
/-- The rounded chunk at one share. -/
def rowPts (q : PosShare TreeShare) (c : Dev nD) (f : Vec F S2x64x768 .bf16) : sProp 𝕄 :=
  (((c : Thread nD τ).loc cc0_scratch6) ↦{q} f)

instance sPts_storable (c : Dev nD) (s) (f) : BI.Storable (upEmb : UEmb _ 𝕄) (sPts (F := F) c s f) := by unfold sPts; infer_instance
instance rPts_storable (c : Dev nD) (s) (f) : BI.Storable (upEmb : UEmb _ 𝕄) (rPts (F := F) c s f) := by unfold rPts; infer_instance
instance gPts_storable (c : Dev nD) (s) (f) : BI.Storable (upEmb : UEmb _ 𝕄) (gPts (F := F) c s f) := by unfold gPts; infer_instance
instance rowPts_storable (q) (c : Dev nD) (f) : BI.Storable (upEmb : UEmb _ 𝕄) (rowPts (F := F) q c f) := by unfold rowPts; infer_instance

/-- The share of the rounded chunk that slot `s`'s transfer reads at. -/
abbrev rowShare (s : Fin 7) : PosShare TreeShare := Transfers.shareTok fullShare 7 s

/-- What a transfer out of slot `s` of one exchange buffer into slot `s` of another leaves there. -/
theorem landed_r (fd fs : Vec F S7x2x64x768 .bf16) (s : Fin 7) (i : S7x2x64x768.Idx) (hi : i ∈ slotSet s) :
    (slotM rM s).view.write (Elt F) fd ((slotM sM s).view.read (Elt F) fs) Finset.univ i = fs i := by
  obtain ⟨b, r, e, rfl⟩ := exists_of_mem_slot hi
  have h : (slotM rM s).view.emb (ix3 b r e) = ix4 s b r e := slot_emb rM s (ix3 b r e)
  have h' : (slotM sM s).view.emb (ix3 b r e) = ix4 s b r e := slot_emb sM s (ix3 b r e)
  have w := View.write_emb_of_mem (v := (slotM rM s).view) (Val := Elt F) fd ((slotM sM s).view.read (Elt F) fs)
    (M := Finset.univ) (x := ix3 b r e) (Finset.mem_univ _)
  rw [h] at w
  exact w.trans (congrArg fs h')

/-- What a transfer of the rounded chunk into slot `s` of the gather buffer leaves there. -/
theorem landed_g (fd : Vec F S7x2x64x768 .bf16) (fs : Vec F S2x64x768 .bf16) (s : Fin 7) (i : S7x2x64x768.Idx) (hi : i ∈ slotSet s) :
    (slotM gM s).view.write (Elt F) fd (rowM.view.read (Elt F) fs) Finset.univ i = fs (ix3 (i 1) (i 2) (i 3)) := by
  obtain ⟨b, r, e, rfl⟩ := exists_of_mem_slot hi
  have h : (slotM gM s).view.emb (ix3 b r e) = ix4 s b r e := slot_emb gM s (ix3 b r e)
  have w := View.write_emb_of_mem (v := (slotM gM s).view) (Val := Elt F) fd (rowM.view.read (Elt F) fs)
    (M := Finset.univ) (x := ix3 b r e) (Finset.mem_univ _)
  rw [h] at w
  exact w

end Cert.Exchange

end
-- ==== Proof.Protocol.lean ====
/-
# The protocol: who waits for what, who pays, and what each landing hands over

Every semaphore carries one round. With slots `s : Fin 7`, `peer c s` the device `s + 1` places on and
`orig c s` the device `s + 1` places back:

* the BARRIER of `c` has seven duties of one unit, duty `s` paid by `peer c s`, which hands over its own slot `s`
  of the receive buffer and of the gather buffer (so that `c` may copy into them) and the knowledge that its two
  receive semaphores of that slot are at round 0; `c` waits for seven units;
* the receive semaphore `aR s` of `c` is paid by the copy out of slot `s` of `orig c s`: it hands over slot `s` of the
  receive buffer at `recvC`;
* the send semaphore `aS s` of `c` is paid by `c`'s own copy: it hands back slot `s` of the send buffer;
* the receive semaphore `gR s` of `c` is paid by the copy of `orig c s`'s finished chunk: it hands over slot `s` of the
  gather buffer at `gathC`;
* the send semaphore `gS s` of `c` hands back one share of the rounded chunk.

A device waits on its barrier first (level 1), then on the `aR`s (level 2), then on the `gR`s (level 3), then on the
send semaphores; at each wait everything it still owes lies at a higher level.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Sched
variable (I : Dev nD → Inp F)

/-! ## Payloads -/

/-- What `peer c s` hands to `c` with its signal. -/
def barPay (c : Dev nD) (s : Fin 7) : sProp 𝕄 :=
  iprop((∃ f, rPts (peer c s) s f) ∗ (∃ f, gPts (peer c s) s f)
    ∗ reached ER (cell aR (peer c s) s) 0 ∗ reached ER (cell gR (peer c s) s) 0)

/-- What completes with a transfer of kind `k`, slot `s`, at device `c`. -/
def xferPay (k : Fin 4) (c : Dev nD) (s : Fin 7) : sProp 𝕄 :=
  match k with
  | 0 => sPts c s (sendC I c)
  | 1 => rPts c s (recvC I c)
  | 2 => rowPts (rowShare s) c (rowsC I c)
  | 3 => gPts c s (gathC I c)

instance barPay_storable (c : Dev nD) (s : Fin 7) : BI.Storable (upEmb : UEmb _ 𝕄) (barPay (F := F) c s) := by
  unfold barPay; infer_instance
instance xferPay_storable (k : Fin 4) (c : Dev nD) (s : Fin 7) : BI.Storable (upEmb : UEmb _ 𝕄) (xferPay (F := F) I k c s) := by
  unfold xferPay; split <;> infer_instance

set_option backward.proofsInPublic true in
/-- The kind and the slot of a transfer semaphore. -/
def kindOf (q : DmaSem sig) : Fin 4 := ⟨(q.val - 6) / 7 % 4, Nat.mod_lt _ (by decide)⟩
set_option backward.proofsInPublic true in
def slotOfSem (q : DmaSem sig) : Fin 7 := ⟨(q.val - 6) % 7, Nat.mod_lt _ (by decide)⟩
theorem kindOf_dsem (k : Fin 4) (s : Fin 7) : kindOf (dsem k s) = k := by revert k s; decide
theorem slotOfSem_dsem (k : Fin 4) (s : Fin 7) : slotOfSem (dsem k s) = s := by revert k s; decide

def payOf (g : GSem nD τ sig) (d : Fin 7) : sProp 𝕄 :=
  match g.2 with
  | .reg _ => barPay g.1.1 d
  | .dma q => xferPay I (kindOf q) g.1.1 (slotOfSem q)

def dutiesOf (g : GSem nD τ sig) : Finset (Fin 7) :=
  match g.2 with
  | .reg _ => Finset.univ
  | .dma _ => {0}

def amountAt (g : GSem nD τ sig) : ℕ :=
  match g.2 with
  | .reg _ => 1
  | .dma _ => N

/-- The schedule. -/
def Rd : Rounds.Schedule (GSem nD τ sig) (Fin 7) 𝕄 where
  duties g r := if r = 0 then dutiesOf g else ∅
  unitless _ := False
  amount g _ _ := amountAt g
  payload g _ d := payOf I g d
  amount_pos g _ _ _ := by
    show 0 < amountAt g
    unfold amountAt; split
    · exact Nat.one_pos
    · exact N_pos

instance Rd_payload_storable (g : GSem nD τ sig) (r : ℕ) (d : Fin 7) :
    BI.Storable (upEmb : UEmb _ 𝕄) ((Rd (F := F) I).payload g r d) := by
  show BI.Storable upEmb (payOf I g d)
  unfold payOf; split <;> infer_instance

variable (c : Dev nD) (s : Fin 7) (k : Fin 4)

theorem duties_bar : (Rd (F := F) I).duties (barCell c) 0 = Finset.univ := by dsimp only [Rd]; exact if_pos rfl
theorem duties_xfer : (Rd (F := F) I).duties (cell k c s) 0 = {0} := by dsimp only [Rd]; exact if_pos rfl
theorem duties_later (g : GSem nD τ sig) : ∀ r, 1 ≤ r → (Rd (F := F) I).duties g r = ∅ :=
  fun r hr => by dsimp only [Rd]; exact if_neg (by omega)
theorem amount_bar (d : Fin 7) : (Rd (F := F) I).amount (barCell c) 0 d = 1 := rfl
theorem amount_xfer (d : Fin 7) : (Rd (F := F) I).amount (cell k c s) 0 d = N := rfl
theorem payload_bar (d : Fin 7) : (Rd (F := F) I).payload (barCell c) 0 d = barPay c d := rfl
theorem payload_xfer (d : Fin 7) : (Rd (F := F) I).payload (cell k c s) 0 d = xferPay I k c s := by
  show xferPay I (kindOf (dsem k s)) c (slotOfSem (dsem k s)) = _
  rw [kindOf_dsem, slotOfSem_dsem]

theorem expect_bar : (Rd (F := F) I).expect (barCell c) 0 = 7 := by
  unfold Schedule.expect Schedule.amountOf
  rw [duties_bar, Finset.sum_congr rfl fun d _ => amount_bar I c d, Finset.sum_const, Finset.card_univ, Fintype.card_fin, smul_eq_mul]
theorem expect_xfer : (Rd (F := F) I).expect (cell k c s) 0 = N := by
  unfold Schedule.expect Schedule.amountOf
  rw [duties_xfer, Finset.sum_singleton, amount_xfer]

theorem rest_bar : bigSep ((Rd (F := F) I).duties (barCell c) 0 \ ∅) (fun d => (Rd (F := F) I).payload (barCell c) 0 d)
    = bigSep Finset.univ (fun d : Fin 7 => (barPay c d : sProp 𝕄)) := by
  rw [Finset.sdiff_empty, duties_bar]
  rfl
theorem rest_xfer : bigSep ((Rd (F := F) I).duties (cell k c s) 0 \ ∅) (fun d => (Rd (F := F) I).payload (cell k c s) 0 d)
    = xferPay I k c s := by
  rw [Finset.sdiff_empty, duties_xfer, bigSep_singleton, payload_xfer]

end Sched

/-! ## What a device owes -/

/-- The signals, the contributions and the finished chunks that `c` still owes, by the slots left. -/
def oweB (c : Dev nD) (l : List (Fin 7)) : CellTallies nD τ sig Unit := (l.map fun s => tallyAt (barCell (peer c s)) () 1).sum
def oweA (c : Dev nD) (l : List (Fin 7)) : CellTallies nD τ sig Unit := (l.map fun s => tallyAt (cell aR (peer c s) s) () N).sum
def oweG (c : Dev nD) (l : List (Fin 7)) : CellTallies nD τ sig Unit := (l.map fun s => tallyAt (cell gR (peer c s) s) () N).sum

/-- The orders in which they are paid. -/
abbrev ordB : List (Fin 7) := [0, 1, 2, 3, 4, 5, 6]
abbrev ordA : List (Fin 7) := [0, 4, 1, 5, 2, 6, 3]
abbrev ordG : List (Fin 7) := [0, 1, 2, 3, 4, 5, 6]

def owed (c : Dev nD) (b a g : List (Fin 7)) : CellTallies nD τ sig Unit := oweB c b + oweA c a + oweG c g

/-- What `c` owes at launch. -/
abbrev O₀ (c : Dev nD) : CellTallies nD τ sig Unit := owed c ordB ordA ordG

theorem owed_payB (c : Dev nD) (s : Fin 7) (b a g : List (Fin 7)) :
    owed c (s :: b) a g = owed c b a g + tallyAt (barCell (peer c s)) () 1 := by
  unfold owed oweB; rw [List.map_cons, List.sum_cons]; abel
theorem owed_payA (c : Dev nD) (s : Fin 7) (b a g : List (Fin 7)) :
    owed c b (s :: a) g = owed c b a g + tallyAt (cell aR (peer c s) s) () N := by
  unfold owed oweA; rw [List.map_cons, List.sum_cons]; abel
theorem owed_payG (c : Dev nD) (s : Fin 7) (b a g : List (Fin 7)) :
    owed c b a (s :: g) = owed c b a g + tallyAt (cell gR (peer c s) s) () N := by
  unfold owed oweG; rw [List.map_cons, List.sum_cons]; abel
theorem owed_nil (c : Dev nD) : owed c [] [] [] = 0 := by
  unfold owed oweB oweA oweG; simp

/-! ## Levels -/

def L (g : GSem nD τ sig) : Finset Unit := if g.1.2 = .tc then {()} else ∅
theorem L_tc (d : Dev nD) (sm : SemLoc sig) : L ((d : Thread nD τ), sm) = {()} := if_pos rfl

def lvSem (sm : SemLoc sig) : ℕ :=
  match sm with
  | .reg _ => 1
  | .dma q => if 13 ≤ q.val ∧ q.val < 20 then 2 else if 27 ≤ q.val then 3 else 0
def lv (g : GSem nD τ sig) (_ : Unit) : ℕ := lvSem g.2

theorem lv_aR (s : Fin 7) : lvSem (.dma (dsem aR s)) = 2 := by revert s; decide
theorem lv_gR (s : Fin 7) : lvSem (.dma (dsem gR s)) = 3 := by revert s; decide
theorem lv_aS (s : Fin 7) : lvSem (.dma (dsem aS s)) = 0 := by revert s; decide
theorem lv_gS (s : Fin 7) : lvSem (.dma (dsem gS s)) = 0 := by revert s; decide

theorem list_tally_pos {α : Type} (f : α → GSem nD τ sig) (n : ℕ) (l : List α) {g : GSem nD τ sig} {u : Unit}
    (h : 0 < (l.map fun s => (tallyAt (f s) () n : CellTallies nD τ sig Unit)).sum g u) : ∃ s ∈ l, g = f s := by
  induction l with
  | nil => exact absurd h (Nat.lt_irrefl 0)
  | cons s l ih =>
    rw [List.map_cons, List.sum_cons, Pi.add_apply, Finsupp.add_apply] at h
    rcases Nat.add_pos_iff_pos_or_pos.mp h with h | h
    · rw [tallyAt_apply] at h
      split at h
      · next hg => exact ⟨s, List.mem_cons_self, hg.1⟩
      · exact absurd h (Nat.lt_irrefl 0)
    · obtain ⟨s', hs', e⟩ := ih h
      exact ⟨s', List.mem_cons_of_mem _ hs', e⟩

theorem owed_pos {c : Dev nD} {b a l : List (Fin 7)} {g : GSem nD τ sig} {u : Unit} (h : 0 < owed c b a l g u) :
    (∃ s ∈ b, g = barCell (peer c s)) ∨ (∃ s ∈ a, g = cell aR (peer c s) s) ∨ (∃ s ∈ l, g = cell gR (peer c s) s) := by
  unfold owed at h
  rw [Pi.add_apply, Finsupp.add_apply, Pi.add_apply, Finsupp.add_apply] at h
  rcases Nat.add_pos_iff_pos_or_pos.mp h with h | h
  · rcases Nat.add_pos_iff_pos_or_pos.mp h with h | h
    · exact .inl (list_tally_pos _ _ _ h)
    · exact .inr (.inl (list_tally_pos _ _ _ h))
  · exact .inr (.inr (list_tally_pos _ _ _ h))

theorem owed_L {c : Dev nD} {b a l : List (Fin 7)} {g : GSem nD τ sig} {u : Unit} (h : 0 < owed c b a l g u) : u ∈ L g := by
  rcases owed_pos h with ⟨s, -, rfl⟩ | ⟨s, -, rfl⟩ | ⟨s, -, rfl⟩ <;> exact Finset.mem_singleton_self _

theorem owed_lv_pos {c : Dev nD} {b a l : List (Fin 7)} {g : GSem nD τ sig} {u : Unit} (h : 0 < owed c b a l g u) : 0 < lv g u := by
  rcases owed_pos h with ⟨s, -, rfl⟩ | ⟨s, -, rfl⟩ | ⟨s, -, rfl⟩
  · exact Nat.one_pos
  · show 0 < lvSem _; rw [lv_aR]; decide
  · show 0 < lvSem _; rw [lv_gR]; decide

/-- A wait below everything owed. -/
theorem mayWait_of (c : Dev nD) (sm : SemLoc sig) (n : ℕ) (b a l : List (Fin 7)) (hn : lvSem sm = n)
    (hb : b = [] ∨ n < 1) (ha : a = [] ∨ n < 2) (hg : n < 3) :
    (levAts L lv : sProp 𝕄) ⊢ MayWait (c : Thread nD τ) sm () (owed c b a l) :=
  MayOwe.of_cut (L := L) (lev := lv) n (fun p hp => by rw [Finset.mem_singleton.mp hp, L_tc]; exact Finset.mem_singleton_self _)
    (fun g u h => owed_L h)
    (fun p hp => by rw [Finset.mem_singleton.mp hp]; exact le_of_eq hn)
    (fun g u h => by
      rcases owed_pos h with ⟨s, hs, rfl⟩ | ⟨s, hs, rfl⟩ | ⟨s, hs, rfl⟩
      · rcases hb with rfl | hb
        · cases hs
        · exact hb
      · rcases ha with rfl | ha
        · cases hs
        · show n < lvSem _; rw [lv_aR]; exact ha
      · show n < lvSem _; rw [lv_gR]; exact hg)

/-! ## The records every device may consult -/

abbrev osem : Fin 28 → SemLoc sig := fun i => .dma ⟨6 + i.val, by show 6 + i.val < 34; omega⟩

def barEmb : Dev nD ↪ GSem nD τ sig := ⟨fun c => barCell c, fun _ _ h => congrArg (fun g : GSem nD τ sig => g.1.1) h⟩
def scEmb : Dev nD × (Fin 4 × Fin 7) ↪ GSem nD τ sig :=
  ⟨fun p => cell p.2.1 p.1 p.2.2, fun p q h => by
    have h1 : p.1 = q.1 := congrArg (fun g : GSem nD τ sig => g.1.1) h
    have h2 : dsem p.2.1 p.2.2 = dsem q.2.1 q.2.2 := by
      have := congrArg Prod.snd h
      exact SemLoc.dma.inj this
    obtain ⟨h3, h4⟩ := dsem_inj h2
    exact Prod.ext h1 (Prod.ext h3 h4)⟩

abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨p, -, h⟩ := Finset.mem_map.mp h₂
  have := congrArg Prod.snd h
  cases this

/-- All the invariants, under one map of names, and that every barrier is at round 0. -/
def records (I : Dev nD → Inp F) (κ : GSem nD τ sig → ℕ) : sProp 𝕄 :=
  iprop((bigSep (barCells ∪ scCells) fun g => cellInv ER (Rd I) (κ g) g) ∗ bigSep barCells fun g => reached ER g 0)

instance records_persistent (I : Dev nD → Inp F) (κ : GSem nD τ sig → ℕ) : BI.Persistent (records I κ) := by
  unfold records; infer_instance

theorem bar_mem (c : Dev nD) : barCell c ∈ (barCells ∪ scCells : Finset (GSem nD τ sig)) :=
  Finset.mem_union_left _ (Finset.mem_map_of_mem barEmb (Finset.mem_univ c))
theorem cell_mem (k : Fin 4) (c : Dev nD) (s : Fin 7) : cell k c s ∈ (barCells ∪ scCells : Finset (GSem nD τ sig)) :=
  Finset.mem_union_right _ (Finset.mem_map_of_mem scEmb (Finset.mem_univ (c, k, s)))

theorem rec_inv (I : Dev nD → Inp F) (κ : GSem nD τ sig → ℕ) {g : GSem nD τ sig} (hg : g ∈ (barCells ∪ scCells : Finset (GSem nD τ sig))) :
    records I κ ⊢ cellInv ER (Rd I) (κ g) g := by
  have h : (bigSep (barCells ∪ scCells) fun g => (cellInv ER (Rd I) (κ g) g : sProp 𝕄)) ⊢ cellInv ER (Rd I) (κ g) g := bigSep_elim hg
  unfold records
  iintro ⟨H, -⟩
  iapply h $$ H

theorem rec_bar (I : Dev nD → Inp F) (κ : GSem nD τ sig → ℕ) (c : Dev nD) :
    records I κ ⊢ cellInv ER (Rd I) (κ (barCell c)) (barCell c) := rec_inv I κ (bar_mem c)

theorem rec_cell (I : Dev nD → Inp F) (κ : GSem nD τ sig → ℕ) (k : Fin 4) (c : Dev nD) (s : Fin 7) :
    records I κ ⊢ cellInv ER (Rd I) (κ (cell k c s)) (cell k c s) := rec_inv I κ (cell_mem k c s)

theorem rec_reached (I : Dev nD → Inp F) (κ : GSem nD τ sig → ℕ) (c : Dev nD) :
    records I κ ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h $$ H

end Cert.Exchange

end
-- ==== Proof.Ops.lean ====
/-
# One operation of the exchange at a time

For each operation that takes part in the protocol — a signal, the wait on the barrier, a transfer of a slot, the
wait on one transfer — what it takes from the device and what it gives back.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program run by device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def owesX (c : Dev nD) (O : CellTallies nD τ sig Unit) : sProp 𝕄 := iprop(∃ W, owes (c : Thread nD τ) O W)

/-- What every device may consult. -/
def ctx (I : Dev nD → Inp F) (κ : GSem nD τ sig → ℕ) : sProp 𝕄 := iprop(records I κ ∗ levAts L lv)

instance ctx_persistent (I : Dev nD → Inp F) (κ : GSem nD τ sig → ℕ) : BI.Persistent (ctx I κ) := by
  unfold ctx; infer_instance

/-- What the signal to `peer c s` hands over, and the right to pay it. -/
def sigKit (c : Dev nD) (s : Fin 7) : sProp 𝕄 :=
  iprop(dutyTok ER (barCell (peer c s)) 0 s.rev ∗ (∃ f, rPts c s.rev f) ∗ (∃ f, gPts c s.rev f)
    ∗ reached ER (cell aR c s.rev) 0 ∗ reached ER (cell gR c s.rev) 0)

/-- The right to send slot `s` with the semaphores of the exchange, or of the gathering (`k` the send kind, `k'` the
    receive kind). -/
def payKit (k k' : Fin 4) (c : Dev nD) (s : Fin 7) : sProp 𝕄 :=
  iprop(dutyTok ER (cell k c s) 0 0 ∗ reached ER (cell k c s) 0 ∗ dutyTok ER (cell k' (peer c s) s) 0 0)

/-- The right to wait once on a transfer semaphore, but for the credit. -/
def posKit (k : Fin 4) (c : Dev nD) (s : Fin 7) : sProp 𝕄 := atPos ER (cell k c s) 0 ∅ 0
def credKit (k : Fin 4) (c : Dev nD) (s : Fin 7) : sProp 𝕄 := cred (tallyAt (cell k c s) () N)
/-- A transfer semaphore that has been waited for. -/
def doneKit (k : Fin 4) (c : Dev nD) (s : Fin 7) : sProp 𝕄 := atPos ER (cell k c s) 1 ∅ 0

theorem amount_r (s : Fin 7) (q : DmaSem sig) : (slotM rM s).view.amount (.dma q) = N := rfl
theorem amount_g (s : Fin 7) (q : DmaSem sig) : (slotM gM s).view.amount (.dma q) = N := rfl

section Ops
variable (I : Dev nD → Inp F) (κ : GSem nD τ sig → ℕ) (c : Dev nD)

theorem wp_sig (s : Fin 7) (b a g : List (Fin 7)) (n : Dev nD) (hn : n = peer c s) (z : ℤ) (hz : z = ((1 : ℕ) : ℤ))
    {α : Type} {Q : α → sProp 𝕄} {k : PUnit → Prog (TpuEff nD τ sig (Elt F) Λ₀ .tc) α} :
    iprop(ctx I κ ∗ owesX c (owed c (s :: b) a g) ∗ sigKit c s)
      ⊢ iprop((owesX c (owed c b a g) -∗ WP c (k ⟨⟩) Q) -∗ WP c (.op (.semSignal (n : Thread nD τ) barS z) k) Q) := by
  subst hn hz
  unfold ctx owesX sigKit
  iintro ⟨⟨#HR, -⟩, ⟨%W, HO⟩, Htok, Hr, Hg, Hra, Hrg⟩ Hk
  iapply (Rounds.wp_signal 𝒱₀ ER (Rd I) (c : Thread nD τ) none (dst := (peer c s : Thread nD τ)) (κ := κ (barCell (peer c s)))
      (d := s.rev) (by rw [duties_bar]; exact Finset.mem_univ _) (amount_bar I (peer c s) s.rev) () (owed c b a g) (owed_payB c s b a g))
    $$ [HO Htok Hr Hg Hra Hrg]
  · isplitr; · iapply (rec_bar I κ (peer c s)) $$ HR
    isplitl [HO]; · iexact HO
    isplitl [Htok]; · iexact Htok
    isplitl [Hr Hg Hra Hrg]
    · rw [payload_bar]; unfold barPay; rw [peer_rev]
      isplitl [Hr]; · iexact Hr
      isplitl [Hg]; · iexact Hg
      isplitl [Hra]; · iexact Hra
      iexact Hrg
    · iapply (rec_reached I κ (peer c s)) $$ HR
  iintro HO
  iapply Hk
  iexists W
  iexact HO

theorem wp_waitBar (a g : List (Fin 7)) (z : ℤ) (hz : z = ((7 : ℕ) : ℤ))
    {α : Type} {Q : α → sProp 𝕄} {k : PUnit → Prog (TpuEff nD τ sig (Elt F) Λ₀ .tc) α} :
    iprop(ctx I κ ∗ owesX c (owed c [] a g) ∗ cred (tallyAt (barCell c) () 7) ∗ atPos ER (barCell c) 0 ∅ 0)
      ⊢ iprop(((owesX c (owed c [] a g) ∗ atPos ER (barCell c) 1 ∅ 0 ∗ bigSep Finset.univ (fun d : Fin 7 => (barPay c d : sProp 𝕄)))
          -∗ WP c (k ⟨⟩) Q) -∗ WP c (.op (.semWait barS z) k) Q) := by
  subst hz
  unfold ctx owesX
  iintro ⟨⟨#HR, #HL⟩, ⟨%W, HO⟩, Hc, Hat⟩ Hk
  iapply (Rounds.wp_wait_rest_token 𝒱₀ ER (Rd I) (c : Thread nD τ) none (κ := κ (barCell c))
      (wpE_semWait_eq 𝒱₀ (c : Thread nD τ) none Set.univ) (Set.mem_univ _) () (O := owed c [] a g) (W := W) (R := 0) (m := 0) (T := ∅)
      ((Nat.zero_add _).trans (expect_bar I c).symm)) $$ [Hc HO Hat]
  · isplitr; · iapply (rec_bar I κ c) $$ HR
    isplitl [Hc]; · iexact Hc
    isplitl [HO]; · iexact HO
    isplitr; · iapply (mayWait_of c (.reg barS) 1 [] a g rfl (.inl rfl) (.inr (by decide)) (by decide)); iexact HL
    iexact Hat
  iintro ⟨HO, Hat, -, Hpay⟩
  iapply Hk
  isplitl [HO]; · iexists _; iexact HO
  isplitl [Hat]; · iexact Hat
  iapply (Entails.of_eq (rest_bar I c)) $$ Hpay

/-- A wait on one transfer semaphore, at a level below everything owed. -/
theorem wp_waitX (k : Fin 4) (s : Fin 7) (a g : List (Fin 7)) (n : ℕ) (hn : lvSem (.dma (dsem k s)) = n)
    (ha : a = [] ∨ n < 2) (hg : n < 3 ∨ g = []) (q : DmaSem sig) (hq : q = dsem k s)
    {src dst : Memref sig .tc .vmem S2x64x768 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(ctx I κ ∗ owesX c (owed c [] a g) ∗ credKit k c s ∗ posKit k c s)
      ⊢ iprop(((owesX c (owed c [] a g) ∗ doneKit k c s ∗ xferPay I k c s)
          -∗ WP c (kk ⟨⟩) Q) -∗ WP c (.op (.waitDma2 q src dst hsrc hdst) kk) Q) := by
  subst hq
  unfold ctx owesX credKit posKit doneKit
  iintro ⟨⟨#HR, #HL⟩, ⟨%W, HO⟩, Hc, Hat⟩ Hk
  iapply (Rounds.wp_wait_rest_token 𝒱₀ ER (Rd I) (c : Thread nD τ) none (κ := κ (cell k c s))
      (wpE_waitDma2_eq 𝒱₀ (c : Thread nD τ) none Set.univ) (Set.mem_univ _) () (O := owed c [] a g) (W := W) (R := 0) (m := 0) (T := ∅)
      (by rw [Nat.zero_add, hN, expect_xfer])) $$ [Hc HO Hat]
  · isplitr; · iapply (rec_cell I κ k c s) $$ HR
    isplitl [Hc]; · rw [hN]; iexact Hc
    isplitl [HO]; · iexact HO
    isplitr
    · rcases hg with hg | rfl
      · iapply (mayWait_of c (.dma (dsem k s)) n [] a g hn (.inl rfl) ha hg); iexact HL
      · rcases ha with rfl | ha
        · rw [owed_nil, MayWait_zero]; iempintro
        · iapply (mayWait_of c (.dma (dsem k s)) n [] a [] hn (.inl rfl) (.inr ha) (by omega)); iexact HL
    iexact Hat
  iintro ⟨HO, Hat, -, Hpay⟩
  iapply Hk
  isplitl [HO]; · iexists _; iexact HO
  isplitl [Hat]; · iexact Hat
  iapply (Entails.of_eq (rest_xfer I c s k)) $$ Hpay

theorem mem_duties (k : Fin 4) (c : Dev nD) (s : Fin 7) : (0 : Fin 7) ∈ (Rd (F := F) I).duties (cell k c s) 0 := by
  rw [duties_xfer]; exact Finset.mem_singleton_self _

/-- The transfer of one slot of the send buffer. -/
theorem wp_sendA (s : Fin 7) (a g : List (Fin 7)) (n : Dev nD) (hn : n = peer c s) (q q' : DmaSem sig) (hq : q = dsem aS s) (hq' : q' = dsem aR s)
    (fd : Vec F S7x2x64x768 .bf16)
    {hsrc : (slotM sM s).view.WordExact} {hdst : (slotM rM s).view.WordExact} {hsc : (slotM rM s).view.ref.isScScratch = false}
    {hsem : DmaTarget.Typed .vmem (.dma q') (.remote (n : Thread nD τ) (slotM rM s) (.dma q) hsc)}
    {α : Type} {Q : α → sProp 𝕄} {kk : PUnit → Prog (TpuEff nD τ sig (Elt F) Λ₀ .tc) α} :
    iprop(ctx I κ ∗ owesX c (owed c [] (s :: a) g) ∗ sPts c s (sendC I c) ∗ rPts (peer c s) s fd ∗ payKit aS aR c s ∗ reached ER (cell aR (peer c s) s) 0)
      ⊢ iprop(((owesX c (owed c [] a g) ∗ credKit aS c s) -∗ WP c (kk ⟨⟩) Q)
          -∗ WP c (.op (.enqueueDma (slotM sM s) (.remote (n : Thread nD τ) (slotM rM s) (.dma q) hsc) (.dma q') hsrc hdst hsem) kk) Q) := by
  subst hn hq hq'
  unfold ctx owesX payKit credKit
  iintro ⟨⟨#HR, -⟩, ⟨%W, HO⟩, Hs, Hd, ⟨Ht, Hr, Ht'⟩, Hr'⟩ Hk
  iapply (Rounds.wp_send_pointsTo 𝒱₀ ER (Rd I) (c : Thread nD τ) none (κ₁ := κ (cell aS c s)) (κ₂ := κ (cell aR (peer c s) s))
      (r₁ := 0) (r₂ := 0) (d₁ := 0) (d₂ := 0) (q := fullShare) (fs := sendC I c) (fd := fd)
      (mem_duties I aS c s) (mem_duties I aR (peer c s) s) () () N (amount_r s _) (amount_xfer I c s aS 0) (amount_xfer I (peer c s) s aR 0)
      (owed c [] a g) (owed_payA c s [] a g) (W := W)
      (by rw [payload_xfer, slot_set_s]; exact Entails.rfl)
      (by
        rw [payload_xfer, slot_set_r]
        show _ ⊢ rPts (peer c s) s (recvC I (peer c s))
        unfold rPts
        refine Entails.of_eq (pointsTo_congr fun i hi => ?_)
        refine (landed_r fd (sendC I c) s i hi).trans ?_
        obtain ⟨b, r, e, rfl⟩ := exists_of_mem_slot hi
        show partV I c s b _ = partV I (orig (peer c s) s) s b _
        rw [orig_peer])) $$ [HO Hs Hd Ht Hr Ht' Hr']
  · isplitr; · iapply (rec_cell I κ aS c s) $$ HR
    isplitr; · iapply (rec_cell I κ aR (peer c s) s) $$ HR
    isplitl [Hs]; · rw [slot_set_s]; unfold sPts; iexact Hs
    isplitl [Hd]; · rw [slot_set_r]; unfold rPts; iexact Hd
    isplitl [HO]; · iexact HO
    isplitl [Ht]; · iexact Ht
    isplitl [Hr]; · iexact Hr
    isplitl [Ht']; · iexact Ht'
    iexact Hr'
  iintro ⟨Hc, HO⟩
  iapply Hk
  isplitl [HO]; · iexists _; iexact HO
  iexact Hc

/-- The transfer of the finished chunk to one device. -/
theorem wp_sendG (s : Fin 7) (g : List (Fin 7)) (n : Dev nD) (hn : n = peer c s) (q q' : DmaSem sig) (hq : q = dsem gS s) (hq' : q' = dsem gR s)
    (fd : Vec F S7x2x64x768 .bf16)
    {hsrc : rowM.view.WordExact} {hdst : (slotM gM s).view.WordExact} {hsc : (slotM gM s).view.ref.isScScratch = false}
    {hsem : DmaTarget.Typed .vmem (.dma q') (.remote (n : Thread nD τ) (slotM gM s) (.dma q) hsc)}
    {α : Type} {Q : α → sProp 𝕄} {kk : PUnit → Prog (TpuEff nD τ sig (Elt F) Λ₀ .tc) α} :
    iprop(ctx I κ ∗ owesX c (owed c [] [] (s :: g)) ∗ rowPts (rowShare s) c (rowsC I c) ∗ gPts (peer c s) s fd ∗ payKit gS gR c s ∗ reached ER (cell gR (peer c s) s) 0)
      ⊢ iprop(((owesX c (owed c [] [] g) ∗ credKit gS c s) -∗ WP c (kk ⟨⟩) Q)
          -∗ WP c (.op (.enqueueDma rowM (.remote (n : Thread nD τ) (slotM gM s) (.dma q) hsc) (.dma q') hsrc hdst hsem) kk) Q) := by
  subst hn hq hq'
  unfold ctx owesX payKit credKit
  iintro ⟨⟨#HR, -⟩, ⟨%W, HO⟩, Hs, Hd, ⟨Ht, Hr, Ht'⟩, Hr'⟩ Hk
  iapply (Rounds.wp_send_pointsTo 𝒱₀ ER (Rd I) (c : Thread nD τ) none (κ₁ := κ (cell gS c s)) (κ₂ := κ (cell gR (peer c s) s))
      (r₁ := 0) (r₂ := 0) (d₁ := 0) (d₂ := 0) (q := rowShare s) (fs := rowsC I c) (fd := fd)
      (mem_duties I gS c s) (mem_duties I gR (peer c s) s) () () N (amount_g s _) (amount_xfer I c s gS 0) (amount_xfer I (peer c s) s gR 0)
      (owed c [] [] g) (owed_payG c s [] [] g) (W := W)
      (by rw [payload_xfer, View.set_whole]; exact Entails.rfl)
      (by
        rw [payload_xfer, slot_set_g]
        show _ ⊢ gPts (peer c s) s (gathC I (peer c s))
        unfold gPts
        refine Entails.of_eq (pointsTo_congr fun i hi => ?_)
        refine (landed_g fd (rowsC I c) s i hi).trans ?_
        obtain ⟨b, r, e, rfl⟩ := exists_of_mem_slot hi
        show rowsC I c _ = rowsC I (orig (peer c s) s) _
        rw [orig_peer])) $$ [HO Hs Hd Ht Hr Ht' Hr']
  · isplitr; · iapply (rec_cell I κ gS c s) $$ HR
    isplitr; · iapply (rec_cell I κ gR (peer c s) s) $$ HR
    isplitl [Hs]; · rw [View.set_whole]; unfold rowPts; iexact Hs
    isplitl [Hd]; · rw [slot_set_g]; unfold gPts; iexact Hd
    isplitl [HO]; · iexact HO
    isplitl [Ht]; · iexact Ht
    isplitl [Hr]; · iexact Hr
    isplitl [Ht']; · iexact Ht'
    iexact Hr'
  iintro ⟨Hc, HO⟩
  iapply Hk
  isplitl [HO]; · iexists _; iexact HO
  iexact Hc

end Ops

end Cert.Exchange

end
-- ==== Proof.Boxes.lean ====
/-
# Loads and stores of boxes

Every load and store of the kernel goes through a box of a whole buffer: an offset and sizes. First, what such an
access reads and writes, element by element; then one lemma for each kind of access of the kernel, with the contents
named as in `Content`.
-/
module

public import proofs.«01_k».proof.Proof.Ops

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Element by element -/

section Elts
variable {b : Ref sig .tc}

theorem readBox (off size : Fin b.ty.shape.rank → Nat) (inb : ∀ a, off a + size a ≤ b.ty.shape.size a)
    (f : b.ty.Contents (Elt F)) (x : (Rect.unit off size inb).shape.Idx) (i : b.ty.shape.Idx)
    (h : ∀ a, (i a).val = off a + (x a).val) :
    (Memref.whole b : Memref sig .tc _ _ _).view.readAt (Elt F) (Rect.unit off size inb).toLoadRect f x = f i := by
  have e : (Rect.unit off size inb).toLoadRect.idx x = i := by
    funext a
    apply Fin.ext
    rw [LoadRect.idx_apply, h a]
    show off a + 1 * _ = _
    rw [Nat.one_mul]
  rw [View.readAt_apply, e]
  rfl

theorem emb_unit (off size : Fin b.ty.shape.rank → Nat) (inb : ∀ a, off a + size a ≤ b.ty.shape.size a)
    (x : (Rect.unit off size inb).shape.Idx) (i : b.ty.shape.Idx) (h : ∀ a, (i a).val = off a + (x a).val) :
    ((Memref.whole b : Memref sig .tc _ _ _).access (Rect.unit off size inb)).emb x = i := by
  show (Rect.unit off size inb).emb x = i
  funext a
  apply Fin.ext
  rw [Rect.emb_apply, h a]
  show off a + 1 * _ = _
  rw [Nat.one_mul]

theorem writeBox_in (off size : Fin b.ty.shape.rank → Nat) (inb : ∀ a, off a + size a ≤ b.ty.shape.size a)
    (f : b.ty.Contents (Elt F)) (w : (Rect.unit off size inb).shape.Idx → Elt F b.ty.elt)
    (x : (Rect.unit off size inb).shape.Idx) (i : b.ty.shape.Idx) (h : ∀ a, (i a).val = off a + (x a).val) :
    ((Memref.whole b : Memref sig .tc _ _ _).access (Rect.unit off size inb)).write (Elt F) f w Finset.univ i = w x := by
  have e := View.write_emb_of_mem (v := ((Memref.whole b : Memref sig .tc _ _ _).access (Rect.unit off size inb))) (Val := Elt F)
    f w (M := Finset.univ) (x := x) (Finset.mem_univ _)
  rw [emb_unit off size inb x i h] at e
  exact e

theorem writeBox_out (off size : Fin b.ty.shape.rank → Nat) (inb : ∀ a, off a + size a ≤ b.ty.shape.size a)
    (f : b.ty.Contents (Elt F)) (w : (Rect.unit off size inb).shape.Idx → Elt F b.ty.elt)
    (i : b.ty.shape.Idx) (a : Fin b.ty.shape.rank) (h : (i a).val < off a ∨ off a + size a ≤ (i a).val) :
    ((Memref.whole b : Memref sig .tc _ _ _).access (Rect.unit off size inb)).write (Elt F) f w Finset.univ i = f i := by
  refine View.write_of_not_mem _ _ _ fun hm => ?_
  rw [View.setOn_univ] at hm
  have hm' : i ∈ (Rect.unit off size inb).set := by
    rw [View.set_slice_whole] at hm
    exact hm
  rw [Rect.mem_set_unit] at hm'
  have := hm' a
  omega

end Elts

/-! ## Whole buffers and parts of them -/

/-- A whole buffer of device `c`, owned. -/
def buf (c : Dev nD) {s : Shape} {e : EltTy} (m : Memref sig .tc .vmem s e) (f : Buf (Elt F) (m.view.loc (c : Thread nD τ))) : sProp 𝕄 :=
  (m.view.loc (c : Thread nD τ) ↦{fullShare} f)

section Acc
variable (I : Dev nD → Inp F) (c : Dev nD)

/-- A load, its value given. -/
theorem ld {s : Shape} {e : EltTy} (m : Memref sig .tc .vmem s e) (r : LoadRect s) (f : Buf (Elt F) (m.view.loc (c : Thread nD τ)))
    (v : r.shape.Idx → Elt F e) (hv : m.view.readAt (Elt F) r f = v)
    {hl : m.view.LoadsAt r} {α : Type} {Q : α → sProp 𝕄} {k : (r.shape.Idx → Elt F e) → Prog (TpuEff nD τ sig (Elt F) Λ₀ .tc) α} :
    buf c m f ⊢ iprop((buf c m f -∗ WP c (k v) Q) -∗ WP c (.op (.load m r hl) k) Q) := by
  subst hv
  unfold buf
  iintro H Hk
  iapply (wp_load 𝒱₀ (c : Thread nD τ) none Set.univ (m := m) (S := Finset.univ) (f := f) (Finset.subset_univ _)) $$ H
  iexact Hk

/-- A store, the contents it leaves given. -/
theorem st {s : Shape} {e : EltTy} (m : Memref sig .tc .vmem s e) (r : Rect s) (f g : Buf (Elt F) (m.view.loc (c : Thread nD τ)))
    (w : r.shape.Idx → Elt F e) (hg : (m.access r).write (Elt F) f w Finset.univ = g)
    {hx : (m.access r).Stores Finset.univ} {hm : Finset.univ = Finset.univ ∨ ∀ a, r.stride a = 1}
    {α : Type} {Q : α → sProp 𝕄} {k : PUnit → Prog (TpuEff nD τ sig (Elt F) Λ₀ .tc) α} :
    buf c m f ⊢ iprop((buf c m g -∗ WP c (k ⟨⟩) Q) -∗ WP c (.op (.store m r w Finset.univ hx hm) k) Q) := by
  subst hg
  unfold buf
  iintro H Hk
  iapply (wp_store 𝒱₀ (c : Thread nD τ) none Set.univ (m := m) (r := r) (S := Finset.univ) (f := f) (Finset.subset_univ _)) $$ H
  iexact Hk

/-! ## Projections, queries, keys and values -/

theorem rd_x (b : Fin 2) (inb) :
    xM.view.readAt (Elt F) (Rect.unit (s := S2x512x768) ![b.val, 0, 0] S1x512x768.size inb).toLoadRect (I c).x = xBox (I c) b := by
  funext x
  refine readBox (b := cc0_stg0_0) _ _ _ _ _ (ix3 b (x 1) (x 2)) fun a => ?_
  match a with
  | ⟨0, _⟩ => show b.val = b.val + (x 0).val; have : (x 0).val < 1 := (x 0).isLt; omega
  | ⟨1, _⟩ => show (x 1).val = 0 + (x 1).val; omega
  | ⟨2, _⟩ => show (x 2).val = 0 + (x 2).val; omega

theorem rd_q (b : Fin 2) (ch : Fin 8) (off : Fin 3 → Nat) (inb) (hoff : off = ![b.val, 64 * ch.val, 0]) :
    qM.view.readAt (Elt F) (Rect.unit (s := S2x512x512) off S1x64x512.size inb).toLoadRect (qC (I c)) = qBox (I c) b ch := by
  subst hoff
  funext x
  refine readBox (b := cc0_scratch2) _ _ _ _ _ (ix3 b (row ch (x 1)) (x 2)) fun a => ?_
  match a with
  | ⟨0, _⟩ => show b.val = b.val + (x 0).val; have : (x 0).val < 1 := (x 0).isLt; omega
  | ⟨1, _⟩ => show 64 * ch.val + (x 1).val = 64 * ch.val + (x 1).val; omega
  | ⟨2, _⟩ => show (x 2).val = 0 + (x 2).val; omega

theorem rd_k (b : Fin 2) (g : Fin 8) (off : Fin 4 → Nat) (inb) (hoff : off = ![b.val, 64 * g.val, 0, 0]) :
    kM.view.readAt (Elt F) (Rect.unit (s := S2x512x8x64) off S1x64x8x64.size inb).toLoadRect (I c).k = kvBox (I c).k b g := by
  subst hoff
  funext x
  refine readBox (b := cc0_stg2_0) _ _ _ _ _ (ix4 b (row g (x 1)) (x 2) (x 3)) fun a => ?_
  match a with
  | ⟨0, _⟩ => show b.val = b.val + (x 0).val; have : (x 0).val < 1 := (x 0).isLt; omega
  | ⟨1, _⟩ => show 64 * g.val + (x 1).val = 64 * g.val + (x 1).val; omega
  | ⟨2, _⟩ => show (x 2).val = 0 + (x 2).val; omega
  | ⟨3, _⟩ => show (x 3).val = 0 + (x 3).val; omega

theorem rd_v (b : Fin 2) (g : Fin 8) (off : Fin 4 → Nat) (inb) (hoff : off = ![b.val, 64 * g.val, 0, 0]) :
    vM.view.readAt (Elt F) (Rect.unit (s := S2x512x8x64) off S1x64x8x64.size inb).toLoadRect (I c).v = kvBox (I c).v b g := by
  subst hoff
  funext x
  refine readBox (b := cc0_stg3_0) _ _ _ _ _ (ix4 b (row g (x 1)) (x 2) (x 3)) fun a => ?_
  match a with
  | ⟨0, _⟩ => show b.val = b.val + (x 0).val; have : (x 0).val < 1 := (x 0).isLt; omega
  | ⟨1, _⟩ => show 64 * g.val + (x 1).val = 64 * g.val + (x 1).val; omega
  | ⟨2, _⟩ => show (x 2).val = 0 + (x 2).val; omega
  | ⟨3, _⟩ => show (x 3).val = 0 + (x 3).val; omega

theorem zero2 : (![0, 0] : Fin 2 → Nat) = fun _ => 0 := by funext a; fin_cases a <;> rfl
theorem zero3 : (![0, 0, 0] : Fin 3 → Nat) = fun _ => 0 := by funext a; fin_cases a <;> rfl

/-- The query buffer after the store of batch `b`. -/
def qHalf (f : Vec F S2x512x512 .bf16) : Prop := ∀ r e, f (ix3 (0 : Fin 2) r e) = qC (I c) (ix3 (0 : Fin 2) r e)

theorem wr_q0 (f : Vec F S2x512x512 .bf16) (inb) :
    qHalf I c ((qM.access (Rect.unit (s := S2x512x512) ![0, 0, 0] S1x512x512.size inb)).write (Elt F) f (qRow (I c) 0) Finset.univ) := by
  intro r e
  refine (writeBox_in (b := cc0_scratch2) _ _ _ f (qRow (I c) 0) (ix3 (0 : Fin 1) r e) _ fun a => ?_).trans rfl
  match a with
  | ⟨0, _⟩ => rfl
  | ⟨1, _⟩ => show r.val = 0 + r.val; omega
  | ⟨2, _⟩ => show e.val = 0 + e.val; omega

theorem wr_q1 (f : Vec F S2x512x512 .bf16) (hf : qHalf I c f) (inb) :
    (qM.access (Rect.unit (s := S2x512x512) ![1, 0, 0] S1x512x512.size inb)).write (Elt F) f (qRow (I c) 1) Finset.univ = qC (I c) := by
  funext i
  obtain ⟨b, r, e, rfl⟩ : ∃ (b : Fin 2) (r : Fin 512) (e : Fin 512), i = ix3 b r e := ⟨i 0, i 1, i 2, eq_ix3 i⟩
  match b with
  | 0 =>
    refine (writeBox_out (b := cc0_scratch2) _ _ _ f (qRow (I c) 1) _ (0 : Fin 3) ?_).trans (hf r e)
    left; show 0 < 1; omega
  | 1 =>
    refine (writeBox_in (b := cc0_scratch2) _ _ _ f (qRow (I c) 1) (ix3 (0 : Fin 1) r e) _ fun a => ?_).trans rfl
    match a with
    | ⟨0, _⟩ => rfl
    | ⟨1, _⟩ => show r.val = 0 + r.val; omega
    | ⟨2, _⟩ => show e.val = 0 + e.val; omega

/-! ## The accumulator -/

/-- The accumulator with its first batch at `n` received slots. -/
def accHalf (f : Vec F S2x64x768 .f32) : Prop := ∀ r e, f (ix3 (0 : Fin 2) r e) = accC I c 0 0 (ix3 (0 : Fin 2) r e)

theorem wr_acc (f : Vec F S2x64x768 .f32) (b : Fin 2) (w : FVec F S1x64x768 .f32) (g : Vec F S2x64x768 .f32) (inb)
    (h : ∀ r e, w (ix3 (0 : Fin 1) r e) = g (ix3 b r e)) (h' : ∀ b' r e, b' ≠ b → f (ix3 b' r e) = g (ix3 b' r e)) :
    (accM.access (Rect.unit (s := S2x64x768) ![b.val, 0, 0] S1x64x768.size inb)).write (Elt F) f w Finset.univ = g := by
  funext i
  obtain ⟨b', r, e, rfl⟩ : ∃ (b : Fin 2) (r : Fin 64) (e : Fin 768), i = ix3 b r e := ⟨i 0, i 1, i 2, eq_ix3 i⟩
  by_cases hb : b' = b
  · subst hb
    refine (writeBox_in (b := cc0_scratch5) _ _ _ f w (ix3 (0 : Fin 1) r e) _ fun a => ?_).trans (h r e)
    match a with
    | ⟨0, _⟩ => rfl
    | ⟨1, _⟩ => show r.val = 0 + r.val; omega
    | ⟨2, _⟩ => show e.val = 0 + e.val; omega
  · refine (writeBox_out (b := cc0_scratch5) _ _ _ f w _ (0 : Fin 3) ?_).trans (h' b' r e hb)
    have : b'.val ≠ b.val := fun h => hb (Fin.ext h)
    show b'.val < b.val ∨ b.val + 1 ≤ b'.val
    omega

theorem wr_own0 (f : Vec F S2x64x768 .f32) (w) (hw : w = ownV (I c) 0 (peer c 3) c) (inb) :
    accHalf I c ((accM.access (Rect.unit (s := S2x64x768) ![0, 0, 0] S1x64x768.size inb)).write (Elt F) f w Finset.univ) := by
  subst hw
  intro r e
  refine (writeBox_in (b := cc0_scratch5) _ _ _ f _ (ix3 (0 : Fin 1) r e) _ fun a => ?_).trans rfl
  match a with
  | ⟨0, _⟩ => rfl
  | ⟨1, _⟩ => show r.val = 0 + r.val; omega
  | ⟨2, _⟩ => show e.val = 0 + e.val; omega

theorem wr_own1 (f : Vec F S2x64x768 .f32) (hf : accHalf I c f) (w) (hw : w = ownV (I c) 1 (peer c 3) c) (inb) :
    (accM.access (Rect.unit (s := S2x64x768) ![1, 0, 0] S1x64x768.size inb)).write (Elt F) f w Finset.univ = accC I c 0 0 := by
  subst hw
  refine wr_acc f 1 _ _ inb (fun r e => rfl) fun b' r e hb => ?_
  match b' with
  | 0 => exact hf r e
  | 1 => exact absurd rfl hb

theorem wr_acc0 (n m : ℕ) (w) (hw : w = accB I c 0 (n + 1)) (inb) :
    (accM.access (Rect.unit (s := S2x64x768) ![0, 0, 0] S1x64x768.size inb)).write (Elt F) (accC I c n m) w Finset.univ = accC I c (n + 1) m := by
  subst hw
  refine wr_acc _ 0 _ _ inb (fun r e => rfl) fun b' r e hb => ?_
  match b' with
  | 0 => exact absurd rfl hb
  | 1 => rfl

theorem wr_acc1 (n m : ℕ) (w) (hw : w = accB I c 1 (m + 1)) (inb) :
    (accM.access (Rect.unit (s := S2x64x768) ![1, 0, 0] S1x64x768.size inb)).write (Elt F) (accC I c n m) w Finset.univ = accC I c n (m + 1) := by
  subst hw
  refine wr_acc _ 1 _ _ inb (fun r e => rfl) fun b' r e hb => ?_
  match b' with
  | 0 => rfl
  | 1 => exact absurd rfl hb

theorem rd_acc (f : Vec F S2x64x768 .f32) (b : Fin 2) (inb) :
    accM.view.readAt (Elt F) (Rect.unit (s := S2x64x768) ![b.val, 0, 0] S1x64x768.size inb).toLoadRect f
      = fun x : S1x64x768.Idx => f (ix3 b (x 1) (x 2)) := by
  funext x
  refine readBox (b := cc0_scratch5) _ _ _ _ _ (ix3 b (x 1) (x 2)) fun a => ?_
  match a with
  | ⟨0, _⟩ => show b.val = b.val + (x 0).val; have : (x 0).val < 1 := (x 0).isLt; omega
  | ⟨1, _⟩ => show (x 1).val = 0 + (x 1).val; omega
  | ⟨2, _⟩ => show (x 2).val = 0 + (x 2).val; omega

theorem rd_acc0 (n m : ℕ) (inb) :
    accM.view.readAt (Elt F) (Rect.unit (s := S2x64x768) ![0, 0, 0] S1x64x768.size inb).toLoadRect (accC I c n m) = accB I c 0 n := by
  refine (rd_acc (accC I c n m) 0 inb).trans ?_
  funext x
  obtain ⟨z, r, e, rfl⟩ : ∃ (z : Fin 1) (r : Fin 64) (e : Fin 768), x = ix3 z r e := ⟨x 0, x 1, x 2, eq_ix3 x⟩
  obtain rfl : z = 0 := Subsingleton.elim _ _
  rfl

theorem rd_acc1 (n m : ℕ) (inb) :
    accM.view.readAt (Elt F) (Rect.unit (s := S2x64x768) ![1, 0, 0] S1x64x768.size inb).toLoadRect (accC I c n m) = accB I c 1 m := by
  refine (rd_acc (accC I c n m) 1 inb).trans ?_
  funext x
  obtain ⟨z, r, e, rfl⟩ : ∃ (z : Fin 1) (r : Fin 64) (e : Fin 768), x = ix3 z r e := ⟨x 0, x 1, x 2, eq_ix3 x⟩
  obtain rfl : z = 0 := Subsingleton.elim _ _
  rfl

/-! ## The send, the receive and the gather buffer, slot by slot -/

theorem half_inb (s : Fin 7) (b : Fin 2) : ∀ a, (![s.val, b.val, 0, 0] : Fin 4 → Nat) a + S1x1x64x768.size a ≤ S7x2x64x768.size a := by
  revert s b; decide

theorem box_slot (s : Fin 7) (off : Fin 4 → Nat) (size : Fin 4 → Nat) (h0 : off 0 = s.val) (h1 : size 0 = 1) (inb : ∀ a, off a + size a ≤ S7x2x64x768.size a) :
    (Rect.unit (s := S7x2x64x768) off size inb).set ⊆ slotSet s := by
  intro i hi
  rw [Rect.mem_set_unit] at hi
  rw [mem_slotSet]
  have := hi 0
  rw [h0, h1] at this
  exact Fin.ext (le_antisymm (Nat.le_of_lt_succ this.2) this.1)

/-- The send slot `s`, owned, its first batch in place. -/
def sHalf (s : Fin 7) : sProp 𝕄 :=
  iprop(∃ f, ⌜∀ r e, f (ix4 s (0 : Fin 2) r e) = sendC I c (ix4 s (0 : Fin 2) r e)⌝ ∗ sPts c s f)

/-- A load from a send slot, whose value is not used. -/
theorem ld_s (s : Fin 7) (f : Vec F S7x2x64x768 .bf16) (off : Fin 4 → Nat) (h0 : off 0 = s.val) (inb)
    {hl : sM.view.LoadsAt (Rect.unit (s := S7x2x64x768) off S1x1x64x768.size inb).toLoadRect}
    {α : Type} {Q : α → sProp 𝕄} {k : (S1x1x64x768.Idx → Elt F .bf16) → Prog (TpuEff nD τ sig (Elt F) Λ₀ .tc) α} :
    sPts c s f ⊢ iprop((∀ v, sPts c s f -∗ WP c (k v) Q)
      -∗ WP c (.op (.load sM (Rect.unit (s := S7x2x64x768) off S1x1x64x768.size inb).toLoadRect hl) k) Q) := by
  unfold sPts
  iintro H Hk
  iapply (wp_load 𝒱₀ (c : Thread nD τ) none Set.univ (m := sM) (S := slotSet s) (f := f)
    (by rw [show sM.view.setOn _ = _ from Finset.map_refl]; exact box_slot s off _ h0 rfl inb)) $$ H
  iintro H
  iapply Hk
  iexact H

theorem st_s0 (s : Fin 7) (off : Fin 4 → Nat) (hoff : off = ![s.val, 0, 0, 0]) (w : FVec F S1x1x64x768 .bf16) (hw : w = partV I c s 0) (inb)
    {hx} {hm : Finset.univ = Finset.univ ∨ ∀ a, (Rect.unit (s := S7x2x64x768) off S1x1x64x768.size inb).stride a = 1}
    {α : Type} {Q : α → sProp 𝕄} {k : PUnit → Prog (TpuEff nD τ sig (Elt F) Λ₀ .tc) α} (f : Vec F S7x2x64x768 .bf16) :
    sPts c s f ⊢ iprop((sHalf I c s -∗ WP c (k ⟨⟩) Q)
      -∗ WP c (.op (.store sM (Rect.unit (s := S7x2x64x768) off S1x1x64x768.size inb) w Finset.univ hx hm) k) Q) := by
  subst hoff hw
  unfold sHalf sPts
  iintro H Hk
  iapply (wp_store 𝒱₀ (c : Thread nD τ) none Set.univ (m := sM) (r := Rect.unit (s := S7x2x64x768) _ S1x1x64x768.size inb) (S := slotSet s) (f := f)
    (by rw [View.setOn_univ, View.set_slice_whole]; exact box_slot s _ _ rfl rfl inb)) $$ H
  iintro H
  iapply Hk
  iexists _
  isplitr
  rotate_left
  · iexact H
  ipureintro
  intro r e
  refine (writeBox_in (b := cc0_scratch3) _ _ _ f _ (ix4 (0 : Fin 1) (0 : Fin 1) r e) _ fun a => ?_).trans rfl
  match a with
  | ⟨0, _⟩ => rfl
  | ⟨1, _⟩ => rfl
  | ⟨2, _⟩ => show r.val = 0 + r.val; omega
  | ⟨3, _⟩ => show e.val = 0 + e.val; omega

theorem st_s1 (s : Fin 7) (off : Fin 4 → Nat) (hoff : off = ![s.val, 1, 0, 0]) (w : FVec F S1x1x64x768 .bf16) (hw : w = partV I c s 1) (inb)
    {hx} {hm : Finset.univ = Finset.univ ∨ ∀ a, (Rect.unit (s := S7x2x64x768) off S1x1x64x768.size inb).stride a = 1}
    {α : Type} {Q : α → sProp 𝕄} {k : PUnit → Prog (TpuEff nD τ sig (Elt F) Λ₀ .tc) α} (f : Vec F S7x2x64x768 .bf16)
    (hf : ∀ r e, f (ix4 s (0 : Fin 2) r e) = sendC I c (ix4 s (0 : Fin 2) r e)) :
    sPts c s f ⊢ iprop((sPts c s (sendC I c) -∗ WP c (k ⟨⟩) Q)
      -∗ WP c (.op (.store sM (Rect.unit (s := S7x2x64x768) off S1x1x64x768.size inb) w Finset.univ hx hm) k) Q) := by
  subst hoff hw
  unfold sPts
  iintro H Hk
  iapply (wp_store 𝒱₀ (c : Thread nD τ) none Set.univ (m := sM) (r := Rect.unit (s := S7x2x64x768) _ S1x1x64x768.size inb) (S := slotSet s) (f := f)
    (by rw [View.setOn_univ, View.set_slice_whole]; exact box_slot s _ _ rfl rfl inb)) $$ H
  iintro H
  iapply Hk
  iapply (Entails.of_eq (pointsTo_congr fun i hi => ?_)) $$ H
  obtain ⟨b, r, e, rfl⟩ := exists_of_mem_slot hi
  match b with
  | 0 =>
    refine (writeBox_out (b := cc0_scratch3) _ _ _ f _ _ (1 : Fin 4) ?_).trans (hf r e)
    left; show 0 < 1; omega
  | 1 =>
    refine (writeBox_in (b := cc0_scratch3) _ _ _ f _ (ix4 (0 : Fin 1) (0 : Fin 1) r e) _ fun a => ?_).trans rfl
    match a with
    | ⟨0, _⟩ => rfl
    | ⟨1, _⟩ => rfl
    | ⟨2, _⟩ => show r.val = 0 + r.val; omega
    | ⟨3, _⟩ => show e.val = 0 + e.val; omega

/-- One batch of a received slot. -/
theorem ld_r (s : Fin 7) (b : Fin 2) (off : Fin 4 → Nat) (hoff : off = ![s.val, b.val, 0, 0]) (inb)
    {hl : rM.view.LoadsAt (Rect.unit (s := S7x2x64x768) off S1x1x64x768.size inb).toLoadRect}
    {α : Type} {Q : α → sProp 𝕄} {k : (S1x1x64x768.Idx → Elt F .bf16) → Prog (TpuEff nD τ sig (Elt F) Λ₀ .tc) α} :
    rPts c s (recvC I c) ⊢ iprop((rPts c s (recvC I c) -∗ WP c (k (partV I (orig c s) s b)) Q)
      -∗ WP c (.op (.load rM (Rect.unit (s := S7x2x64x768) off S1x1x64x768.size inb).toLoadRect hl) k) Q) := by
  subst hoff
  have hv : rM.view.readAt (Elt F) (Rect.unit (s := S7x2x64x768) ![s.val, b.val, 0, 0] S1x1x64x768.size inb).toLoadRect (recvC I c)
      = partV I (orig c s) s b := by
    funext x
    obtain ⟨z, z', r, e, rfl⟩ : ∃ (z z' : Fin 1) (r : Fin 64) (e : Fin 768), x = ix4 z z' r e := ⟨x 0, x 1, x 2, x 3, eq_ix4 x⟩
    obtain rfl : z = 0 := Subsingleton.elim _ _
    obtain rfl : z' = 0 := Subsingleton.elim _ _
    refine (readBox (b := cc0_scratch4) _ _ _ _ _ (ix4 s b r e) fun a => ?_).trans rfl
    match a with
    | ⟨0, _⟩ => rfl
    | ⟨1, _⟩ => rfl
    | ⟨2, _⟩ => show r.val = 0 + r.val; omega
    | ⟨3, _⟩ => show e.val = 0 + e.val; omega
  unfold rPts
  rw [← hv]
  iintro H Hk
  iapply (wp_load 𝒱₀ (c : Thread nD τ) none Set.univ (m := rM) (S := slotSet s) (f := recvC I c)
    (by rw [show rM.view.setOn _ = _ from Finset.map_refl]; exact box_slot s _ _ rfl rfl inb)) $$ H
  iexact Hk

/-- A gathered slot. -/
theorem ld_g (s : Fin 7) (off : Fin 4 → Nat) (hoff : off = ![s.val, 0, 0, 0]) (inb)
    {hl : gM.view.LoadsAt (Rect.unit (s := S7x2x64x768) off S1x2x64x768.size inb).toLoadRect}
    {α : Type} {Q : α → sProp 𝕄} {k : (S1x2x64x768.Idx → Elt F .bf16) → Prog (TpuEff nD τ sig (Elt F) Λ₀ .tc) α} :
    gPts c s (gathC I c) ⊢ iprop((gPts c s (gathC I c) -∗ WP c (k fun i => rowsC I (orig c s) (ix3 (i 1) (i 2) (i 3))) Q)
      -∗ WP c (.op (.load gM (Rect.unit (s := S7x2x64x768) off S1x2x64x768.size inb).toLoadRect hl) k) Q) := by
  subst hoff
  have hv : gM.view.readAt (Elt F) (Rect.unit (s := S7x2x64x768) ![s.val, 0, 0, 0] S1x2x64x768.size inb).toLoadRect (gathC I c)
      = fun i : S1x2x64x768.Idx => rowsC I (orig c s) (ix3 (i 1) (i 2) (i 3)) := by
    funext x
    obtain ⟨z, b, r, e, rfl⟩ : ∃ (z : Fin 1) (b : Fin 2) (r : Fin 64) (e : Fin 768), x = ix4 z b r e := ⟨x 0, x 1, x 2, x 3, eq_ix4 x⟩
    obtain rfl : z = 0 := Subsingleton.elim _ _
    refine (readBox (b := cc0_scratch7) _ _ _ _ _ (ix4 s b r e) fun a => ?_).trans rfl
    match a with
    | ⟨0, _⟩ => rfl
    | ⟨1, _⟩ => show b.val = 0 + b.val; omega
    | ⟨2, _⟩ => show r.val = 0 + r.val; omega
    | ⟨3, _⟩ => show e.val = 0 + e.val; omega
  unfold gPts
  rw [← hv]
  iintro H Hk
  iapply (wp_load 𝒱₀ (c : Thread nD τ) none Set.univ (m := gM) (S := slotSet s) (f := gathC I c)
    (by rw [show gM.view.setOn _ = _ from Finset.map_refl]; exact box_slot s _ _ rfl rfl inb)) $$ H
  iexact Hk

/-! ## The result -/

theorem chunk_of_row (d : Dev nD) (r : Fin 64) : chunkOf (row d r) = d := by
  apply Fin.ext
  show (64 * d.val + r.val) / 64 = d.val
  omega
theorem place_of_row (d : Dev nD) (r : Fin 64) : inChunk (row d r) = r := by
  apply Fin.ext
  show (64 * d.val + r.val) % 64 = r.val
  omega
theorem row_chunk (r : Fin 512) : row (chunkOf r) (inChunk r) = r := by
  apply Fin.ext
  show 64 * (r.val / 64) + r.val % 64 = r.val
  omega

theorem wr_out (f g : Vec F S2x512x768 .f32) (d : Dev nD) (w : FVec F S2x64x768 .f32) (off : Fin 3 → Nat) (hoff : off = ![0, 64 * d.val, 0]) (inb)
    (h : ∀ b r e, w (ix3 b r e) = g (ix3 b (row d r) e)) (h' : ∀ b r e, chunkOf r ≠ d → f (ix3 b r e) = g (ix3 b r e)) :
    (oM.access (Rect.unit (s := S2x512x768) off S2x64x768.size inb)).write (Elt F) f w Finset.univ = g := by
  subst hoff
  funext i
  obtain ⟨b, r, e, rfl⟩ : ∃ (b : Fin 2) (r : Fin 512) (e : Fin 768), i = ix3 b r e := ⟨i 0, i 1, i 2, eq_ix3 i⟩
  by_cases hr : chunkOf r = d
  · subst hr
    have := h b (inChunk r) e
    rw [row_chunk] at this
    refine (writeBox_in (b := cc0_stg5_0) _ _ _ f w (ix3 b (inChunk r) e) _ fun a => ?_).trans this
    match a with
    | ⟨0, _⟩ => show b.val = 0 + b.val; omega
    | ⟨1, _⟩ => show r.val = 64 * (r.val / 64) + r.val % 64; omega
    | ⟨2, _⟩ => show e.val = 0 + e.val; omega
  · refine (writeBox_out (b := cc0_stg5_0) _ _ _ f w _ (1 : Fin 3) ?_).trans (h' b r e hr)
    have : r.val / 64 ≠ d.val := fun h => hr (Fin.ext h)
    show r.val < 64 * d.val ∨ 64 * d.val + 64 ≤ r.val
    omega

theorem wr_out_own (f : Vec F S2x512x768 .f32) (off : Fin 3 → Nat) (hoff : off = ![0, 64 * c.val, 0]) (inb) :
    (oM.access (Rect.unit (s := S2x512x768) off S2x64x768.size inb)).write (Elt F) f (doneC I c) Finset.univ = outP I c f 0 := by
  refine wr_out f _ c _ off hoff inb (fun b r e => ?_) fun b r e hr => ?_
  · symm
    show (if chunkOf (row c r) = c then doneC I c (ix3 b (inChunk (row c r)) e) else _) = _
    rw [chunk_of_row, place_of_row, if_pos rfl]
  · symm
    show (if chunkOf r = c then _ else if _ then _ else f (ix3 b r e)) = _
    rw [if_neg hr, if_neg]
    rintro ⟨s, hs, -⟩
    exact absurd hs (Nat.not_lt_zero _)

theorem orig_ne (c : Dev nD) (s : Fin 7) : orig c s ≠ c := by revert c s; decide

theorem wr_out_slot (f : Vec F S2x512x768 .f32) (s : Fin 7) (n : ℕ) (hn : n = s.val) (w) (hw : w = chunkV I (orig c s)) (off : Fin 3 → Nat) (hoff : off = ![0, 64 * (orig c s).val, 0]) (inb) :
    (oM.access (Rect.unit (s := S2x512x768) off S2x64x768.size inb)).write (Elt F) (outP I c f n) w Finset.univ = outP I c f (n + 1) := by
  subst hn hw
  refine wr_out _ _ (orig c s) _ off hoff inb (fun b r e => ?_) fun b r e hr => ?_
  · symm
    show (if chunkOf (row (orig c s) r) = c then _ else if (∃ s' : Fin 7, s'.val < s.val + 1 ∧ chunkOf (row (orig c s) r) = orig c s') then
      chunkV I (chunkOf (row (orig c s) r)) (ix3 b (inChunk (row (orig c s) r)) e) else _) = _
    rw [chunk_of_row, place_of_row, if_neg (orig_ne c s), if_pos ⟨s, Nat.lt_succ_self _, rfl⟩]
  · show (if chunkOf r = c then _ else if (∃ s' : Fin 7, s'.val < s.val ∧ chunkOf r = orig c s') then _ else _) =
      (if chunkOf r = c then _ else if (∃ s' : Fin 7, s'.val < s.val + 1 ∧ chunkOf r = orig c s') then _ else _)
    have : (∃ s' : Fin 7, s'.val < s.val ∧ chunkOf r = orig c s') ↔ (∃ s' : Fin 7, s'.val < s.val + 1 ∧ chunkOf r = orig c s') := by
      constructor
      · rintro ⟨s', h1, h2⟩; exact ⟨s', by omega, h2⟩
      · rintro ⟨s', h1, h2⟩
        refine ⟨s', ?_, h2⟩
        rcases Nat.lt_or_ge s'.val s.val with h | h
        · exact h
        · exact absurd (h2.trans (by rw [show s' = s from Fin.ext (by omega)])) hr
    simp only [this]

end Acc

end Cert.Exchange

end
-- ==== Proof.Steps.lean ====
/-
# The steps of the kernel body, in the form in which its parts use them

The offsets the kernel computes are those of the chunks named in `Content`; the payloads of its eight computations of
attention, which the compiled program cuts differently, are the same function; and the accesses of whole buffers and
of slots.
-/
module

public import proofs.«01_k».proof.Proof.Boxes

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Offsets -/

section Off
variable (c : Dev nD)

theorem vec3 {x a b : ℕ} (h : a = b) : (![x, a, 0] : Fin 3 → ℕ) = ![x, b, 0] := by rw [h]
theorem vec4 {x a b : ℕ} (h : a = b) : (![x, a, 0, 0] : Fin 4 → ℕ) = ![x, b, 0, 0] := by rw [h]

theorem o1 (r : Fin 4) (s : Fin 7) (hs : s.val = r.val) : k0_off1 c (BitVec.ofNat 32 (1 + r.val)) = ![(0 : Fin 2).val, 64 * (peer c s).val, 0] :=
  (k0_off1_eq c r).trans (vec3 (by show 64 * ((c.val + r.val + 1) % 8) = 64 * ((c.val + (s.val + 1)) % 8); rw [hs, Nat.add_assoc]))
theorem o5 (r : Fin 4) (s : Fin 7) (hs : s.val = r.val) : k0_off5 c (BitVec.ofNat 32 (1 + r.val)) = ![(1 : Fin 2).val, 64 * (peer c s).val, 0] :=
  (k0_off5_eq c r).trans (vec3 (by show 64 * ((c.val + r.val + 1) % 8) = 64 * ((c.val + (s.val + 1)) % 8); rw [hs, Nat.add_assoc]))
theorem o2 (r : Fin 3) (s : Fin 7) (hs : s.val = r.val) : k0_off2 c (BitVec.ofNat 32 (1 + r.val)) = ![(0 : Fin 2).val, 64 * (opp (peer c s)).val, 0] :=
  (k0_off2_eq c r).trans (vec3 (by show 64 * ((c.val + r.val + 5) % 8) = 64 * (((c.val + (s.val + 1)) % 8 + 4) % 8); rw [hs]; omega))
theorem o6 (r : Fin 3) (s : Fin 7) (hs : s.val = r.val) : k0_off6 c (BitVec.ofNat 32 (1 + r.val)) = ![(1 : Fin 2).val, 64 * (opp (peer c s)).val, 0] :=
  (k0_off6_eq c r).trans (vec3 (by show 64 * ((c.val + r.val + 5) % 8) = 64 * (((c.val + (s.val + 1)) % 8 + 4) % 8); rw [hs]; omega))
theorem o3 (r : Fin 4) (s : Fin 7) (hs : s.val = r.val) : k0_off3 c (BitVec.ofNat 32 (1 + r.val)) = ![(0 : Fin 2).val, 64 * (lowG (peer c s)).val, 0, 0] :=
  (k0_off3_eq c r).trans (vec4 (by show 64 * (((c.val + r.val + 1) % 8) % 4) = 64 * (((c.val + (s.val + 1)) % 8) % 4); rw [hs, Nat.add_assoc]))
theorem o7 (r : Fin 4) (s : Fin 7) (hs : s.val = r.val) : k0_off7 c (BitVec.ofNat 32 (1 + r.val)) = ![(1 : Fin 2).val, 64 * (lowG (peer c s)).val, 0, 0] :=
  (k0_off7_eq c r).trans (vec4 (by show 64 * (((c.val + r.val + 1) % 8) % 4) = 64 * (((c.val + (s.val + 1)) % 8) % 4); rw [hs, Nat.add_assoc]))
theorem o4 (r : Fin 4) (s : Fin 7) (hs : s.val = r.val) : k0_off4 c (BitVec.ofNat 32 (1 + r.val)) = ![(0 : Fin 2).val, 64 * (highG (peer c s)).val, 0, 0] :=
  (k0_off4_eq c r).trans (vec4 (by show 64 * (((c.val + r.val + 1) % 8) % 4) + 256 = 64 * (((c.val + (s.val + 1)) % 8) % 4 + 4); rw [hs, Nat.add_assoc]; omega))
theorem o8 (r : Fin 4) (s : Fin 7) (hs : s.val = r.val) : k0_off8 c (BitVec.ofNat 32 (1 + r.val)) = ![(1 : Fin 2).val, 64 * (highG (peer c s)).val, 0, 0] :=
  (k0_off8_eq c r).trans (vec4 (by show 64 * (((c.val + r.val + 1) % 8) % 4) + 256 = 64 * (((c.val + (s.val + 1)) % 8) % 4 + 4); rw [hs, Nat.add_assoc]; omega))

theorem o12 (r : Fin 7) : k0_off12 c (BitVec.ofNat 32 (1 + r.val)) = ![0, 64 * (orig c r).val, 0] :=
  (k0_off12_eq c r).trans (vec3 (by
    show 64 * (((c.val + 7) - r.val) % 8) = 64 * ((c.val + (7 - r.val)) % 8)
    rw [Nat.add_sub_assoc (Nat.le_of_lt r.isLt)]))

end Off

/-! ## Payloads -/

section Pay
variable (I : Inp F) (b : Fin 2) (ch : Fin 8)

theorem lo8 : k0_pay8 (k0_pay7 (k0_pay5 (qBox I b ch) (qBox I b (opp ch))) (kvBox I.k b (lowG ch)) (kvBox I.k b (highG ch)) (kvBox I.v b (lowG ch)) (kvBox I.v b (highG ch)) (woB I)) = loV I b ch := rfl
theorem hi9 : k0_pay9 (k0_pay6 (k0_pay5 (qBox I b ch) (qBox I b (opp ch))) (kvBox I.k b (lowG ch)) (kvBox I.k b (highG ch)) (kvBox I.v b (lowG ch)) (kvBox I.v b (highG ch)) (woB I)) = hiV I b ch := rfl
theorem lo15 : k0_pay15 (k0_pay10 (qBox I b ch) (qBox I b (opp ch))) (k0_pay11 (kvBox I.k b (lowG ch))) (k0_pay12 (kvBox I.k b (highG ch))) (k0_pay13 (kvBox I.v b (lowG ch))) (kvBox I.v b (highG ch)) (woB I) = loV I b ch := rfl
theorem hi16 : k0_pay16 (k0_pay10 (qBox I b ch) (qBox I b (opp ch))) (k0_pay11 (kvBox I.k b (lowG ch))) (k0_pay12 (kvBox I.k b (highG ch))) (k0_pay13 (kvBox I.v b (lowG ch))) (kvBox I.v b (highG ch)) (woB I) = hiV I b ch := rfl
theorem lo21 : k0_pay21 (k0_pay17 (qBox I b ch) (qBox I b (opp ch))) (k0_pay18 (kvBox I.k b (lowG ch)) (kvBox I.k b (highG ch))) (k0_pay19 (kvBox I.v b (lowG ch)) (kvBox I.v b (highG ch))) (constant S8x128x128 .f32 0x00000000#32) (woB I) = loV I b ch := rfl
theorem hi22 : k0_pay22 (k0_pay17 (qBox I b ch) (qBox I b (opp ch))) (k0_pay18 (kvBox I.k b (lowG ch)) (kvBox I.k b (highG ch))) (k0_pay19 (kvBox I.v b (lowG ch)) (kvBox I.v b (highG ch))) (constant S8x128x128 .f32 0x00000000#32) (woB I) = hiV I b ch := rfl
theorem lo26 : k0_pay26 (k0_pay25 (k0_pay23 (qBox I b ch) (qBox I b (opp ch))) (kvBox I.k b (lowG ch)) (kvBox I.k b (highG ch)) (kvBox I.v b (lowG ch)) (kvBox I.v b (highG ch)) (woB I)) = loV I b ch := rfl
theorem hi27 : k0_pay27 (k0_pay24 (k0_pay23 (qBox I b ch) (qBox I b (opp ch))) (kvBox I.k b (lowG ch)) (kvBox I.k b (highG ch)) (kvBox I.v b (lowG ch)) (kvBox I.v b (highG ch)) (woB I)) = hiV I b ch := rfl
theorem lo32 : k0_pay32 (k0_pay28 (qBox I b ch) (qBox I b (opp ch))) (k0_pay29 (kvBox I.k b (lowG ch))) (k0_pay30 (kvBox I.k b (highG ch))) (kvBox I.v b (lowG ch)) (kvBox I.v b (highG ch)) (woB I) = loV I b ch := rfl
theorem hi33 : k0_pay33 (k0_pay28 (qBox I b ch) (qBox I b (opp ch))) (k0_pay29 (kvBox I.k b (lowG ch))) (k0_pay30 (kvBox I.k b (highG ch))) (kvBox I.v b (lowG ch)) (kvBox I.v b (highG ch)) (woB I) = hiV I b ch := rfl
theorem lo38 : k0_pay38 (k0_pay34 (qBox I b ch) (qBox I b (opp ch))) (k0_pay35 (kvBox I.k b (lowG ch)) (kvBox I.k b (highG ch))) (k0_pay36 (kvBox I.v b (lowG ch)) (kvBox I.v b (highG ch))) (constant S8x128x128 .f32 0x00000000#32) (woB I) = loV I b ch := rfl
theorem hi39 : k0_pay39 (k0_pay34 (qBox I b ch) (qBox I b (opp ch))) (k0_pay35 (kvBox I.k b (lowG ch)) (kvBox I.k b (highG ch))) (k0_pay36 (kvBox I.v b (lowG ch)) (kvBox I.v b (highG ch))) (constant S8x128x128 .f32 0x00000000#32) (woB I) = hiV I b ch := rfl
theorem mid47 : k0_pay47 (k0_pay42 (k0_pay40 (kvBox I.k b (lowG ch))) (k0_pay41 (kvBox I.k b (highG ch)))) (k0_pay43 (kvBox I.v b (lowG ch)) (kvBox I.v b (highG ch))) (qBox I b ch) (woB I) = midV I b ch := rfl
theorem mid49 : k0_pay49 (k0_pay48 (k0_pay44 (kvBox I.k b (lowG ch)) (kvBox I.k b (highG ch))) (k0_pay45 (kvBox I.v b (lowG ch)) (kvBox I.v b (highG ch))) (qBox I b ch)) (woB I) = midV I b ch := rfl

theorem own54 (I : Inp F) (g ch : Fin 8) :
    k0_pay54 (k0_pay44 (kvBox I.k 1 (lowG g)) (kvBox I.k 1 (highG g)))
      (k0_pay46 (k0_pay45 (kvBox I.v 1 (lowG g)) (kvBox I.v 1 (highG g)))) (qBox I 1 ch) (woB I) = ownV I 1 g ch := rfl

theorem pay4_eq (x : Vec F S1x512x768 .f32) (w : Vec F S768x512 .bf16) : k0_pay4 x w = k0_pay3 x w := rfl

end Pay

section Part
variable (I : Dev nD → Inp F) (c : Dev nD)

theorem partV_lo (s : Fin 7) (b : Fin 2) (h : s.val < 3) : loV (I c) b (peer c s) = partV I c s b := by
  unfold partV; rw [if_pos h]
theorem partV_mid (b : Fin 2) : midV (I c) b (peer c 3) = partV I c 3 b := by
  rfl
theorem opp_peer (c : Dev nD) (s s' : Fin 7) (h : s'.val = s.val + 4) : opp (peer c s') = peer c s := by
  apply Fin.ext
  show ((c.val + (s'.val + 1)) % 8 + 4) % 8 = (c.val + (s.val + 1)) % 8
  rw [h]; omega
theorem partV_hi (s s' : Fin 7) (b : Fin 2) (h : s'.val = s.val + 4) : hiV (I c) b (peer c s) = partV I c s' b := by
  unfold partV; rw [if_neg (by omega), if_neg (by omega), opp_peer c s s' h]

theorem acc_step (b : Fin 2) (n : ℕ) (s : Fin 7) (hs : accOrder (Fin.ofNat 7 n) = s) :
    k0_pay55 (accB I c b n) (partV I (orig c s) s b) = accB I c b (n + 1) := by
  subst hs; rfl

/-- The end of a part. -/
theorem wp_done {α : Type} (a : α) (Q : α → sProp 𝕄) : Q a ⊢ WP (F := F) c (.ret a) Q := by
  show _ ⊢ wp _ _ _ _ _
  rw [wp_ret]
  iintro H
  imodintro
  iexact H

theorem st_q0 (f : Vec F S2x512x512 .bf16) (w) (hw : w = qRow (I c) 0) (inb)
    {hx} {hm : Finset.univ = Finset.univ ∨ ∀ a, (Rect.unit (s := S2x512x512) ![0, 0, 0] S1x512x512.size inb).stride a = 1}
    {α : Type} {Q : α → sProp 𝕄} {k : PUnit → Prog (TpuEff nD τ sig (Elt F) Λ₀ .tc) α} :
    buf c qM f ⊢ iprop((∀ g, ⌜qHalf I c g⌝ -∗ buf c qM g -∗ WP c (k ⟨⟩) Q)
      -∗ WP c (.op (.store qM (Rect.unit (s := S2x512x512) ![0, 0, 0] S1x512x512.size inb) w Finset.univ hx hm) k) Q) := by
  subst hw
  iintro H Hk
  iapply (st c qM _ f _ _ rfl) $$ H
  iintro H
  iapply Hk $$ [] H
  ipureintro
  exact wr_q0 I c f inb

theorem st_own0 (f : Vec F S2x64x768 .f32) (w) (hw : w = ownV (I c) 0 (peer c 3) c) (inb)
    {hx} {hm : Finset.univ = Finset.univ ∨ ∀ a, (Rect.unit (s := S2x64x768) ![0, 0, 0] S1x64x768.size inb).stride a = 1}
    {α : Type} {Q : α → sProp 𝕄} {k : PUnit → Prog (TpuEff nD τ sig (Elt F) Λ₀ .tc) α} :
    buf c accM f ⊢ iprop((∀ g, ⌜accHalf I c g⌝ -∗ buf c accM g -∗ WP c (k ⟨⟩) Q)
      -∗ WP c (.op (.store accM (Rect.unit (s := S2x64x768) ![0, 0, 0] S1x64x768.size inb) w Finset.univ hx hm) k) Q) := by
  iintro H Hk
  iapply (st c accM _ f _ _ rfl) $$ H
  iintro H
  iapply Hk $$ [] H
  ipureintro
  exact wr_own0 I c f w hw inb

end Part

/-! ## Whole buffers -/

section Whole
theorem rd_wq (f : Vec F S768x512 .f32) (inb) :
    wqM.view.readAt (Elt F) (Rect.unit (s := S768x512) ![0, 0] S768x512.size inb).toLoadRect f = f :=
  Memref.readAt_unit_zero (Elt F) cc0_stg1_0 zero2 inb f
theorem rd_wo (f : Vec F S512x768 .f32) (inb) :
    woM.view.readAt (Elt F) (Rect.unit (s := S512x768) ![0, 0] S512x768.size inb).toLoadRect f = f :=
  Memref.readAt_unit_zero (Elt F) cc0_stg4_0 zero2 inb f
theorem rd_wqb (f : Vec F S768x512 .bf16) (inb) :
    wqbM.view.readAt (Elt F) (Rect.unit (s := S768x512) ![0, 0] S768x512.size inb).toLoadRect f = f :=
  Memref.readAt_unit_zero (Elt F) cc0_scratch0 zero2 inb f
theorem wr_wqb (f w : Vec F S768x512 .bf16) (inb) :
    (wqbM.access (Rect.unit (s := S768x512) ![0, 0] S768x512.size inb)).write (Elt F) f w Finset.univ = w :=
  Memref.write_access_unit_zero_univ (Elt F) cc0_scratch0 zero2 inb f w
theorem rd_wob (f : Vec F S512x768 .bf16) (inb) :
    wobM.view.readAt (Elt F) (Rect.unit (s := S512x768) ![0, 0] S512x768.size inb).toLoadRect f = f :=
  Memref.readAt_unit_zero (Elt F) cc0_scratch1 zero2 inb f
theorem wr_wob (f w : Vec F S512x768 .bf16) (inb) :
    (wobM.access (Rect.unit (s := S512x768) ![0, 0] S512x768.size inb)).write (Elt F) f w Finset.univ = w :=
  Memref.write_access_unit_zero_univ (Elt F) cc0_scratch1 zero2 inb f w
theorem rd_accW (f : Vec F S2x64x768 .f32) (inb) :
    accM.view.readAt (Elt F) (Rect.unit (s := S2x64x768) ![0, 0, 0] S2x64x768.size inb).toLoadRect f = f :=
  Memref.readAt_unit_zero (Elt F) cc0_scratch5 zero3 inb f
theorem rd_rowW (f : Vec F S2x64x768 .bf16) (inb) :
    rowM.view.readAt (Elt F) (Rect.unit (s := S2x64x768) ![0, 0, 0] S2x64x768.size inb).toLoadRect f = f :=
  Memref.readAt_unit_zero (Elt F) cc0_scratch6 zero3 inb f
theorem wr_rowW (f w : Vec F S2x64x768 .bf16) (inb) :
    (rowM.access (Rect.unit (s := S2x64x768) ![0, 0, 0] S2x64x768.size inb)).write (Elt F) f w Finset.univ = w :=
  Memref.write_access_unit_zero_univ (Elt F) cc0_scratch6 zero3 inb f w

end Whole

/-! ## Slots -/

section Seven

/-- Seven conjuncts, one by one. -/
theorem bigSep_fin7 (Φ : Fin 7 → sProp 𝕄) :
    bigSep Finset.univ Φ = (iprop(Φ 0 ∗ Φ 1 ∗ Φ 2 ∗ Φ 3 ∗ Φ 4 ∗ Φ 5 ∗ Φ 6) : sProp 𝕄) := by
  exact (bigSep_univ_eq_bigSepL [0, 1, 2, 3, 4, 5, 6] (by decide) (by decide) Φ).trans rfl

end Seven

section Slots
variable (I : Dev nD → Inp F) (κ : GSem nD τ sig → ℕ) (c : Dev nD)

/-- The store of the first batch into a send slot, after the load the kernel makes of what it overwrites. -/
theorem ldst_s0 (s : Fin 7) (off : Fin 4 → Nat) (hoff : off = ![s.val, 0, 0, 0]) (w : FVec F S1x1x64x768 .bf16) (hw : w = partV I c s 0) (inb)
    {hl : sM.view.LoadsAt (Rect.unit (s := S7x2x64x768) off S1x1x64x768.size inb).toLoadRect}
    {hx} {hm : Finset.univ = Finset.univ ∨ ∀ a, (Rect.unit (s := S7x2x64x768) off S1x1x64x768.size inb).stride a = 1}
    {α : Type} {Q : α → sProp 𝕄} {k : PUnit → Prog (TpuEff nD τ sig (Elt F) Λ₀ .tc) α} :
    iprop(∃ f, sPts c s f) ⊢ iprop((sHalf I c s -∗ WP c (k ⟨⟩) Q)
      -∗ WP c (.op (.load sM (Rect.unit (s := S7x2x64x768) off S1x1x64x768.size inb).toLoadRect hl)
          fun _ => .op (.store sM (Rect.unit (s := S7x2x64x768) off S1x1x64x768.size inb) w Finset.univ hx hm) k) Q) := by
  iintro ⟨%f, H⟩ Hk
  iapply (ld_s c s f off (by rw [hoff]; rfl) inb) $$ H
  iintro %v H
  iapply (st_s0 I c s off hoff w hw inb f) $$ H
  iexact Hk

/-- The store of the second batch. -/
theorem ldst_s1 (s : Fin 7) (off : Fin 4 → Nat) (hoff : off = ![s.val, 1, 0, 0]) (w : FVec F S1x1x64x768 .bf16) (hw : w = partV I c s 1) (inb)
    {hl : sM.view.LoadsAt (Rect.unit (s := S7x2x64x768) off S1x1x64x768.size inb).toLoadRect}
    {hx} {hm : Finset.univ = Finset.univ ∨ ∀ a, (Rect.unit (s := S7x2x64x768) off S1x1x64x768.size inb).stride a = 1}
    {α : Type} {Q : α → sProp 𝕄} {k : PUnit → Prog (TpuEff nD τ sig (Elt F) Λ₀ .tc) α} :
    sHalf I c s ⊢ iprop((sPts c s (sendC I c) -∗ WP c (k ⟨⟩) Q)
      -∗ WP c (.op (.load sM (Rect.unit (s := S7x2x64x768) off S1x1x64x768.size inb).toLoadRect hl)
          fun _ => .op (.store sM (Rect.unit (s := S7x2x64x768) off S1x1x64x768.size inb) w Finset.univ hx hm) k) Q) := by
  unfold sHalf
  iintro ⟨%f, %hf, H⟩ Hk
  iapply (ld_s c s f off (by rw [hoff]; rfl) inb) $$ H
  iintro %v H
  iapply (st_s1 I c s off hoff w hw inb f hf) $$ H
  iexact Hk

/-- All that the transfer of one send slot needs besides the slot. -/
def kitA (s : Fin 7) : sProp 𝕄 :=
  iprop((∃ f, rPts (peer c s) s f) ∗ payKit aS aR c s ∗ reached ER (cell aR (peer c s) s) 0)
/-- All that the transfer of the finished chunk needs besides its share. -/
def kitG (s : Fin 7) : sProp 𝕄 :=
  iprop((∃ f, gPts (peer c s) s f) ∗ payKit gS gR c s ∗ reached ER (cell gR (peer c s) s) 0)

theorem sendA (s : Fin 7) (a g : List (Fin 7)) (n : Dev nD) (hn : n = peer c s) (q q' : DmaSem sig) (hq : q = dsem aS s) (hq' : q' = dsem aR s)
    {ms md : Memref sig .tc .vmem S2x64x768 .bf16} (hms : ms = slotM sM s) (hmd : md = slotM rM s)
    {hsrc : ms.view.WordExact} {hdst : md.view.WordExact} {hsc : md.view.ref.isScScratch = false}
    {hsem : DmaTarget.Typed .vmem (.dma q') (.remote (n : Thread nD τ) md (.dma q) hsc)}
    {α : Type} {Q : α → sProp 𝕄} {kk : PUnit → Prog (TpuEff nD τ sig (Elt F) Λ₀ .tc) α} :
    iprop(ctx I κ ∗ owesX c (owed c [] (s :: a) g) ∗ sPts c s (sendC I c) ∗ kitA c s)
      ⊢ iprop(((owesX c (owed c [] a g) ∗ credKit aS c s) -∗ WP c (kk ⟨⟩) Q)
          -∗ WP c (.op (.enqueueDma ms (.remote (n : Thread nD τ) md (.dma q) hsc) (.dma q') hsrc hdst hsem) kk) Q) := by
  subst hms hmd
  unfold kitA
  iintro ⟨#Hctx, HO, Hs, ⟨%f, Hd⟩, Ht, Hr⟩ Hk
  iapply (wp_sendA I κ c s a g n hn q q' hq hq' f) $$ [HO Hs Hd Ht Hr]
  · isplitr; · iexact Hctx
    isplitl [HO]; · iexact HO
    isplitl [Hs]; · iexact Hs
    isplitl [Hd]; · iexact Hd
    isplitl [Ht]; · iexact Ht
    iexact Hr
  iexact Hk

theorem sendG (s : Fin 7) (g : List (Fin 7)) (n : Dev nD) (hn : n = peer c s) (q q' : DmaSem sig) (hq : q = dsem gS s) (hq' : q' = dsem gR s)
    {md : Memref sig .tc .vmem S2x64x768 .bf16} (hmd : md = slotM gM s)
    {hsrc : rowM.view.WordExact} {hdst : md.view.WordExact} {hsc : md.view.ref.isScScratch = false}
    {hsem : DmaTarget.Typed .vmem (.dma q') (.remote (n : Thread nD τ) md (.dma q) hsc)}
    {α : Type} {Q : α → sProp 𝕄} {kk : PUnit → Prog (TpuEff nD τ sig (Elt F) Λ₀ .tc) α} :
    iprop(ctx I κ ∗ owesX c (owed c [] [] (s :: g)) ∗ rowPts (rowShare s) c (rowsC I c) ∗ kitG c s)
      ⊢ iprop(((owesX c (owed c [] [] g) ∗ credKit gS c s) -∗ WP c (kk ⟨⟩) Q)
          -∗ WP c (.op (.enqueueDma rowM (.remote (n : Thread nD τ) md (.dma q) hsc) (.dma q') hsrc hdst hsem) kk) Q) := by
  subst hmd
  unfold kitG
  iintro ⟨#Hctx, HO, Hs, ⟨%f, Hd⟩, Ht, Hr⟩ Hk
  iapply (wp_sendG I κ c s g n hn q q' hq hq' f) $$ [HO Hs Hd Ht Hr]
  · isplitr; · iexact Hctx
    isplitl [HO]; · iexact HO
    isplitl [Hs]; · iexact Hs
    isplitl [Hd]; · iexact Hd
    isplitl [Ht]; · iexact Ht
    iexact Hr
  iexact Hk

/-- The finished chunk's buffer is read by the seven transfers at once: one share each, and a rest. -/
theorem rows_split (f : Vec F S2x64x768 .bf16) :
    buf c rowM f ⊢ iprop(rowPts (Transfers.shareDrop fullShare 7) c f ∗ rowPts (rowShare 0) c f ∗ rowPts (rowShare 1) c f ∗ rowPts (rowShare 2) c f
      ∗ rowPts (rowShare 3) c f ∗ rowPts (rowShare 4) c f ∗ rowPts (rowShare 5) c f ∗ rowPts (rowShare 6) c f) := by
  unfold buf rowPts
  iintro H
  ihave H := (Transfers.pointsTo_toks fullShare 7).1 $$ H
  icases H with ⟨Hr, H⟩
  isplitl [Hr]; · iexact Hr
  ihave H := (Entails.of_eq (bigSep_fin7 _)) $$ H
  iexact H

theorem rows_join (f : Vec F S2x64x768 .bf16) :
    iprop(rowPts (Transfers.shareDrop fullShare 7) c f ∗ rowPts (rowShare 0) c f ∗ rowPts (rowShare 1) c f ∗ rowPts (rowShare 2) c f
      ∗ rowPts (rowShare 3) c f ∗ rowPts (rowShare 4) c f ∗ rowPts (rowShare 5) c f ∗ rowPts (rowShare 6) c f) ⊢ buf c rowM f := by
  unfold buf rowPts
  iintro ⟨Hr, H⟩
  iapply (Transfers.pointsTo_toks fullShare 7).2
  isplitl [Hr]; · iexact Hr
  iapply (Entails.of_eq (bigSep_fin7 _).symm)
  iexact H

theorem xfer_aS (s : Fin 7) : xferPay I aS c s ⊢ sPts c s (sendC I c) := Entails.rfl
theorem xfer_aR (s : Fin 7) : xferPay I aR c s ⊢ rPts c s (recvC I c) := Entails.rfl
theorem xfer_gS (s : Fin 7) : xferPay I gS c s ⊢ rowPts (rowShare s) c (rowsC I c) := Entails.rfl
theorem xfer_gR (s : Fin 7) : xferPay I gR c s ⊢ gPts c s (gathC I c) := Entails.rfl

theorem credit_s (s : Fin 7) : (slotM sM s).view.dmaCredit = N := rfl
theorem credit_r (s : Fin 7) : (slotM rM s).view.dmaCredit = N := rfl
theorem credit_g (s : Fin 7) : (slotM gM s).view.dmaCredit = N := rfl
theorem amount_row : rowM.view.dmaCredit = N := rfl

end Slots

end Cert.Exchange

end
-- ==== Proof.PartA.lean ====
/-
# The parts of the kernel body: the greetings, the two weight casts, the projection of the queries, and the wait for the seven greetings

One rule for each part of the compiled body, at a device `c`: the resources it uses, what it leaves, and the values it
returns.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Dev nD → Inp F) (κ : GSem nD τ sig → ℕ) (c : Dev nD)

theorem part1_wp {Φ} :
    iprop(ctx I κ
        ∗ owesX c (owed c [0, 1, 2, 3, 4, 5, 6] [0, 4, 1, 5, 2, 6, 3] [0, 1, 2, 3, 4, 5, 6])
        ∗ sigKit c 0
        ∗ sigKit c 1
        ∗ sigKit c 2
        ∗ sigKit c 3
        ∗ sigKit c 4)
      ⊢ iprop((∀ (v2' : BitVec 32) (v24' : BitVec 32) (c8_i32_20' : BitVec 32), iprop(owesX c (owed c [5, 6] [0, 4, 1, 5, 2, 6, 3] [0, 1, 2, 3, 4, 5, 6])) -∗ Φ ⟨c, v2', barSs, v24', c8_i32_20'⟩)
        -∗ WP (F := F) c (k0_part1 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 ) Φ) := by
  rw [k0_part1_eq_skeleton]; unfold k0_part1_skel
  simp only [semSignalWord, semWaitWord, Prog.lift, Prog.bind_op, Prog.bind_ret, Prog.pure_eq_ret, Prog.bind_assoc, wp_deviceId]
  iintro ⟨#Hctx, HO, Hsig0, Hsig1, Hsig2, Hsig3, Hsig4⟩ Hcont
  iapply (wp_sig I κ c 0 [1, 2, 3, 4, 5, 6] [0, 4, 1, 5, 2, 6, 3] [0, 1, 2, 3, 4, 5, 6] ⟨k0_dev1 c, k0_dev1_lt c⟩ (Fin.ext (k0_dev1_eq c)) _ rfl) $$ [HO Hsig0]
  · isplitr; · iexact Hctx
    isplitl [HO]; · iexact HO
    iexact Hsig0
  iintro HO
  iapply (wp_sig I κ c 1 [2, 3, 4, 5, 6] [0, 4, 1, 5, 2, 6, 3] [0, 1, 2, 3, 4, 5, 6] ⟨k0_dev2 c, k0_dev2_lt c⟩ (Fin.ext (k0_dev2_eq c)) _ rfl) $$ [HO Hsig1]
  · isplitr; · iexact Hctx
    isplitl [HO]; · iexact HO
    iexact Hsig1
  iintro HO
  iapply (wp_sig I κ c 2 [3, 4, 5, 6] [0, 4, 1, 5, 2, 6, 3] [0, 1, 2, 3, 4, 5, 6] ⟨k0_dev3 c, k0_dev3_lt c⟩ (Fin.ext (k0_dev3_eq c)) _ rfl) $$ [HO Hsig2]
  · isplitr; · iexact Hctx
    isplitl [HO]; · iexact HO
    iexact Hsig2
  iintro HO
  iapply (wp_sig I κ c 3 [4, 5, 6] [0, 4, 1, 5, 2, 6, 3] [0, 1, 2, 3, 4, 5, 6] ⟨k0_dev4 c, k0_dev4_lt c⟩ (Fin.ext (k0_dev4_eq c)) _ rfl) $$ [HO Hsig3]
  · isplitr; · iexact Hctx
    isplitl [HO]; · iexact HO
    iexact Hsig3
  iintro HO
  iapply (wp_sig I κ c 4 [5, 6] [0, 4, 1, 5, 2, 6, 3] [0, 1, 2, 3, 4, 5, 6] ⟨k0_dev5 c, k0_dev5_lt c⟩ (Fin.ext (k0_dev5_eq c)) _ rfl) $$ [HO Hsig4]
  · isplitr; · iexact Hctx
    isplitl [HO]; · iexact HO
    iexact Hsig4
  iintro HO
  iapply (wp_done c)
  iapply Hcont
  iexact HO

theorem part2_wp (v2 : BitVec 32) (v24 : BitVec 32) (c8_i32_20 : BitVec 32) {Φ} :
    iprop(ctx I κ
        ∗ owesX c (owed c [5, 6] [0, 4, 1, 5, 2, 6, 3] [0, 1, 2, 3, 4, 5, 6])
        ∗ sigKit c 5
        ∗ sigKit c 6
        ∗ buf c wqM (I c).wq
        ∗ (∃ f, buf c wqbM f)
        ∗ buf c woM (I c).wo
        ∗ (∃ f, buf c wobM f)
        ∗ buf c xM (I c).x
        ∗ (∃ f, buf c qM f))
      ⊢ iprop((iprop(owesX c (owed c [] [0, 4, 1, 5, 2, 6, 3] [0, 1, 2, 3, 4, 5, 6])
          ∗ buf c wqM (I c).wq
          ∗ buf c wqbM (wqB (I c))
          ∗ buf c woM (I c).wo
          ∗ buf c wobM (woB (I c))
          ∗ buf c xM (I c).x
          ∗ (∃ f, buf c qM f)) -∗ Φ ((k0_pay3 (xBox (I c) 0) (wqB (I c)))))
        -∗ WP (F := F) c (k0_part2 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 barSs v24 c8_i32_20) Φ) := by
  rw [k0_part2_eq_skeleton]; unfold k0_part2_skel
  simp only [semSignalWord, semWaitWord, Prog.lift, Prog.bind_op, Prog.bind_ret, Prog.pure_eq_ret, Prog.bind_assoc, wp_deviceId]
  iintro ⟨#Hctx, HO, Hsig5, Hsig6, Hwq, Hwqb, Hwo, Hwob, Hx, Hq⟩ Hcont
  iapply (wp_sig I κ c 5 [6] [0, 4, 1, 5, 2, 6, 3] [0, 1, 2, 3, 4, 5, 6] ⟨k0_dev6 c, k0_dev6_lt c⟩ (Fin.ext (k0_dev6_eq c)) _ rfl) $$ [HO Hsig5]
  · isplitr; · iexact Hctx
    isplitl [HO]; · iexact HO
    iexact Hsig5
  iintro HO
  iapply (wp_sig I κ c 6 [] [0, 4, 1, 5, 2, 6, 3] [0, 1, 2, 3, 4, 5, 6] ⟨k0_dev7 c, k0_dev7_lt c⟩ (Fin.ext (k0_dev7_eq c)) _ rfl) $$ [HO Hsig6]
  · isplitr; · iexact Hctx
    isplitl [HO]; · iexact HO
    iexact Hsig6
  iintro HO
  iapply (ld c wqM _ (I c).wq (I c).wq (rd_wq _ _)) $$ Hwq
  iintro Hwq
  icases Hwqb with ⟨%f_wqb, Hwqb⟩
  iapply (ld c wqbM _ f_wqb _ rfl) $$ Hwqb
  iintro Hwqb
  iapply (st c wqbM _ f_wqb (wqB (I c)) _ (wr_wqb f_wqb _ _)) $$ Hwqb
  iintro Hwqb
  iapply (ld c woM _ (I c).wo (I c).wo (rd_wo _ _)) $$ Hwo
  iintro Hwo
  icases Hwob with ⟨%f_wob, Hwob⟩
  iapply (ld c wobM _ f_wob _ rfl) $$ Hwob
  iintro Hwob
  iapply (st c wobM _ f_wob (woB (I c)) _ (wr_wob f_wob _ _)) $$ Hwob
  iintro Hwob
  iapply (ld c xM _ ((I c).x) (xBox (I c) 0) (rd_x I c 0 _)) $$ Hx
  iintro Hx
  iapply (ld c wqbM _ (wqB (I c)) (wqB (I c)) (rd_wqb _ _)) $$ Hwqb
  iintro Hwqb
  icases Hq with ⟨%f_q, Hq⟩
  iapply (ld c qM _ f_q _ rfl) $$ Hq
  iintro Hq
  iapply (wp_done c)
  iapply Hcont
  isplitl [HO]; · iexact HO
  isplitl [Hwq]; · iexact Hwq
  isplitl [Hwqb]; · iexact Hwqb
  isplitl [Hwo]; · iexact Hwo
  isplitl [Hwob]; · iexact Hwob
  isplitl [Hx]; · iexact Hx
  iexists f_q; iexact Hq

theorem part3_wp (v2 : BitVec 32) {Φ} :
    iprop(ctx I κ
        ∗ (∃ f, buf c qM f)
        ∗ buf c xM (I c).x
        ∗ buf c wqbM (wqB (I c))
        ∗ owesX c (owed c [] [0, 4, 1, 5, 2, 6, 3] [0, 1, 2, 3, 4, 5, 6])
        ∗ cred (tallyAt (barCell c) () 7)
        ∗ atPos ER (barCell c) 0 ∅ 0)
      ⊢ iprop((∀ (v67' : BitVec 32) (v70' : BitVec 32) (v71' : BitVec 32), iprop(buf c qM (qC (I c))
          ∗ buf c xM (I c).x
          ∗ buf c wqbM (wqB (I c))
          ∗ owesX c (owed c [] [0, 4, 1, 5, 2, 6, 3] [0, 1, 2, 3, 4, 5, 6])
          ∗ atPos ER (barCell c) 1 ∅ 0
          ∗ bigSep Finset.univ (fun d : Fin 7 => (barPay c d : sProp 𝕄))) -∗ Φ ⟨v67', v70', v71', (k0_pay5 (qBox (I c) 0 (peer c 0)) (qBox (I c) 0 (opp (peer c 0))))⟩)
        -∗ WP (F := F) c (k0_part3 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 barSs ((k0_pay3 (xBox (I c) 0) (wqB (I c))))) Φ) := by
  rw [k0_part3_eq_skeleton]; unfold k0_part3_skel
  simp only [semSignalWord, semWaitWord, Prog.lift, Prog.bind_op, Prog.bind_ret, Prog.pure_eq_ret, Prog.bind_assoc, wp_deviceId]
  iintro ⟨#Hctx, Hq, Hx, Hwqb, HO, Hbarc, Hbarp⟩ Hcont
  icases Hq with ⟨%f_q, Hq⟩
  iapply (st_q0 I c f_q _ rfl _) $$ Hq
  iintro %fq %hq0 Hq
  iapply (ld c xM _ ((I c).x) (xBox (I c) 1) (rd_x I c 1 _)) $$ Hx
  iintro Hx
  iapply (ld c wqbM _ (wqB (I c)) (wqB (I c)) (rd_wqb _ _)) $$ Hwqb
  iintro Hwqb
  iapply (ld c qM _ fq _ rfl) $$ Hq
  iintro Hq
  iapply (st c qM _ fq (qC (I c)) _ (wr_q1 I c fq hq0 _)) $$ Hq
  iintro Hq
  iapply (wp_waitBar I κ c [0, 4, 1, 5, 2, 6, 3] [0, 1, 2, 3, 4, 5, 6] _ rfl) $$ [HO Hbarc Hbarp]
  · isplitr; · iexact Hctx
    isplitl [HO]; · iexact HO
    isplitl [Hbarc]; · iexact Hbarc
    iexact Hbarp
  iintro ⟨HO, Hbarp, Hbpay⟩
  iapply (ld c qM _ (qC (I c)) (qBox (I c) 0 (peer c 0)) (rd_q I c 0 (peer c 0) (k0_off1 c 1#32) _ (o1 c 0 0 rfl))) $$ Hq
  iintro Hq
  iapply (ld c qM _ (qC (I c)) (qBox (I c) 0 (opp (peer c 0))) (rd_q I c 0 (opp (peer c 0)) (k0_off2 c 1#32) _ (o2 c 0 0 rfl))) $$ Hq
  iintro Hq
  iapply (wp_done c)
  iapply Hcont
  isplitl [Hq]; · iexact Hq
  isplitl [Hx]; · iexact Hx
  isplitl [Hwqb]; · iexact Hwqb
  isplitl [HO]; · iexact HO
  isplitl [Hbarp]; · iexact Hbarp
  iexact Hbpay

end Parts

end Cert.Exchange

end
-- ==== Proof.PartB1.lean ====
/-
# The parts of the kernel body: attention for the first two offsets, and their sends

One rule for each part of the compiled body, at a device `c`: the resources it uses, what it leaves, and the values it
returns.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Dev nD → Inp F) (κ : GSem nD τ sig → ℕ) (c : Dev nD)

theorem part4_wp (v71 : BitVec 32) {Φ} :
    iprop(ctx I κ
        ∗ buf c kM (I c).k
        ∗ buf c vM (I c).v
        ∗ buf c wobM (woB (I c)))
      ⊢ iprop((iprop(buf c kM (I c).k
          ∗ buf c vM (I c).v
          ∗ buf c wobM (woB (I c))) -∗ Φ ⟨(k0_pay6 (k0_pay5 (qBox (I c) 0 (peer c 0)) (qBox (I c) 0 (opp (peer c 0)))) (kvBox (I c).k 0 (lowG (peer c 0))) (kvBox (I c).k 0 (highG (peer c 0))) (kvBox (I c).v 0 (lowG (peer c 0))) (kvBox (I c).v 0 (highG (peer c 0))) (woB (I c))), (k0_pay7 (k0_pay5 (qBox (I c) 0 (peer c 0)) (qBox (I c) 0 (opp (peer c 0)))) (kvBox (I c).k 0 (lowG (peer c 0))) (kvBox (I c).k 0 (highG (peer c 0))) (kvBox (I c).v 0 (lowG (peer c 0))) (kvBox (I c).v 0 (highG (peer c 0))) (woB (I c)))⟩)
        -∗ WP (F := F) c (k0_part4 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v71 (k0_pay5 (qBox (I c) 0 (peer c 0)) (qBox (I c) 0 (opp (peer c 0))))) Φ) := by
  rw [k0_part4_eq_skeleton]; unfold k0_part4_skel
  simp only [semSignalWord, semWaitWord, Prog.lift, Prog.bind_op, Prog.bind_ret, Prog.pure_eq_ret, Prog.bind_assoc, wp_deviceId]
  iintro ⟨#Hctx, Hk, Hv, Hwob⟩ Hcont
  iapply (ld c kM _ (I c).k (kvBox (I c).k 0 (lowG (peer c 0))) (rd_k I c 0 (lowG (peer c 0)) (k0_off3 c 1#32) _ (o3 c 0 0 rfl))) $$ Hk
  iintro Hk
  iapply (ld c kM _ (I c).k (kvBox (I c).k 0 (highG (peer c 0))) (rd_k I c 0 (highG (peer c 0)) (k0_off4 c 1#32) _ (o4 c 0 0 rfl))) $$ Hk
  iintro Hk
  iapply (ld c vM _ (I c).v (kvBox (I c).v 0 (lowG (peer c 0))) (rd_v I c 0 (lowG (peer c 0)) (k0_off3 c 1#32) _ (o3 c 0 0 rfl))) $$ Hv
  iintro Hv
  iapply (ld c vM _ (I c).v (kvBox (I c).v 0 (highG (peer c 0))) (rd_v I c 0 (highG (peer c 0)) (k0_off4 c 1#32) _ (o4 c 0 0 rfl))) $$ Hv
  iintro Hv
  iapply (ld c wobM _ (woB (I c)) (woB (I c)) (rd_wob _ _)) $$ Hwob
  iintro Hwob
  iapply (wp_done c)
  iapply Hcont
  isplitl [Hk]; · iexact Hk
  isplitl [Hv]; · iexact Hv
  iexact Hwob

theorem part5_wp (v67 : BitVec 32) (v70 : BitVec 32) (v71 : BitVec 32) {Φ} :
    iprop(ctx I κ
        ∗ (∃ f, sPts c 0 f)
        ∗ (∃ f, sPts c 4 f)
        ∗ buf c qM (qC (I c))
        ∗ buf c kM (I c).k
        ∗ buf c vM (I c).v)
      ⊢ iprop((∀ (c64_i32_114' : BitVec 32), iprop(sHalf I c 0
          ∗ sHalf I c 4
          ∗ buf c qM (qC (I c))
          ∗ buf c kM (I c).k
          ∗ buf c vM (I c).v) -∗ Φ ⟨(k0_pay10 (qBox (I c) 1 (peer c 0)) (qBox (I c) 1 (opp (peer c 0)))), (k0_pay11 (kvBox (I c).k 1 (lowG (peer c 0)))), (k0_pay12 (kvBox (I c).k 1 (highG (peer c 0)))), (k0_pay13 (kvBox (I c).v 1 (lowG (peer c 0)))), c64_i32_114'⟩)
        -∗ WP (F := F) c (k0_part5 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v67 v70 v71 (k0_pay6 (k0_pay5 (qBox (I c) 0 (peer c 0)) (qBox (I c) 0 (opp (peer c 0)))) (kvBox (I c).k 0 (lowG (peer c 0))) (kvBox (I c).k 0 (highG (peer c 0))) (kvBox (I c).v 0 (lowG (peer c 0))) (kvBox (I c).v 0 (highG (peer c 0))) (woB (I c))) (k0_pay7 (k0_pay5 (qBox (I c) 0 (peer c 0)) (qBox (I c) 0 (opp (peer c 0)))) (kvBox (I c).k 0 (lowG (peer c 0))) (kvBox (I c).k 0 (highG (peer c 0))) (kvBox (I c).v 0 (lowG (peer c 0))) (kvBox (I c).v 0 (highG (peer c 0))) (woB (I c)))) Φ) := by
  rw [k0_part5_eq_skeleton]; unfold k0_part5_skel
  simp only [semSignalWord, semWaitWord, Prog.lift, Prog.bind_op, Prog.bind_ret, Prog.pure_eq_ret, Prog.bind_assoc, wp_deviceId]
  iintro ⟨#Hctx, Hs0, Hs4, Hq, Hk, Hv⟩ Hcont
  iapply (ldst_s0 I c 0 ![0, 0, 0, 0] rfl _ ((lo8 (I c) 0 (peer c 0)).trans (partV_lo I c 0 0 (by decide))) _) $$ Hs0
  iintro Hs0
  iapply (ldst_s0 I c 4 ![4, 0, 0, 0] rfl _ ((hi9 (I c) 0 (peer c 0)).trans (partV_hi I c 0 4 0 rfl)) _) $$ Hs4
  iintro Hs4
  iapply (ld c qM _ (qC (I c)) (qBox (I c) 1 (peer c 0)) (rd_q I c 1 (peer c 0) (k0_off5 c 1#32) _ (o5 c 0 0 rfl))) $$ Hq
  iintro Hq
  iapply (ld c qM _ (qC (I c)) (qBox (I c) 1 (opp (peer c 0))) (rd_q I c 1 (opp (peer c 0)) (k0_off6 c 1#32) _ (o6 c 0 0 rfl))) $$ Hq
  iintro Hq
  iapply (ld c kM _ (I c).k (kvBox (I c).k 1 (lowG (peer c 0))) (rd_k I c 1 (lowG (peer c 0)) (k0_off7 c 1#32) _ (o7 c 0 0 rfl))) $$ Hk
  iintro Hk
  iapply (ld c kM _ (I c).k (kvBox (I c).k 1 (highG (peer c 0))) (rd_k I c 1 (highG (peer c 0)) (k0_off8 c 1#32) _ (o8 c 0 0 rfl))) $$ Hk
  iintro Hk
  iapply (ld c vM _ (I c).v (kvBox (I c).v 1 (lowG (peer c 0))) (rd_v I c 1 (lowG (peer c 0)) (k0_off7 c 1#32) _ (o7 c 0 0 rfl))) $$ Hv
  iintro Hv
  iapply (wp_done c)
  iapply Hcont
  isplitl [Hs0]; · iexact Hs0
  isplitl [Hs4]; · iexact Hs4
  isplitl [Hq]; · iexact Hq
  isplitl [Hk]; · iexact Hk
  iexact Hv

theorem part6_wp (v2 : BitVec 32) (v71 : BitVec 32) (c64_i32_114 : BitVec 32) {Φ} :
    iprop(ctx I κ
        ∗ buf c vM (I c).v
        ∗ buf c wobM (woB (I c))
        ∗ sHalf I c 0
        ∗ sHalf I c 4)
      ⊢ iprop((∀ (v189' : BitVec 32), iprop(buf c vM (I c).v
          ∗ buf c wobM (woB (I c))
          ∗ sPts c 0 (sendC I c)
          ∗ sPts c 4 (sendC I c)) -∗ Φ v189')
        -∗ WP (F := F) c (k0_part6 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v71 (k0_pay10 (qBox (I c) 1 (peer c 0)) (qBox (I c) 1 (opp (peer c 0)))) (k0_pay11 (kvBox (I c).k 1 (lowG (peer c 0)))) (k0_pay12 (kvBox (I c).k 1 (highG (peer c 0)))) (k0_pay13 (kvBox (I c).v 1 (lowG (peer c 0)))) c64_i32_114) Φ) := by
  rw [k0_part6_eq_skeleton]; unfold k0_part6_skel
  simp only [semSignalWord, semWaitWord, Prog.lift, Prog.bind_op, Prog.bind_ret, Prog.pure_eq_ret, Prog.bind_assoc, wp_deviceId]
  iintro ⟨#Hctx, Hv, Hwob, Hs0, Hs4⟩ Hcont
  iapply (ld c vM _ (I c).v (kvBox (I c).v 1 (highG (peer c 0))) (rd_v I c 1 (highG (peer c 0)) (k0_off8 c 1#32) _ (o8 c 0 0 rfl))) $$ Hv
  iintro Hv
  iapply (ld c wobM _ (woB (I c)) (woB (I c)) (rd_wob _ _)) $$ Hwob
  iintro Hwob
  iapply (ldst_s1 I c 0 ![0, 1, 0, 0] rfl _ ((lo15 (I c) 1 (peer c 0)).trans (partV_lo I c 0 1 (by decide))) _) $$ Hs0
  iintro Hs0
  iapply (ldst_s1 I c 4 ![4, 1, 0, 0] rfl _ ((hi16 (I c) 1 (peer c 0)).trans (partV_hi I c 0 4 1 rfl)) _) $$ Hs4
  iintro Hs4
  iapply (wp_done c)
  iapply Hcont
  isplitl [Hv]; · iexact Hv
  isplitl [Hwob]; · iexact Hwob
  isplitl [Hs0]; · iexact Hs0
  iexact Hs4

theorem part7_wp (v2 : BitVec 32) (v189 : BitVec 32) {Φ} :
    iprop(ctx I κ
        ∗ owesX c (owed c [] [0, 4, 1, 5, 2, 6, 3] [0, 1, 2, 3, 4, 5, 6])
        ∗ sPts c 0 (sendC I c)
        ∗ kitA c 0
        ∗ sPts c 4 (sendC I c)
        ∗ kitA c 4)
      ⊢ iprop((∀ (v201' : BitVec 32) (v213' : BitVec 32) (v216' : BitVec 32) (v217' : BitVec 32), iprop(owesX c (owed c [] [1, 5, 2, 6, 3] [0, 1, 2, 3, 4, 5, 6])
          ∗ credKit aS c 0
          ∗ credKit aS c 4) -∗ Φ ⟨v201', v213', v216', v217'⟩)
        -∗ WP (F := F) c (k0_part7 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v189) Φ) := by
  rw [k0_part7_eq_skeleton]; unfold k0_part7_skel
  simp only [semSignalWord, semWaitWord, Prog.lift, Prog.bind_op, Prog.bind_ret, Prog.pure_eq_ret, Prog.bind_assoc, wp_deviceId]
  iintro ⟨#Hctx, HO, Hs0, HkA0, Hs4, HkA4⟩ Hcont
  iapply (sendA I κ c 0 [4, 1, 5, 2, 6, 3] [0, 1, 2, 3, 4, 5, 6] ⟨k0_dev8 c, k0_dev8_lt c⟩ (Fin.ext (k0_dev8_eq c)) _ _ rfl rfl rfl rfl) $$ [HO Hs0 HkA0]
  · isplitr; · iexact Hctx
    isplitl [HO]; · iexact HO
    isplitl [Hs0]; · iexact Hs0
    iexact HkA0
  iintro ⟨HO, HcraS0⟩
  iapply (sendA I κ c 4 [1, 5, 2, 6, 3] [0, 1, 2, 3, 4, 5, 6] ⟨k0_dev9 c, k0_dev9_lt c⟩ (Fin.ext (k0_dev9_eq c)) _ _ rfl rfl rfl rfl) $$ [HO Hs4 HkA4]
  · isplitr; · iexact Hctx
    isplitl [HO]; · iexact HO
    isplitl [Hs4]; · iexact Hs4
    iexact HkA4
  iintro ⟨HO, HcraS4⟩
  iapply (wp_done c)
  iapply Hcont
  isplitl [HO]; · iexact HO
  isplitl [HcraS0]; · iexact HcraS0
  iexact HcraS4

theorem part8_wp (v213 : BitVec 32) (v216 : BitVec 32) (v217 : BitVec 32) {Φ} :
    iprop(ctx I κ
        ∗ buf c qM (qC (I c))
        ∗ buf c kM (I c).k
        ∗ buf c vM (I c).v)
      ⊢ iprop((iprop(buf c qM (qC (I c))
          ∗ buf c kM (I c).k
          ∗ buf c vM (I c).v) -∗ Φ ⟨(k0_pay17 (qBox (I c) 0 (peer c 1)) (qBox (I c) 0 (opp (peer c 1)))), (k0_pay18 (kvBox (I c).k 0 (lowG (peer c 1))) (kvBox (I c).k 0 (highG (peer c 1)))), (k0_pay19 (kvBox (I c).v 0 (lowG (peer c 1))) (kvBox (I c).v 0 (highG (peer c 1)))), ((constant S8x128x128 .f32 0x00000000#32))⟩)
        -∗ WP (F := F) c (k0_part8 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v213 v216 v217) Φ) := by
  rw [k0_part8_eq_skeleton]; unfold k0_part8_skel
  simp only [semSignalWord, semWaitWord, Prog.lift, Prog.bind_op, Prog.bind_ret, Prog.pure_eq_ret, Prog.bind_assoc, wp_deviceId]
  iintro ⟨#Hctx, Hq, Hk, Hv⟩ Hcont
  iapply (ld c qM _ (qC (I c)) (qBox (I c) 0 (peer c 1)) (rd_q I c 0 (peer c 1) (k0_off1 c 2#32) _ (o1 c 1 1 rfl))) $$ Hq
  iintro Hq
  iapply (ld c qM _ (qC (I c)) (qBox (I c) 0 (opp (peer c 1))) (rd_q I c 0 (opp (peer c 1)) (k0_off2 c 2#32) _ (o2 c 1 1 rfl))) $$ Hq
  iintro Hq
  iapply (ld c kM _ (I c).k (kvBox (I c).k 0 (lowG (peer c 1))) (rd_k I c 0 (lowG (peer c 1)) (k0_off3 c 2#32) _ (o3 c 1 1 rfl))) $$ Hk
  iintro Hk
  iapply (ld c kM _ (I c).k (kvBox (I c).k 0 (highG (peer c 1))) (rd_k I c 0 (highG (peer c 1)) (k0_off4 c 2#32) _ (o4 c 1 1 rfl))) $$ Hk
  iintro Hk
  iapply (ld c vM _ (I c).v (kvBox (I c).v 0 (lowG (peer c 1))) (rd_v I c 0 (lowG (peer c 1)) (k0_off3 c 2#32) _ (o3 c 1 1 rfl))) $$ Hv
  iintro Hv
  iapply (ld c vM _ (I c).v (kvBox (I c).v 0 (highG (peer c 1))) (rd_v I c 0 (highG (peer c 1)) (k0_off4 c 2#32) _ (o4 c 1 1 rfl))) $$ Hv
  iintro Hv
  iapply (wp_done c)
  iapply Hcont
  isplitl [Hq]; · iexact Hq
  isplitl [Hk]; · iexact Hk
  iexact Hv

theorem part9_wp (v213 : BitVec 32) (v216 : BitVec 32) (v217 : BitVec 32) {Φ} :
    iprop(ctx I κ
        ∗ buf c wobM (woB (I c))
        ∗ (∃ f, sPts c 1 f)
        ∗ (∃ f, sPts c 5 f)
        ∗ buf c qM (qC (I c)))
      ⊢ iprop((iprop(buf c wobM (woB (I c))
          ∗ sHalf I c 1
          ∗ sHalf I c 5
          ∗ buf c qM (qC (I c))) -∗ Φ ((k0_pay23 (qBox (I c) 1 (peer c 1)) (qBox (I c) 1 (opp (peer c 1))))))
        -∗ WP (F := F) c (k0_part9 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v213 v216 v217 (k0_pay17 (qBox (I c) 0 (peer c 1)) (qBox (I c) 0 (opp (peer c 1)))) (k0_pay18 (kvBox (I c).k 0 (lowG (peer c 1))) (kvBox (I c).k 0 (highG (peer c 1)))) (k0_pay19 (kvBox (I c).v 0 (lowG (peer c 1))) (kvBox (I c).v 0 (highG (peer c 1)))) ((constant S8x128x128 .f32 0x00000000#32))) Φ) := by
  rw [k0_part9_eq_skeleton]; unfold k0_part9_skel
  simp only [semSignalWord, semWaitWord, Prog.lift, Prog.bind_op, Prog.bind_ret, Prog.pure_eq_ret, Prog.bind_assoc, wp_deviceId]
  iintro ⟨#Hctx, Hwob, Hs1, Hs5, Hq⟩ Hcont
  iapply (ld c wobM _ (woB (I c)) (woB (I c)) (rd_wob _ _)) $$ Hwob
  iintro Hwob
  iapply (ldst_s0 I c 1 ![1, 0, 0, 0] rfl _ ((lo21 (I c) 0 (peer c 1)).trans (partV_lo I c 1 0 (by decide))) _) $$ Hs1
  iintro Hs1
  iapply (ldst_s0 I c 5 ![5, 0, 0, 0] rfl _ ((hi22 (I c) 0 (peer c 1)).trans (partV_hi I c 1 5 0 rfl)) _) $$ Hs5
  iintro Hs5
  iapply (ld c qM _ (qC (I c)) (qBox (I c) 1 (peer c 1)) (rd_q I c 1 (peer c 1) (k0_off5 c 2#32) _ (o5 c 1 1 rfl))) $$ Hq
  iintro Hq
  iapply (ld c qM _ (qC (I c)) (qBox (I c) 1 (opp (peer c 1))) (rd_q I c 1 (opp (peer c 1)) (k0_off6 c 2#32) _ (o6 c 1 1 rfl))) $$ Hq
  iintro Hq
  iapply (wp_done c)
  iapply Hcont
  isplitl [Hwob]; · iexact Hwob
  isplitl [Hs1]; · iexact Hs1
  isplitl [Hs5]; · iexact Hs5
  iexact Hq

theorem part10_wp (v217 : BitVec 32) {Φ} :
    iprop(ctx I κ
        ∗ buf c kM (I c).k
        ∗ buf c vM (I c).v
        ∗ buf c wobM (woB (I c)))
      ⊢ iprop((iprop(buf c kM (I c).k
          ∗ buf c vM (I c).v
          ∗ buf c wobM (woB (I c))) -∗ Φ ⟨(k0_pay24 ((k0_pay23 (qBox (I c) 1 (peer c 1)) (qBox (I c) 1 (opp (peer c 1))))) (kvBox (I c).k 1 (lowG (peer c 1))) (kvBox (I c).k 1 (highG (peer c 1))) (kvBox (I c).v 1 (lowG (peer c 1))) (kvBox (I c).v 1 (highG (peer c 1))) (woB (I c))), (k0_pay25 ((k0_pay23 (qBox (I c) 1 (peer c 1)) (qBox (I c) 1 (opp (peer c 1))))) (kvBox (I c).k 1 (lowG (peer c 1))) (kvBox (I c).k 1 (highG (peer c 1))) (kvBox (I c).v 1 (lowG (peer c 1))) (kvBox (I c).v 1 (highG (peer c 1))) (woB (I c)))⟩)
        -∗ WP (F := F) c (k0_part10 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v217 ((k0_pay23 (qBox (I c) 1 (peer c 1)) (qBox (I c) 1 (opp (peer c 1)))))) Φ) := by
  rw [k0_part10_eq_skeleton]; unfold k0_part10_skel
  simp only [semSignalWord, semWaitWord, Prog.lift, Prog.bind_op, Prog.bind_ret, Prog.pure_eq_ret, Prog.bind_assoc, wp_deviceId]
  iintro ⟨#Hctx, Hk, Hv, Hwob⟩ Hcont
  iapply (ld c kM _ (I c).k (kvBox (I c).k 1 (lowG (peer c 1))) (rd_k I c 1 (lowG (peer c 1)) (k0_off7 c 2#32) _ (o7 c 1 1 rfl))) $$ Hk
  iintro Hk
  iapply (ld c kM _ (I c).k (kvBox (I c).k 1 (highG (peer c 1))) (rd_k I c 1 (highG (peer c 1)) (k0_off8 c 2#32) _ (o8 c 1 1 rfl))) $$ Hk
  iintro Hk
  iapply (ld c vM _ (I c).v (kvBox (I c).v 1 (lowG (peer c 1))) (rd_v I c 1 (lowG (peer c 1)) (k0_off7 c 2#32) _ (o7 c 1 1 rfl))) $$ Hv
  iintro Hv
  iapply (ld c vM _ (I c).v (kvBox (I c).v 1 (highG (peer c 1))) (rd_v I c 1 (highG (peer c 1)) (k0_off8 c 2#32) _ (o8 c 1 1 rfl))) $$ Hv
  iintro Hv
  iapply (ld c wobM _ (woB (I c)) (woB (I c)) (rd_wob _ _)) $$ Hwob
  iintro Hwob
  iapply (wp_done c)
  iapply Hcont
  isplitl [Hk]; · iexact Hk
  isplitl [Hv]; · iexact Hv
  iexact Hwob

theorem part11_wp (v2 : BitVec 32) {Φ} :
    iprop(ctx I κ
        ∗ sHalf I c 1
        ∗ sHalf I c 5
        ∗ owesX c (owed c [] [1, 5, 2, 6, 3] [0, 1, 2, 3, 4, 5, 6])
        ∗ kitA c 1)
      ⊢ iprop((∀ (v335' : BitVec 32) (v347' : BitVec 32), iprop(sPts c 5 (sendC I c)
          ∗ owesX c (owed c [] [5, 2, 6, 3] [0, 1, 2, 3, 4, 5, 6])
          ∗ credKit aS c 1) -∗ Φ ⟨v335', v347'⟩)
        -∗ WP (F := F) c (k0_part11 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 (k0_pay24 ((k0_pay23 (qBox (I c) 1 (peer c 1)) (qBox (I c) 1 (opp (peer c 1))))) (kvBox (I c).k 1 (lowG (peer c 1))) (kvBox (I c).k 1 (highG (peer c 1))) (kvBox (I c).v 1 (lowG (peer c 1))) (kvBox (I c).v 1 (highG (peer c 1))) (woB (I c))) (k0_pay25 ((k0_pay23 (qBox (I c) 1 (peer c 1)) (qBox (I c) 1 (opp (peer c 1))))) (kvBox (I c).k 1 (lowG (peer c 1))) (kvBox (I c).k 1 (highG (peer c 1))) (kvBox (I c).v 1 (lowG (peer c 1))) (kvBox (I c).v 1 (highG (peer c 1))) (woB (I c)))) Φ) := by
  rw [k0_part11_eq_skeleton]; unfold k0_part11_skel
  simp only [semSignalWord, semWaitWord, Prog.lift, Prog.bind_op, Prog.bind_ret, Prog.pure_eq_ret, Prog.bind_assoc, wp_deviceId]
  iintro ⟨#Hctx, Hs1, Hs5, HO, HkA1⟩ Hcont
  iapply (ldst_s1 I c 1 ![1, 1, 0, 0] rfl _ ((lo26 (I c) 1 (peer c 1)).trans (partV_lo I c 1 1 (by decide))) _) $$ Hs1
  iintro Hs1
  iapply (ldst_s1 I c 5 ![5, 1, 0, 0] rfl _ ((hi27 (I c) 1 (peer c 1)).trans (partV_hi I c 1 5 1 rfl)) _) $$ Hs5
  iintro Hs5
  iapply (sendA I κ c 1 [5, 2, 6, 3] [0, 1, 2, 3, 4, 5, 6] ⟨k0_dev10 c, k0_dev10_lt c⟩ (Fin.ext (k0_dev10_eq c)) _ _ rfl rfl rfl rfl) $$ [HO Hs1 HkA1]
  · isplitr; · iexact Hctx
    isplitl [HO]; · iexact HO
    isplitl [Hs1]; · iexact Hs1
    iexact HkA1
  iintro ⟨HO, HcraS1⟩
  iapply (wp_done c)
  iapply Hcont
  isplitl [Hs5]; · iexact Hs5
  isplitl [HO]; · iexact HO
  iexact HcraS1

end Parts

end Cert.Exchange

end
-- ==== Proof.PartB2.lean ====
/-
# The parts of the kernel body: attention for the other offsets and for the own chunk, and their sends

One rule for each part of the compiled body, at a device `c`: the resources it uses, what it leaves, and the values it
returns.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Dev nD → Inp F) (κ : GSem nD τ sig → ℕ) (c : Dev nD)

theorem part12_wp (v2 : BitVec 32) {Φ} :
    iprop(ctx I κ
        ∗ owesX c (owed c [] [5, 2, 6, 3] [0, 1, 2, 3, 4, 5, 6])
        ∗ sPts c 5 (sendC I c)
        ∗ kitA c 5
        ∗ buf c qM (qC (I c))
        ∗ buf c kM (I c).k)
      ⊢ iprop((∀ (v359' : BitVec 32) (v362' : BitVec 32) (v363' : BitVec 32) (v384' : BitVec 32), iprop(owesX c (owed c [] [2, 6, 3] [0, 1, 2, 3, 4, 5, 6])
          ∗ buf c qM (qC (I c))
          ∗ buf c kM (I c).k
          ∗ credKit aS c 5) -∗ Φ ⟨v359', v362', v363', (k0_pay28 (qBox (I c) 0 (peer c 2)) (qBox (I c) 0 (opp (peer c 2)))), (k0_pay29 (kvBox (I c).k 0 (lowG (peer c 2)))), (k0_pay30 (kvBox (I c).k 0 (highG (peer c 2)))), v384'⟩)
        -∗ WP (F := F) c (k0_part12 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2) Φ) := by
  rw [k0_part12_eq_skeleton]; unfold k0_part12_skel
  simp only [semSignalWord, semWaitWord, Prog.lift, Prog.bind_op, Prog.bind_ret, Prog.pure_eq_ret, Prog.bind_assoc, wp_deviceId]
  iintro ⟨#Hctx, HO, Hs5, HkA5, Hq, Hk⟩ Hcont
  iapply (sendA I κ c 5 [2, 6, 3] [0, 1, 2, 3, 4, 5, 6] ⟨k0_dev11 c, k0_dev11_lt c⟩ (Fin.ext (k0_dev11_eq c)) _ _ rfl rfl rfl rfl) $$ [HO Hs5 HkA5]
  · isplitr; · iexact Hctx
    isplitl [HO]; · iexact HO
    isplitl [Hs5]; · iexact Hs5
    iexact HkA5
  iintro ⟨HO, HcraS5⟩
  iapply (ld c qM _ (qC (I c)) (qBox (I c) 0 (peer c 2)) (rd_q I c 0 (peer c 2) (k0_off1 c 3#32) _ (o1 c 2 2 rfl))) $$ Hq
  iintro Hq
  iapply (ld c qM _ (qC (I c)) (qBox (I c) 0 (opp (peer c 2))) (rd_q I c 0 (opp (peer c 2)) (k0_off2 c 3#32) _ (o2 c 2 2 rfl))) $$ Hq
  iintro Hq
  iapply (ld c kM _ (I c).k (kvBox (I c).k 0 (lowG (peer c 2))) (rd_k I c 0 (lowG (peer c 2)) (k0_off3 c 3#32) _ (o3 c 2 2 rfl))) $$ Hk
  iintro Hk
  iapply (ld c kM _ (I c).k (kvBox (I c).k 0 (highG (peer c 2))) (rd_k I c 0 (highG (peer c 2)) (k0_off4 c 3#32) _ (o4 c 2 2 rfl))) $$ Hk
  iintro Hk
  iapply (wp_done c)
  iapply Hcont
  isplitl [HO]; · iexact HO
  isplitl [Hq]; · iexact Hq
  isplitl [Hk]; · iexact Hk
  iexact HcraS5

theorem part13_wp (v363 : BitVec 32) (v384 : BitVec 32) {Φ} :
    iprop(ctx I κ
        ∗ buf c vM (I c).v
        ∗ buf c wobM (woB (I c))
        ∗ (∃ f, sPts c 2 f)
        ∗ (∃ f, sPts c 6 f))
      ⊢ iprop((iprop(buf c vM (I c).v
          ∗ buf c wobM (woB (I c))
          ∗ sHalf I c 2
          ∗ sHalf I c 6) -∗ Φ ⟨⟩)
        -∗ WP (F := F) c (k0_part13 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v363 (k0_pay28 (qBox (I c) 0 (peer c 2)) (qBox (I c) 0 (opp (peer c 2)))) (k0_pay29 (kvBox (I c).k 0 (lowG (peer c 2)))) (k0_pay30 (kvBox (I c).k 0 (highG (peer c 2)))) v384) Φ) := by
  rw [k0_part13_eq_skeleton]; unfold k0_part13_skel
  simp only [semSignalWord, semWaitWord, Prog.lift, Prog.bind_op, Prog.bind_ret, Prog.pure_eq_ret, Prog.bind_assoc, wp_deviceId]
  iintro ⟨#Hctx, Hv, Hwob, Hs2, Hs6⟩ Hcont
  iapply (ld c vM _ (I c).v (kvBox (I c).v 0 (lowG (peer c 2))) (rd_v I c 0 (lowG (peer c 2)) (k0_off3 c 3#32) _ (o3 c 2 2 rfl))) $$ Hv
  iintro Hv
  iapply (ld c vM _ (I c).v (kvBox (I c).v 0 (highG (peer c 2))) (rd_v I c 0 (highG (peer c 2)) (k0_off4 c 3#32) _ (o4 c 2 2 rfl))) $$ Hv
  iintro Hv
  iapply (ld c wobM _ (woB (I c)) (woB (I c)) (rd_wob _ _)) $$ Hwob
  iintro Hwob
  iapply (ldst_s0 I c 2 ![2, 0, 0, 0] rfl _ ((lo32 (I c) 0 (peer c 2)).trans (partV_lo I c 2 0 (by decide))) _) $$ Hs2
  iintro Hs2
  iapply (ldst_s0 I c 6 ![6, 0, 0, 0] rfl _ ((hi33 (I c) 0 (peer c 2)).trans (partV_hi I c 2 6 0 rfl)) _) $$ Hs6
  iintro Hs6
  iapply (wp_done c)
  iapply Hcont
  isplitl [Hv]; · iexact Hv
  isplitl [Hwob]; · iexact Hwob
  isplitl [Hs2]; · iexact Hs2
  iexact Hs6

theorem part14_wp (v359 : BitVec 32) (v362 : BitVec 32) (v363 : BitVec 32) {Φ} :
    iprop(ctx I κ
        ∗ buf c qM (qC (I c))
        ∗ buf c kM (I c).k
        ∗ buf c vM (I c).v)
      ⊢ iprop((iprop(buf c qM (qC (I c))
          ∗ buf c kM (I c).k
          ∗ buf c vM (I c).v) -∗ Φ ⟨(k0_pay34 (qBox (I c) 1 (peer c 2)) (qBox (I c) 1 (opp (peer c 2)))), (k0_pay35 (kvBox (I c).k 1 (lowG (peer c 2))) (kvBox (I c).k 1 (highG (peer c 2)))), (k0_pay36 (kvBox (I c).v 1 (lowG (peer c 2))) (kvBox (I c).v 1 (highG (peer c 2)))), ((constant S8x128x128 .f32 0x00000000#32))⟩)
        -∗ WP (F := F) c (k0_part14 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v359 v362 v363) Φ) := by
  rw [k0_part14_eq_skeleton]; unfold k0_part14_skel
  simp only [semSignalWord, semWaitWord, Prog.lift, Prog.bind_op, Prog.bind_ret, Prog.pure_eq_ret, Prog.bind_assoc, wp_deviceId]
  iintro ⟨#Hctx, Hq, Hk, Hv⟩ Hcont
  iapply (ld c qM _ (qC (I c)) (qBox (I c) 1 (peer c 2)) (rd_q I c 1 (peer c 2) (k0_off5 c 3#32) _ (o5 c 2 2 rfl))) $$ Hq
  iintro Hq
  iapply (ld c qM _ (qC (I c)) (qBox (I c) 1 (opp (peer c 2))) (rd_q I c 1 (opp (peer c 2)) (k0_off6 c 3#32) _ (o6 c 2 2 rfl))) $$ Hq
  iintro Hq
  iapply (ld c kM _ (I c).k (kvBox (I c).k 1 (lowG (peer c 2))) (rd_k I c 1 (lowG (peer c 2)) (k0_off7 c 3#32) _ (o7 c 2 2 rfl))) $$ Hk
  iintro Hk
  iapply (ld c kM _ (I c).k (kvBox (I c).k 1 (highG (peer c 2))) (rd_k I c 1 (highG (peer c 2)) (k0_off8 c 3#32) _ (o8 c 2 2 rfl))) $$ Hk
  iintro Hk
  iapply (ld c vM _ (I c).v (kvBox (I c).v 1 (lowG (peer c 2))) (rd_v I c 1 (lowG (peer c 2)) (k0_off7 c 3#32) _ (o7 c 2 2 rfl))) $$ Hv
  iintro Hv
  iapply (ld c vM _ (I c).v (kvBox (I c).v 1 (highG (peer c 2))) (rd_v I c 1 (highG (peer c 2)) (k0_off8 c 3#32) _ (o8 c 2 2 rfl))) $$ Hv
  iintro Hv
  iapply (wp_done c)
  iapply Hcont
  isplitl [Hq]; · iexact Hq
  isplitl [Hk]; · iexact Hk
  iexact Hv

theorem part15_wp (v2 : BitVec 32) {Φ} :
    iprop(ctx I κ
        ∗ buf c wobM (woB (I c))
        ∗ sHalf I c 2
        ∗ sHalf I c 6)
      ⊢ iprop((∀ (v481' : BitVec 32), iprop(buf c wobM (woB (I c))
          ∗ sPts c 2 (sendC I c)
          ∗ sPts c 6 (sendC I c)) -∗ Φ v481')
        -∗ WP (F := F) c (k0_part15 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v2 (k0_pay34 (qBox (I c) 1 (peer c 2)) (qBox (I c) 1 (opp (peer c 2)))) (k0_pay35 (kvBox (I c).k 1 (lowG (peer c 2))) (kvBox (I c).k 1 (highG (peer c 2)))) (k0_pay36 (kvBox (I c).v 1 (lowG (peer c 2))) (kvBox (I c).v 1 (highG (peer c 2)))) ((constant S8x128x128 .f32 0x00000000#32))) Φ) := by
  rw [k0_part15_eq_skeleton]; unfold k0_part15_skel
  simp only [semSignalWord, semWaitWord, Prog.lift, Prog.bind_op, Prog.bind_ret, Prog.pure_eq_ret, Prog.bind_assoc, wp_deviceId]
  iintro ⟨#Hctx, Hwob, Hs2, Hs6⟩ Hcont
  iapply (ld c wobM _ (woB (I c)) (woB (I c)) (rd_wob _ _)) $$ Hwob
  iintro Hwob
  iapply (ldst_s1 I c 2 ![2, 1, 0, 0] rfl _ ((lo38 (I c) 1 (peer c 2)).trans (partV_lo I c 2 1 (by decide))) _) $$ Hs2
  iintro Hs2
  iapply (ldst_s1 I c 6 ![6, 1, 0, 0] rfl _ ((hi39 (I c) 1 (peer c 2)).trans (partV_hi I c 2 6 1 rfl)) _) $$ Hs6
  iintro Hs6
  iapply (wp_done c)
  iapply Hcont
  isplitl [Hwob]; · iexact Hwob
  isplitl [Hs2]; · iexact Hs2
  iexact Hs6

theorem part16_wp (v2 : BitVec 32) {Φ} :
    iprop(ctx I κ
        ∗ owesX c (owed c [] [2, 6, 3] [0, 1, 2, 3, 4, 5, 6])
        ∗ sPts c 2 (sendC I c)
        ∗ kitA c 2
        ∗ sPts c 6 (sendC I c)
        ∗ kitA c 6
        ∗ buf c kM (I c).k)
      ⊢ iprop((∀ (v493' : BitVec 32) (v505' : BitVec 32) (v506' : BitVec 32), iprop(owesX c (owed c [] [3] [0, 1, 2, 3, 4, 5, 6])
          ∗ buf c kM (I c).k
          ∗ credKit aS c 2
          ∗ credKit aS c 6) -∗ Φ ⟨v493', v505', v506', (k0_pay40 (kvBox (I c).k 0 (lowG (peer c 3)))), (k0_pay41 (kvBox (I c).k 0 (highG (peer c 3))))⟩)
        -∗ WP (F := F) c (k0_part16 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2) Φ) := by
  rw [k0_part16_eq_skeleton]; unfold k0_part16_skel
  simp only [semSignalWord, semWaitWord, Prog.lift, Prog.bind_op, Prog.bind_ret, Prog.pure_eq_ret, Prog.bind_assoc, wp_deviceId]
  iintro ⟨#Hctx, HO, Hs2, HkA2, Hs6, HkA6, Hk⟩ Hcont
  iapply (sendA I κ c 2 [6, 3] [0, 1, 2, 3, 4, 5, 6] ⟨k0_dev12 c, k0_dev12_lt c⟩ (Fin.ext (k0_dev12_eq c)) _ _ rfl rfl rfl rfl) $$ [HO Hs2 HkA2]
  · isplitr; · iexact Hctx
    isplitl [HO]; · iexact HO
    isplitl [Hs2]; · iexact Hs2
    iexact HkA2
  iintro ⟨HO, HcraS2⟩
  iapply (sendA I κ c 6 [3] [0, 1, 2, 3, 4, 5, 6] ⟨k0_dev13 c, k0_dev13_lt c⟩ (Fin.ext (k0_dev13_eq c)) _ _ rfl rfl rfl rfl) $$ [HO Hs6 HkA6]
  · isplitr; · iexact Hctx
    isplitl [HO]; · iexact HO
    isplitl [Hs6]; · iexact Hs6
    iexact HkA6
  iintro ⟨HO, HcraS6⟩
  iapply (ld c kM _ (I c).k (kvBox (I c).k 0 (lowG (peer c 3))) (rd_k I c 0 (lowG (peer c 3)) (k0_off3 c 4#32) _ (o3 c 3 3 rfl))) $$ Hk
  iintro Hk
  iapply (ld c kM _ (I c).k (kvBox (I c).k 0 (highG (peer c 3))) (rd_k I c 0 (highG (peer c 3)) (k0_off4 c 4#32) _ (o4 c 3 3 rfl))) $$ Hk
  iintro Hk
  iapply (wp_done c)
  iapply Hcont
  isplitl [HO]; · iexact HO
  isplitl [Hk]; · iexact Hk
  isplitl [HcraS2]; · iexact HcraS2
  iexact HcraS6

theorem part17_wp (v506 : BitVec 32) {Φ} :
    iprop(ctx I κ
        ∗ buf c vM (I c).v
        ∗ buf c kM (I c).k)
      ⊢ iprop((iprop(buf c vM (I c).v
          ∗ buf c kM (I c).k) -∗ Φ ⟨(k0_pay42 (k0_pay40 (kvBox (I c).k 0 (lowG (peer c 3)))) (k0_pay41 (kvBox (I c).k 0 (highG (peer c 3))))), (k0_pay43 (kvBox (I c).v 0 (lowG (peer c 3))) (kvBox (I c).v 0 (highG (peer c 3)))), (k0_pay44 (kvBox (I c).k 1 (lowG (peer c 3))) (kvBox (I c).k 1 (highG (peer c 3)))), (k0_pay45 (kvBox (I c).v 1 (lowG (peer c 3))) (kvBox (I c).v 1 (highG (peer c 3))))⟩)
        -∗ WP (F := F) c (k0_part17 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v506 (k0_pay40 (kvBox (I c).k 0 (lowG (peer c 3)))) (k0_pay41 (kvBox (I c).k 0 (highG (peer c 3))))) Φ) := by
  rw [k0_part17_eq_skeleton]; unfold k0_part17_skel
  simp only [semSignalWord, semWaitWord, Prog.lift, Prog.bind_op, Prog.bind_ret, Prog.pure_eq_ret, Prog.bind_assoc, wp_deviceId]
  iintro ⟨#Hctx, Hv, Hk⟩ Hcont
  iapply (ld c vM _ (I c).v (kvBox (I c).v 0 (lowG (peer c 3))) (rd_v I c 0 (lowG (peer c 3)) (k0_off3 c 4#32) _ (o3 c 3 3 rfl))) $$ Hv
  iintro Hv
  iapply (ld c vM _ (I c).v (kvBox (I c).v 0 (highG (peer c 3))) (rd_v I c 0 (highG (peer c 3)) (k0_off4 c 4#32) _ (o4 c 3 3 rfl))) $$ Hv
  iintro Hv
  iapply (ld c kM _ (I c).k (kvBox (I c).k 1 (lowG (peer c 3))) (rd_k I c 1 (lowG (peer c 3)) (k0_off7 c 4#32) _ (o7 c 3 3 rfl))) $$ Hk
  iintro Hk
  iapply (ld c kM _ (I c).k (kvBox (I c).k 1 (highG (peer c 3))) (rd_k I c 1 (highG (peer c 3)) (k0_off8 c 4#32) _ (o8 c 3 3 rfl))) $$ Hk
  iintro Hk
  iapply (ld c vM _ (I c).v (kvBox (I c).v 1 (lowG (peer c 3))) (rd_v I c 1 (lowG (peer c 3)) (k0_off7 c 4#32) _ (o7 c 3 3 rfl))) $$ Hv
  iintro Hv
  iapply (ld c vM _ (I c).v (kvBox (I c).v 1 (highG (peer c 3))) (rd_v I c 1 (highG (peer c 3)) (k0_off8 c 4#32) _ (o8 c 3 3 rfl))) $$ Hv
  iintro Hv
  iapply (wp_done c)
  iapply Hcont
  isplitl [Hv]; · iexact Hv
  iexact Hk

theorem part18_wp (v505 : BitVec 32) {Φ} :
    iprop(ctx I κ
        ∗ buf c qM (qC (I c))
        ∗ buf c wobM (woB (I c))
        ∗ (∃ f, sPts c 3 f))
      ⊢ iprop((iprop(buf c qM (qC (I c))
          ∗ buf c wobM (woB (I c))
          ∗ sHalf I c 3) -∗ Φ ⟨(k0_pay46 (k0_pay45 (kvBox (I c).v 1 (lowG (peer c 3))) (kvBox (I c).v 1 (highG (peer c 3))))), (k0_pay48 (k0_pay44 (kvBox (I c).k 1 (lowG (peer c 3))) (kvBox (I c).k 1 (highG (peer c 3)))) (k0_pay45 (kvBox (I c).v 1 (lowG (peer c 3))) (kvBox (I c).v 1 (highG (peer c 3)))) (qBox (I c) 1 (peer c 3)))⟩)
        -∗ WP (F := F) c (k0_part18 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v505 (k0_pay42 (k0_pay40 (kvBox (I c).k 0 (lowG (peer c 3)))) (k0_pay41 (kvBox (I c).k 0 (highG (peer c 3))))) (k0_pay43 (kvBox (I c).v 0 (lowG (peer c 3))) (kvBox (I c).v 0 (highG (peer c 3)))) (k0_pay44 (kvBox (I c).k 1 (lowG (peer c 3))) (kvBox (I c).k 1 (highG (peer c 3)))) (k0_pay45 (kvBox (I c).v 1 (lowG (peer c 3))) (kvBox (I c).v 1 (highG (peer c 3))))) Φ) := by
  rw [k0_part18_eq_skeleton]; unfold k0_part18_skel
  simp only [semSignalWord, semWaitWord, Prog.lift, Prog.bind_op, Prog.bind_ret, Prog.pure_eq_ret, Prog.bind_assoc, wp_deviceId]
  iintro ⟨#Hctx, Hq, Hwob, Hs3⟩ Hcont
  iapply (ld c qM _ (qC (I c)) (qBox (I c) 0 (peer c 3)) (rd_q I c 0 (peer c 3) (k0_off1 c 4#32) _ (o1 c 3 3 rfl))) $$ Hq
  iintro Hq
  iapply (ld c wobM _ (woB (I c)) (woB (I c)) (rd_wob _ _)) $$ Hwob
  iintro Hwob
  iapply (ldst_s0 I c 3 ![3, 0, 0, 0] rfl _ ((mid47 (I c) 0 (peer c 3)).trans (partV_mid I c 0)) _) $$ Hs3
  iintro Hs3
  iapply (ld c qM _ (qC (I c)) (qBox (I c) 1 (peer c 3)) (rd_q I c 1 (peer c 3) (k0_off5 c 4#32) _ (o5 c 3 3 rfl))) $$ Hq
  iintro Hq
  iapply (wp_done c)
  iapply Hcont
  isplitl [Hq]; · iexact Hq
  isplitl [Hwob]; · iexact Hwob
  iexact Hs3

theorem part19_wp (v2 : BitVec 32) {Φ} :
    iprop(ctx I κ
        ∗ buf c wobM (woB (I c))
        ∗ sHalf I c 3
        ∗ owesX c (owed c [] [3] [0, 1, 2, 3, 4, 5, 6])
        ∗ kitA c 3
        ∗ buf c qM (qC (I c)))
      ⊢ iprop((∀ (v602' : BitVec 32), iprop(buf c wobM (woB (I c))
          ∗ owesX c (owed c [] [] [0, 1, 2, 3, 4, 5, 6])
          ∗ buf c qM (qC (I c))
          ∗ credKit aS c 3) -∗ Φ ⟨v602', (k0_pay51 (k0_pay42 (k0_pay40 (kvBox (I c).k 0 (lowG (peer c 3)))) (k0_pay41 (kvBox (I c).k 0 (highG (peer c 3))))) (qBox (I c) 0 c)), (k0_pay52 (k0_pay42 (k0_pay40 (kvBox (I c).k 0 (lowG (peer c 3)))) (k0_pay41 (kvBox (I c).k 0 (highG (peer c 3))))) (qBox (I c) 0 c)), ((constant S8x64x64 .f32 0x00000000#32))⟩)
        -∗ WP (F := F) c (k0_part19 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 (k0_pay42 (k0_pay40 (kvBox (I c).k 0 (lowG (peer c 3)))) (k0_pay41 (kvBox (I c).k 0 (highG (peer c 3))))) (k0_pay48 (k0_pay44 (kvBox (I c).k 1 (lowG (peer c 3))) (kvBox (I c).k 1 (highG (peer c 3)))) (k0_pay45 (kvBox (I c).v 1 (lowG (peer c 3))) (kvBox (I c).v 1 (highG (peer c 3)))) (qBox (I c) 1 (peer c 3)))) Φ) := by
  rw [k0_part19_eq_skeleton]; unfold k0_part19_skel
  simp only [semSignalWord, semWaitWord, Prog.lift, Prog.bind_op, Prog.bind_ret, Prog.pure_eq_ret, Prog.bind_assoc, wp_deviceId]
  iintro ⟨#Hctx, Hwob, Hs3, HO, HkA3, Hq⟩ Hcont
  iapply (ld c wobM _ (woB (I c)) (woB (I c)) (rd_wob _ _)) $$ Hwob
  iintro Hwob
  iapply (ldst_s1 I c 3 ![3, 1, 0, 0] rfl _ ((mid49 (I c) 1 (peer c 3)).trans (partV_mid I c 1)) _) $$ Hs3
  iintro Hs3
  iapply (sendA I κ c 3 [] [0, 1, 2, 3, 4, 5, 6] ⟨k0_dev14 c, k0_dev14_lt c⟩ (Fin.ext (k0_dev14_eq c)) _ _ rfl rfl rfl rfl) $$ [HO Hs3 HkA3]
  · isplitr; · iexact Hctx
    isplitl [HO]; · iexact HO
    isplitl [Hs3]; · iexact Hs3
    iexact HkA3
  iintro ⟨HO, HcraS3⟩
  iapply (ld c qM _ (qC (I c)) (qBox (I c) 0 c) (rd_q I c 0 c (k0_off9 c) _ (k0_off9_eq c))) $$ Hq
  iintro Hq
  iapply (wp_done c)
  iapply Hcont
  isplitl [Hwob]; · iexact Hwob
  isplitl [HO]; · iexact HO
  isplitl [Hq]; · iexact Hq
  iexact HcraS3

theorem part20_wp (v2 : BitVec 32) (v189 : BitVec 32) {Φ} :
    iprop(ctx I κ
        ∗ buf c wobM (woB (I c))
        ∗ (∃ f, buf c accM f)
        ∗ buf c qM (qC (I c)))
      ⊢ iprop((∀ (v657' : BitVec 32) (c0_i32_485' : BitVec 32), iprop(buf c wobM (woB (I c))
          ∗ buf c accM (accC I c 0 0)
          ∗ buf c qM (qC (I c))) -∗ Φ ⟨v657', c0_i32_485'⟩)
        -∗ WP (F := F) c (k0_part20 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v189 (k0_pay43 (kvBox (I c).v 0 (lowG (peer c 3))) (kvBox (I c).v 0 (highG (peer c 3)))) (k0_pay44 (kvBox (I c).k 1 (lowG (peer c 3))) (kvBox (I c).k 1 (highG (peer c 3)))) (k0_pay46 (k0_pay45 (kvBox (I c).v 1 (lowG (peer c 3))) (kvBox (I c).v 1 (highG (peer c 3))))) (k0_pay51 (k0_pay42 (k0_pay40 (kvBox (I c).k 0 (lowG (peer c 3)))) (k0_pay41 (kvBox (I c).k 0 (highG (peer c 3))))) (qBox (I c) 0 c)) (k0_pay52 (k0_pay42 (k0_pay40 (kvBox (I c).k 0 (lowG (peer c 3)))) (k0_pay41 (kvBox (I c).k 0 (highG (peer c 3))))) (qBox (I c) 0 c)) ((constant S8x64x64 .f32 0x00000000#32))) Φ) := by
  rw [k0_part20_eq_skeleton]; unfold k0_part20_skel
  simp only [semSignalWord, semWaitWord, Prog.lift, Prog.bind_op, Prog.bind_ret, Prog.pure_eq_ret, Prog.bind_assoc, wp_deviceId]
  iintro ⟨#Hctx, Hwob, Hacc, Hq⟩ Hcont
  iapply (ld c wobM _ (woB (I c)) (woB (I c)) (rd_wob _ _)) $$ Hwob
  iintro Hwob
  icases Hacc with ⟨%f_acc, Hacc⟩
  iapply (ld c accM _ f_acc _ rfl) $$ Hacc
  iintro Hacc
  iapply (st_own0 I c f_acc _ (pay53_eq (I c) 0 (peer c 3) c) _) $$ Hacc
  iintro %fa %ha0 Hacc
  iapply (ld c qM _ (qC (I c)) (qBox (I c) 1 c) (rd_q I c 1 c (k0_off10 c) _ (k0_off10_eq c))) $$ Hq
  iintro Hq
  iapply (ld c wobM _ (woB (I c)) (woB (I c)) (rd_wob _ _)) $$ Hwob
  iintro Hwob
  iapply (ld c accM _ fa _ rfl) $$ Hacc
  iintro Hacc
  iapply (st c accM _ fa (accC I c 0 0) _ (wr_own1 I c fa ha0 _ (own54 (I c) (peer c 3) c) _)) $$ Hacc
  iintro Hacc
  iapply (wp_done c)
  iapply Hcont
  isplitl [Hwob]; · iexact Hwob
  isplitl [Hacc]; · iexact Hacc
  iexact Hq

end Parts

end Cert.Exchange

end
-- ==== Proof.PartC.lean ====
/-
# The parts of the kernel body: the partial results that arrive are added up

One rule for each part of the compiled body, at a device `c`: the resources it uses, what it leaves, and the values it
returns.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Dev nD → Inp F) (κ : GSem nD τ sig → ℕ) (c : Dev nD)

theorem part21_wp (v201 : BitVec 32) (v657 : BitVec 32) (c0_i32_485 : BitVec 32) {Φ} :
    iprop(ctx I κ
        ∗ owesX c (owed c [] [] [0, 1, 2, 3, 4, 5, 6])
        ∗ credKit aR c 0
        ∗ posKit aR c 0
        ∗ buf c accM (accC I c 0 0))
      ⊢ iprop((∀ (v683' : BitVec 32), iprop(owesX c (owed c [] [] [0, 1, 2, 3, 4, 5, 6])
          ∗ buf c accM (accC I c 1 1)
          ∗ doneKit aR c 0
          ∗ rPts c 0 (recvC I c)) -∗ Φ v683')
        -∗ WP (F := F) c (k0_part21 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v201 v657 c0_i32_485) Φ) := by
  rw [k0_part21_eq_skeleton]; unfold k0_part21_skel
  simp only [semSignalWord, semWaitWord, Prog.lift, Prog.bind_op, Prog.bind_ret, Prog.pure_eq_ret, Prog.bind_assoc, wp_deviceId]
  iintro ⟨#Hctx, HO, HcraR0, HposaR0, Hacc⟩ Hcont
  iapply (wp_waitX I κ c aR 0 [] [0, 1, 2, 3, 4, 5, 6] 2 (lv_aR 0) (.inl rfl) (.inl (by decide)) _ rfl (credit_r 0)) $$ [HO HcraR0 HposaR0]
  · isplitr; · iexact Hctx
    isplitl [HO]; · iexact HO
    isplitl [HcraR0]; · iexact HcraR0
    iexact HposaR0
  iintro ⟨HO, HdoneaR0, Hr0⟩
  ihave Hr0 := (xfer_aR I c 0) $$ Hr0
  iapply (ld c accM _ (accC I c 0 0) (accB I c 0 0) (rd_acc0 I c 0 0 _)) $$ Hacc
  iintro Hacc
  iapply (ld_r I c 0 0 ![0, 0, 0, 0] rfl _) $$ Hr0
  iintro Hr0
  iapply (ld c accM _ ((accC I c 0 0)) _ rfl) $$ Hacc
  iintro Hacc
  iapply (st c accM _ (accC I c 0 0) (accC I c 1 0) _ (wr_acc0 I c 0 0 _ (acc_step I c 0 0 0 rfl) _)) $$ Hacc
  iintro Hacc
  iapply (ld c accM _ (accC I c 1 0) (accB I c 1 0) (rd_acc1 I c 1 0 _)) $$ Hacc
  iintro Hacc
  iapply (ld_r I c 0 1 ![0, 1, 0, 0] rfl _) $$ Hr0
  iintro Hr0
  iapply (ld c accM _ ((accC I c 1 0)) _ rfl) $$ Hacc
  iintro Hacc
  iapply (st c accM _ (accC I c 1 0) (accC I c 1 1) _ (wr_acc1 I c 1 0 _ (acc_step I c 1 0 0 rfl) _)) $$ Hacc
  iintro Hacc
  iapply (wp_done c)
  iapply Hcont
  isplitl [HO]; · iexact HO
  isplitl [Hacc]; · iexact Hacc
  isplitl [HdoneaR0]; · iexact HdoneaR0
  iexact Hr0

theorem part22_wp (v683 : BitVec 32) {Φ} :
    iprop(ctx I κ
        ∗ owesX c (owed c [] [] [0, 1, 2, 3, 4, 5, 6])
        ∗ credKit aR c 4
        ∗ posKit aR c 4
        ∗ buf c accM (accC I c 1 1))
      ⊢ iprop((∀ (c1_i32_548' : BitVec 32), iprop(owesX c (owed c [] [] [0, 1, 2, 3, 4, 5, 6])
          ∗ buf c accM (accC I c 2 2)
          ∗ doneKit aR c 4
          ∗ rPts c 4 (recvC I c)) -∗ Φ c1_i32_548')
        -∗ WP (F := F) c (k0_part22 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v683) Φ) := by
  rw [k0_part22_eq_skeleton]; unfold k0_part22_skel
  simp only [semSignalWord, semWaitWord, Prog.lift, Prog.bind_op, Prog.bind_ret, Prog.pure_eq_ret, Prog.bind_assoc, wp_deviceId]
  iintro ⟨#Hctx, HO, HcraR4, HposaR4, Hacc⟩ Hcont
  iapply (wp_waitX I κ c aR 4 [] [0, 1, 2, 3, 4, 5, 6] 2 (lv_aR 4) (.inl rfl) (.inl (by decide)) _ rfl (credit_r 4)) $$ [HO HcraR4 HposaR4]
  · isplitr; · iexact Hctx
    isplitl [HO]; · iexact HO
    isplitl [HcraR4]; · iexact HcraR4
    iexact HposaR4
  iintro ⟨HO, HdoneaR4, Hr4⟩
  ihave Hr4 := (xfer_aR I c 4) $$ Hr4
  iapply (ld c accM _ (accC I c 1 1) (accB I c 0 1) (rd_acc0 I c 1 1 _)) $$ Hacc
  iintro Hacc
  iapply (ld_r I c 4 0 ![4, 0, 0, 0] rfl _) $$ Hr4
  iintro Hr4
  iapply (ld c accM _ ((accC I c 1 1)) _ rfl) $$ Hacc
  iintro Hacc
  iapply (st c accM _ (accC I c 1 1) (accC I c 2 1) _ (wr_acc0 I c 1 1 _ (acc_step I c 0 1 4 rfl) _)) $$ Hacc
  iintro Hacc
  iapply (ld c accM _ (accC I c 2 1) (accB I c 1 1) (rd_acc1 I c 2 1 _)) $$ Hacc
  iintro Hacc
  iapply (ld_r I c 4 1 ![4, 1, 0, 0] rfl _) $$ Hr4
  iintro Hr4
  iapply (ld c accM _ ((accC I c 2 1)) _ rfl) $$ Hacc
  iintro Hacc
  iapply (st c accM _ (accC I c 2 1) (accC I c 2 2) _ (wr_acc1 I c 2 1 _ (acc_step I c 1 1 4 rfl) _)) $$ Hacc
  iintro Hacc
  iapply (wp_done c)
  iapply Hcont
  isplitl [HO]; · iexact HO
  isplitl [Hacc]; · iexact Hacc
  isplitl [HdoneaR4]; · iexact HdoneaR4
  iexact Hr4

theorem part23_wp (v335 : BitVec 32) (c1_i32_548 : BitVec 32) {Φ} :
    iprop(ctx I κ
        ∗ owesX c (owed c [] [] [0, 1, 2, 3, 4, 5, 6])
        ∗ credKit aR c 1
        ∗ posKit aR c 1
        ∗ buf c accM (accC I c 2 2))
      ⊢ iprop((iprop(owesX c (owed c [] [] [0, 1, 2, 3, 4, 5, 6])
          ∗ buf c accM (accC I c 3 3)
          ∗ doneKit aR c 1
          ∗ rPts c 1 (recvC I c)) -∗ Φ ⟨⟩)
        -∗ WP (F := F) c (k0_part23 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v335 c1_i32_548) Φ) := by
  rw [k0_part23_eq_skeleton]; unfold k0_part23_skel
  simp only [semSignalWord, semWaitWord, Prog.lift, Prog.bind_op, Prog.bind_ret, Prog.pure_eq_ret, Prog.bind_assoc, wp_deviceId]
  iintro ⟨#Hctx, HO, HcraR1, HposaR1, Hacc⟩ Hcont
  iapply (wp_waitX I κ c aR 1 [] [0, 1, 2, 3, 4, 5, 6] 2 (lv_aR 1) (.inl rfl) (.inl (by decide)) _ rfl (credit_r 1)) $$ [HO HcraR1 HposaR1]
  · isplitr; · iexact Hctx
    isplitl [HO]; · iexact HO
    isplitl [HcraR1]; · iexact HcraR1
    iexact HposaR1
  iintro ⟨HO, HdoneaR1, Hr1⟩
  ihave Hr1 := (xfer_aR I c 1) $$ Hr1
  iapply (ld c accM _ (accC I c 2 2) (accB I c 0 2) (rd_acc0 I c 2 2 _)) $$ Hacc
  iintro Hacc
  iapply (ld_r I c 1 0 ![1, 0, 0, 0] rfl _) $$ Hr1
  iintro Hr1
  iapply (ld c accM _ ((accC I c 2 2)) _ rfl) $$ Hacc
  iintro Hacc
  iapply (st c accM _ (accC I c 2 2) (accC I c 3 2) _ (wr_acc0 I c 2 2 _ (acc_step I c 0 2 1 rfl) _)) $$ Hacc
  iintro Hacc
  iapply (ld c accM _ (accC I c 3 2) (accB I c 1 2) (rd_acc1 I c 3 2 _)) $$ Hacc
  iintro Hacc
  iapply (ld_r I c 1 1 ![1, 1, 0, 0] rfl _) $$ Hr1
  iintro Hr1
  iapply (ld c accM _ ((accC I c 3 2)) _ rfl) $$ Hacc
  iintro Hacc
  iapply (st c accM _ (accC I c 3 2) (accC I c 3 3) _ (wr_acc1 I c 3 2 _ (acc_step I c 1 2 1 rfl) _)) $$ Hacc
  iintro Hacc
  iapply (wp_done c)
  iapply Hcont
  isplitl [HO]; · iexact HO
  isplitl [Hacc]; · iexact Hacc
  isplitl [HdoneaR1]; · iexact HdoneaR1
  iexact Hr1

theorem part24_wp (v347 : BitVec 32) {Φ} :
    iprop(ctx I κ
        ∗ owesX c (owed c [] [] [0, 1, 2, 3, 4, 5, 6])
        ∗ credKit aR c 5
        ∗ posKit aR c 5
        ∗ buf c accM (accC I c 3 3))
      ⊢ iprop((iprop(owesX c (owed c [] [] [0, 1, 2, 3, 4, 5, 6])
          ∗ buf c accM (accC I c 4 4)
          ∗ doneKit aR c 5
          ∗ rPts c 5 (recvC I c)) -∗ Φ ⟨⟩)
        -∗ WP (F := F) c (k0_part24 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v347) Φ) := by
  rw [k0_part24_eq_skeleton]; unfold k0_part24_skel
  simp only [semSignalWord, semWaitWord, Prog.lift, Prog.bind_op, Prog.bind_ret, Prog.pure_eq_ret, Prog.bind_assoc, wp_deviceId]
  iintro ⟨#Hctx, HO, HcraR5, HposaR5, Hacc⟩ Hcont
  iapply (wp_waitX I κ c aR 5 [] [0, 1, 2, 3, 4, 5, 6] 2 (lv_aR 5) (.inl rfl) (.inl (by decide)) _ rfl (credit_r 5)) $$ [HO HcraR5 HposaR5]
  · isplitr; · iexact Hctx
    isplitl [HO]; · iexact HO
    isplitl [HcraR5]; · iexact HcraR5
    iexact HposaR5
  iintro ⟨HO, HdoneaR5, Hr5⟩
  ihave Hr5 := (xfer_aR I c 5) $$ Hr5
  iapply (ld c accM _ (accC I c 3 3) (accB I c 0 3) (rd_acc0 I c 3 3 _)) $$ Hacc
  iintro Hacc
  iapply (ld_r I c 5 0 ![5, 0, 0, 0] rfl _) $$ Hr5
  iintro Hr5
  iapply (ld c accM _ ((accC I c 3 3)) _ rfl) $$ Hacc
  iintro Hacc
  iapply (st c accM _ (accC I c 3 3) (accC I c 4 3) _ (wr_acc0 I c 3 3 _ (acc_step I c 0 3 5 rfl) _)) $$ Hacc
  iintro Hacc
  iapply (ld c accM _ (accC I c 4 3) (accB I c 1 3) (rd_acc1 I c 4 3 _)) $$ Hacc
  iintro Hacc
  iapply (ld_r I c 5 1 ![5, 1, 0, 0] rfl _) $$ Hr5
  iintro Hr5
  iapply (ld c accM _ ((accC I c 4 3)) _ rfl) $$ Hacc
  iintro Hacc
  iapply (st c accM _ (accC I c 4 3) (accC I c 4 4) _ (wr_acc1 I c 4 3 _ (acc_step I c 1 3 5 rfl) _)) $$ Hacc
  iintro Hacc
  iapply (wp_done c)
  iapply Hcont
  isplitl [HO]; · iexact HO
  isplitl [Hacc]; · iexact Hacc
  isplitl [HdoneaR5]; · iexact HdoneaR5
  iexact Hr5

theorem part25_wp (v481 : BitVec 32) {Φ} :
    iprop(ctx I κ
        ∗ owesX c (owed c [] [] [0, 1, 2, 3, 4, 5, 6])
        ∗ credKit aR c 2
        ∗ posKit aR c 2
        ∗ buf c accM (accC I c 4 4))
      ⊢ iprop((iprop(owesX c (owed c [] [] [0, 1, 2, 3, 4, 5, 6])
          ∗ buf c accM (accC I c 5 5)
          ∗ doneKit aR c 2
          ∗ rPts c 2 (recvC I c)) -∗ Φ ⟨⟩)
        -∗ WP (F := F) c (k0_part25 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v481) Φ) := by
  rw [k0_part25_eq_skeleton]; unfold k0_part25_skel
  simp only [semSignalWord, semWaitWord, Prog.lift, Prog.bind_op, Prog.bind_ret, Prog.pure_eq_ret, Prog.bind_assoc, wp_deviceId]
  iintro ⟨#Hctx, HO, HcraR2, HposaR2, Hacc⟩ Hcont
  iapply (wp_waitX I κ c aR 2 [] [0, 1, 2, 3, 4, 5, 6] 2 (lv_aR 2) (.inl rfl) (.inl (by decide)) _ rfl (credit_r 2)) $$ [HO HcraR2 HposaR2]
  · isplitr; · iexact Hctx
    isplitl [HO]; · iexact HO
    isplitl [HcraR2]; · iexact HcraR2
    iexact HposaR2
  iintro ⟨HO, HdoneaR2, Hr2⟩
  ihave Hr2 := (xfer_aR I c 2) $$ Hr2
  iapply (ld c accM _ (accC I c 4 4) (accB I c 0 4) (rd_acc0 I c 4 4 _)) $$ Hacc
  iintro Hacc
  iapply (ld_r I c 2 0 ![2, 0, 0, 0] rfl _) $$ Hr2
  iintro Hr2
  iapply (ld c accM _ ((accC I c 4 4)) _ rfl) $$ Hacc
  iintro Hacc
  iapply (st c accM _ (accC I c 4 4) (accC I c 5 4) _ (wr_acc0 I c 4 4 _ (acc_step I c 0 4 2 rfl) _)) $$ Hacc
  iintro Hacc
  iapply (ld c accM _ (accC I c 5 4) (accB I c 1 4) (rd_acc1 I c 5 4 _)) $$ Hacc
  iintro Hacc
  iapply (ld_r I c 2 1 ![2, 1, 0, 0] rfl _) $$ Hr2
  iintro Hr2
  iapply (ld c accM _ ((accC I c 5 4)) _ rfl) $$ Hacc
  iintro Hacc
  iapply (st c accM _ (accC I c 5 4) (accC I c 5 5) _ (wr_acc1 I c 5 4 _ (acc_step I c 1 4 2 rfl) _)) $$ Hacc
  iintro Hacc
  iapply (wp_done c)
  iapply Hcont
  isplitl [HO]; · iexact HO
  isplitl [Hacc]; · iexact Hacc
  isplitl [HdoneaR2]; · iexact HdoneaR2
  iexact Hr2

theorem part26_wp (v493 : BitVec 32) {Φ} :
    iprop(ctx I κ
        ∗ owesX c (owed c [] [] [0, 1, 2, 3, 4, 5, 6])
        ∗ credKit aR c 6
        ∗ posKit aR c 6
        ∗ buf c accM (accC I c 5 5))
      ⊢ iprop((iprop(owesX c (owed c [] [] [0, 1, 2, 3, 4, 5, 6])
          ∗ buf c accM (accC I c 6 6)
          ∗ doneKit aR c 6
          ∗ rPts c 6 (recvC I c)) -∗ Φ ⟨⟩)
        -∗ WP (F := F) c (k0_part26 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v493) Φ) := by
  rw [k0_part26_eq_skeleton]; unfold k0_part26_skel
  simp only [semSignalWord, semWaitWord, Prog.lift, Prog.bind_op, Prog.bind_ret, Prog.pure_eq_ret, Prog.bind_assoc, wp_deviceId]
  iintro ⟨#Hctx, HO, HcraR6, HposaR6, Hacc⟩ Hcont
  iapply (wp_waitX I κ c aR 6 [] [0, 1, 2, 3, 4, 5, 6] 2 (lv_aR 6) (.inl rfl) (.inl (by decide)) _ rfl (credit_r 6)) $$ [HO HcraR6 HposaR6]
  · isplitr; · iexact Hctx
    isplitl [HO]; · iexact HO
    isplitl [HcraR6]; · iexact HcraR6
    iexact HposaR6
  iintro ⟨HO, HdoneaR6, Hr6⟩
  ihave Hr6 := (xfer_aR I c 6) $$ Hr6
  iapply (ld c accM _ (accC I c 5 5) (accB I c 0 5) (rd_acc0 I c 5 5 _)) $$ Hacc
  iintro Hacc
  iapply (ld_r I c 6 0 ![6, 0, 0, 0] rfl _) $$ Hr6
  iintro Hr6
  iapply (ld c accM _ ((accC I c 5 5)) _ rfl) $$ Hacc
  iintro Hacc
  iapply (st c accM _ (accC I c 5 5) (accC I c 6 5) _ (wr_acc0 I c 5 5 _ (acc_step I c 0 5 6 rfl) _)) $$ Hacc
  iintro Hacc
  iapply (ld c accM _ (accC I c 6 5) (accB I c 1 5) (rd_acc1 I c 6 5 _)) $$ Hacc
  iintro Hacc
  iapply (ld_r I c 6 1 ![6, 1, 0, 0] rfl _) $$ Hr6
  iintro Hr6
  iapply (ld c accM _ ((accC I c 6 5)) _ rfl) $$ Hacc
  iintro Hacc
  iapply (st c accM _ (accC I c 6 5) (accC I c 6 6) _ (wr_acc1 I c 6 5 _ (acc_step I c 1 5 6 rfl) _)) $$ Hacc
  iintro Hacc
  iapply (wp_done c)
  iapply Hcont
  isplitl [HO]; · iexact HO
  isplitl [Hacc]; · iexact Hacc
  isplitl [HdoneaR6]; · iexact HdoneaR6
  iexact Hr6

theorem part27_wp (v602 : BitVec 32) {Φ} :
    iprop(ctx I κ
        ∗ owesX c (owed c [] [] [0, 1, 2, 3, 4, 5, 6])
        ∗ credKit aR c 3
        ∗ posKit aR c 3
        ∗ buf c accM (accC I c 6 6))
      ⊢ iprop((iprop(owesX c (owed c [] [] [0, 1, 2, 3, 4, 5, 6])
          ∗ buf c accM (accC I c 7 7)
          ∗ doneKit aR c 3
          ∗ rPts c 3 (recvC I c)) -∗ Φ ⟨⟩)
        -∗ WP (F := F) c (k0_part27 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 v602) Φ) := by
  rw [k0_part27_eq_skeleton]; unfold k0_part27_skel
  simp only [semSignalWord, semWaitWord, Prog.lift, Prog.bind_op, Prog.bind_ret, Prog.pure_eq_ret, Prog.bind_assoc, wp_deviceId]
  iintro ⟨#Hctx, HO, HcraR3, HposaR3, Hacc⟩ Hcont
  iapply (wp_waitX I κ c aR 3 [] [0, 1, 2, 3, 4, 5, 6] 2 (lv_aR 3) (.inl rfl) (.inl (by decide)) _ rfl (credit_r 3)) $$ [HO HcraR3 HposaR3]
  · isplitr; · iexact Hctx
    isplitl [HO]; · iexact HO
    isplitl [HcraR3]; · iexact HcraR3
    iexact HposaR3
  iintro ⟨HO, HdoneaR3, Hr3⟩
  ihave Hr3 := (xfer_aR I c 3) $$ Hr3
  iapply (ld c accM _ (accC I c 6 6) (accB I c 0 6) (rd_acc0 I c 6 6 _)) $$ Hacc
  iintro Hacc
  iapply (ld_r I c 3 0 ![3, 0, 0, 0] rfl _) $$ Hr3
  iintro Hr3
  iapply (ld c accM _ ((accC I c 6 6)) _ rfl) $$ Hacc
  iintro Hacc
  iapply (st c accM _ (accC I c 6 6) (accC I c 7 6) _ (wr_acc0 I c 6 6 _ (acc_step I c 0 6 3 rfl) _)) $$ Hacc
  iintro Hacc
  iapply (ld c accM _ (accC I c 7 6) (accB I c 1 6) (rd_acc1 I c 7 6 _)) $$ Hacc
  iintro Hacc
  iapply (ld_r I c 3 1 ![3, 1, 0, 0] rfl _) $$ Hr3
  iintro Hr3
  iapply (ld c accM _ ((accC I c 7 6)) _ rfl) $$ Hacc
  iintro Hacc
  iapply (st c accM _ (accC I c 7 6) (accC I c 7 7) _ (wr_acc1 I c 7 6 _ (acc_step I c 1 6 3 rfl) _)) $$ Hacc
  iintro Hacc
  iapply (wp_done c)
  iapply Hcont
  isplitl [HO]; · iexact HO
  isplitl [Hacc]; · iexact Hacc
  isplitl [HdoneaR3]; · iexact HdoneaR3
  iexact Hr3

end Parts

end Cert.Exchange

end
-- ==== Proof.PartD.lean ====
/-
# The parts of the kernel body: the finished chunk is stored, rounded and sent to the seven others

One rule for each part of the compiled body, at a device `c`: the resources it uses, what it leaves, and the values it
returns.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Dev nD → Inp F) (κ : GSem nD τ sig → ℕ) (c : Dev nD)

theorem part28_wp (fo : Vec F S2x512x768 .f32) (v2 : BitVec 32) {Φ} :
    iprop(ctx I κ
        ∗ buf c accM (accC I c 7 7)
        ∗ buf c oM fo
        ∗ (∃ f, buf c rowM f)
        ∗ owesX c (owed c [] [] [0, 1, 2, 3, 4, 5, 6])
        ∗ kitG c 0)
      ⊢ iprop((∀ (v849' : BitVec 32) (v859' : BitVec 32), iprop(buf c accM (accC I c 7 7)
          ∗ buf c oM (outP I c fo 0)
          ∗ owesX c (owed c [] [] [1, 2, 3, 4, 5, 6])
          ∗ rowPts (Transfers.shareDrop fullShare 7) c (rowsC I c)
          ∗ rowPts (rowShare 1) c (rowsC I c)
          ∗ rowPts (rowShare 2) c (rowsC I c)
          ∗ rowPts (rowShare 3) c (rowsC I c)
          ∗ rowPts (rowShare 4) c (rowsC I c)
          ∗ rowPts (rowShare 5) c (rowsC I c)
          ∗ rowPts (rowShare 6) c (rowsC I c)
          ∗ credKit gS c 0) -∗ Φ ⟨v849', v859'⟩)
        -∗ WP (F := F) c (k0_part28 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2) Φ) := by
  rw [k0_part28_eq_skeleton]; unfold k0_part28_skel
  simp only [semSignalWord, semWaitWord, Prog.lift, Prog.bind_op, Prog.bind_ret, Prog.pure_eq_ret, Prog.bind_assoc, wp_deviceId]
  iintro ⟨#Hctx, Hacc, Ho, Hrow, HO, HkG0⟩ Hcont
  iapply (ld c accM _ (accC I c 7 7) (doneC I c) (rd_accW _ _)) $$ Hacc
  iintro Hacc
  iapply (ld c oM _ fo _ rfl) $$ Ho
  iintro Ho
  iapply (st c oM _ fo (outP I c fo 0) _ (wr_out_own I c fo (k0_off11 c) (k0_off11_eq c) _)) $$ Ho
  iintro Ho
  iapply (ld c accM _ (accC I c 7 7) (doneC I c) (rd_accW _ _)) $$ Hacc
  iintro Hacc
  icases Hrow with ⟨%f_row, Hrow⟩
  iapply (ld c rowM _ f_row _ rfl) $$ Hrow
  iintro Hrow
  iapply (st c rowM _ f_row (rowsC I c) _ (wr_rowW f_row _ _)) $$ Hrow
  iintro Hrow
  ihave Hrow := (rows_split c (rowsC I c)) $$ Hrow
  icases Hrow with ⟨Hrw, Hrow0, Hrow1, Hrow2, Hrow3, Hrow4, Hrow5, Hrow6⟩
  iapply (sendG I κ c 0 [1, 2, 3, 4, 5, 6] ⟨k0_dev15 c, k0_dev15_lt c⟩ (Fin.ext (k0_dev15_eq c)) _ _ rfl rfl rfl) $$ [HO Hrow0 HkG0]
  · isplitr; · iexact Hctx
    isplitl [HO]; · iexact HO
    isplitl [Hrow0]; · iexact Hrow0
    iexact HkG0
  iintro ⟨HO, HcrgS0⟩
  iapply (wp_done c)
  iapply Hcont
  isplitl [Hacc]; · iexact Hacc
  isplitl [Ho]; · iexact Ho
  isplitl [HO]; · iexact HO
  isplitl [Hrw]; · iexact Hrw
  isplitl [Hrow1]; · iexact Hrow1
  isplitl [Hrow2]; · iexact Hrow2
  isplitl [Hrow3]; · iexact Hrow3
  isplitl [Hrow4]; · iexact Hrow4
  isplitl [Hrow5]; · iexact Hrow5
  isplitl [Hrow6]; · iexact Hrow6
  iexact HcrgS0

theorem part29_wp (v2 : BitVec 32) {Φ} :
    iprop(ctx I κ
        ∗ owesX c (owed c [] [] [1, 2, 3, 4, 5, 6])
        ∗ rowPts (rowShare 1) c (rowsC I c)
        ∗ kitG c 1
        ∗ rowPts (rowShare 2) c (rowsC I c)
        ∗ kitG c 2
        ∗ rowPts (rowShare 3) c (rowsC I c)
        ∗ kitG c 3)
      ⊢ iprop((∀ (v869' : BitVec 32) (v879' : BitVec 32) (v889' : BitVec 32), iprop(owesX c (owed c [] [] [4, 5, 6])
          ∗ credKit gS c 1
          ∗ credKit gS c 2
          ∗ credKit gS c 3) -∗ Φ ⟨v869', v879', v889'⟩)
        -∗ WP (F := F) c (k0_part29 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2) Φ) := by
  rw [k0_part29_eq_skeleton]; unfold k0_part29_skel
  simp only [semSignalWord, semWaitWord, Prog.lift, Prog.bind_op, Prog.bind_ret, Prog.pure_eq_ret, Prog.bind_assoc, wp_deviceId]
  iintro ⟨#Hctx, HO, Hrow1, HkG1, Hrow2, HkG2, Hrow3, HkG3⟩ Hcont
  iapply (sendG I κ c 1 [2, 3, 4, 5, 6] ⟨k0_dev16 c, k0_dev16_lt c⟩ (Fin.ext (k0_dev16_eq c)) _ _ rfl rfl rfl) $$ [HO Hrow1 HkG1]
  · isplitr; · iexact Hctx
    isplitl [HO]; · iexact HO
    isplitl [Hrow1]; · iexact Hrow1
    iexact HkG1
  iintro ⟨HO, HcrgS1⟩
  iapply (sendG I κ c 2 [3, 4, 5, 6] ⟨k0_dev17 c, k0_dev17_lt c⟩ (Fin.ext (k0_dev17_eq c)) _ _ rfl rfl rfl) $$ [HO Hrow2 HkG2]
  · isplitr; · iexact Hctx
    isplitl [HO]; · iexact HO
    isplitl [Hrow2]; · iexact Hrow2
    iexact HkG2
  iintro ⟨HO, HcrgS2⟩
  iapply (sendG I κ c 3 [4, 5, 6] ⟨k0_dev18 c, k0_dev18_lt c⟩ (Fin.ext (k0_dev18_eq c)) _ _ rfl rfl rfl) $$ [HO Hrow3 HkG3]
  · isplitr; · iexact Hctx
    isplitl [HO]; · iexact HO
    isplitl [Hrow3]; · iexact Hrow3
    iexact HkG3
  iintro ⟨HO, HcrgS3⟩
  iapply (wp_done c)
  iapply Hcont
  isplitl [HO]; · iexact HO
  isplitl [HcrgS1]; · iexact HcrgS1
  isplitl [HcrgS2]; · iexact HcrgS2
  iexact HcrgS3

theorem part30_wp (v2 : BitVec 32) (v849 : BitVec 32) {Φ} :
    iprop(ctx I κ
        ∗ owesX c (owed c [] [] [4, 5, 6])
        ∗ rowPts (rowShare 4) c (rowsC I c)
        ∗ kitG c 4
        ∗ rowPts (rowShare 5) c (rowsC I c)
        ∗ kitG c 5
        ∗ rowPts (rowShare 6) c (rowsC I c)
        ∗ kitG c 6)
      ⊢ iprop((∀ (v899' : BitVec 32) (v909' : BitVec 32), iprop(owesX c (owed c [] [] [])
          ∗ credKit gS c 4
          ∗ credKit gS c 5
          ∗ credKit gS c 6) -∗ Φ ⟨v899', v909'⟩)
        -∗ WP (F := F) c (k0_part30 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v849) Φ) := by
  rw [k0_part30_eq_skeleton]; unfold k0_part30_skel
  simp only [semSignalWord, semWaitWord, Prog.lift, Prog.bind_op, Prog.bind_ret, Prog.pure_eq_ret, Prog.bind_assoc, wp_deviceId]
  iintro ⟨#Hctx, HO, Hrow4, HkG4, Hrow5, HkG5, Hrow6, HkG6⟩ Hcont
  iapply (sendG I κ c 4 [5, 6] ⟨k0_dev19 c, k0_dev19_lt c⟩ (Fin.ext (k0_dev19_eq c)) _ _ rfl rfl rfl) $$ [HO Hrow4 HkG4]
  · isplitr; · iexact Hctx
    isplitl [HO]; · iexact HO
    isplitl [Hrow4]; · iexact Hrow4
    iexact HkG4
  iintro ⟨HO, HcrgS4⟩
  iapply (sendG I κ c 5 [6] ⟨k0_dev20 c, k0_dev20_lt c⟩ (Fin.ext (k0_dev20_eq c)) _ _ rfl rfl rfl) $$ [HO Hrow5 HkG5]
  · isplitr; · iexact Hctx
    isplitl [HO]; · iexact HO
    isplitl [Hrow5]; · iexact Hrow5
    iexact HkG5
  iintro ⟨HO, HcrgS5⟩
  iapply (sendG I κ c 6 [] ⟨k0_dev21 c, k0_dev21_lt c⟩ (Fin.ext (k0_dev21_eq c)) _ _ rfl rfl rfl) $$ [HO Hrow6 HkG6]
  · isplitr; · iexact Hctx
    isplitl [HO]; · iexact HO
    isplitl [Hrow6]; · iexact Hrow6
    iexact HkG6
  iintro ⟨HO, HcrgS6⟩
  iapply (wp_done c)
  iapply Hcont
  isplitl [HO]; · iexact HO
  isplitl [HcrgS4]; · iexact HcrgS4
  isplitl [HcrgS5]; · iexact HcrgS5
  iexact HcrgS6

end Parts

end Cert.Exchange

end
-- ==== Proof.PartE.lean ====
/-
# The parts of the kernel body: the other chunks arrive and are stored

One rule for each part of the compiled body, at a device `c`: the resources it uses, what it leaves, and the values it
returns.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Dev nD → Inp F) (κ : GSem nD τ sig → ℕ) (c : Dev nD)

theorem part31_wp (fo : Vec F S2x512x768 .f32) (v2 : BitVec 32) (v859 : BitVec 32) {Φ} :
    iprop(ctx I κ
        ∗ owesX c (owed c [] [] [])
        ∗ credKit gR c 0
        ∗ posKit gR c 0
        ∗ buf c oM (outP I c fo 0)
        ∗ credKit gR c 1
        ∗ posKit gR c 1)
      ⊢ iprop((iprop(owesX c (owed c [] [] [])
          ∗ buf c oM (outP I c fo 2)
          ∗ doneKit gR c 0
          ∗ gPts c 0 (gathC I c)
          ∗ doneKit gR c 1
          ∗ gPts c 1 (gathC I c)) -∗ Φ ⟨⟩)
        -∗ WP (F := F) c (k0_part31 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v859) Φ) := by
  rw [k0_part31_eq_skeleton]; unfold k0_part31_skel
  simp only [semSignalWord, semWaitWord, Prog.lift, Prog.bind_op, Prog.bind_ret, Prog.pure_eq_ret, Prog.bind_assoc, wp_deviceId]
  iintro ⟨#Hctx, HO, HcrgR0, HposgR0, Ho, HcrgR1, HposgR1⟩ Hcont
  iapply (wp_waitX I κ c gR 0 [] [] 3 (lv_gR 0) (.inl rfl) (.inr rfl) _ rfl (credit_g 0)) $$ [HO HcrgR0 HposgR0]
  · isplitr; · iexact Hctx
    isplitl [HO]; · iexact HO
    isplitl [HcrgR0]; · iexact HcrgR0
    iexact HposgR0
  iintro ⟨HO, HdonegR0, Hg0⟩
  ihave Hg0 := (xfer_gR I c 0) $$ Hg0
  iapply (ld_g I c 0 ![0, 0, 0, 0] rfl _) $$ Hg0
  iintro Hg0
  iapply (ld c oM _ ((outP I c fo 0)) _ rfl) $$ Ho
  iintro Ho
  iapply (st c oM _ (outP I c fo 0) (outP I c fo 1) _ (wr_out_slot I c fo 0 0 rfl _ rfl (k0_off12 c 1#32) (o12 c 0) _)) $$ Ho
  iintro Ho
  iapply (wp_waitX I κ c gR 1 [] [] 3 (lv_gR 1) (.inl rfl) (.inr rfl) _ rfl (credit_g 1)) $$ [HO HcrgR1 HposgR1]
  · isplitr; · iexact Hctx
    isplitl [HO]; · iexact HO
    isplitl [HcrgR1]; · iexact HcrgR1
    iexact HposgR1
  iintro ⟨HO, HdonegR1, Hg1⟩
  ihave Hg1 := (xfer_gR I c 1) $$ Hg1
  iapply (ld_g I c 1 ![1, 0, 0, 0] rfl _) $$ Hg1
  iintro Hg1
  iapply (ld c oM _ ((outP I c fo 1)) _ rfl) $$ Ho
  iintro Ho
  iapply (st c oM _ (outP I c fo 1) (outP I c fo 2) _ (wr_out_slot I c fo 1 1 rfl _ rfl (k0_off12 c 2#32) (o12 c 1) _)) $$ Ho
  iintro Ho
  iapply (wp_done c)
  iapply Hcont
  isplitl [HO]; · iexact HO
  isplitl [Ho]; · iexact Ho
  isplitl [HdonegR0]; · iexact HdonegR0
  isplitl [Hg0]; · iexact Hg0
  isplitl [HdonegR1]; · iexact HdonegR1
  iexact Hg1

theorem part32_wp (fo : Vec F S2x512x768 .f32) (v2 : BitVec 32) (v869 : BitVec 32) (v879 : BitVec 32) {Φ} :
    iprop(ctx I κ
        ∗ owesX c (owed c [] [] [])
        ∗ credKit gR c 2
        ∗ posKit gR c 2
        ∗ buf c oM (outP I c fo 2)
        ∗ credKit gR c 3
        ∗ posKit gR c 3)
      ⊢ iprop((∀ (v971' : BitVec 32), iprop(owesX c (owed c [] [] [])
          ∗ buf c oM (outP I c fo 3)
          ∗ doneKit gR c 2
          ∗ gPts c 2 (gathC I c)
          ∗ doneKit gR c 3
          ∗ gPts c 3 (gathC I c)) -∗ Φ v971')
        -∗ WP (F := F) c (k0_part32 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v869 v879) Φ) := by
  rw [k0_part32_eq_skeleton]; unfold k0_part32_skel
  simp only [semSignalWord, semWaitWord, Prog.lift, Prog.bind_op, Prog.bind_ret, Prog.pure_eq_ret, Prog.bind_assoc, wp_deviceId]
  iintro ⟨#Hctx, HO, HcrgR2, HposgR2, Ho, HcrgR3, HposgR3⟩ Hcont
  iapply (wp_waitX I κ c gR 2 [] [] 3 (lv_gR 2) (.inl rfl) (.inr rfl) _ rfl (credit_g 2)) $$ [HO HcrgR2 HposgR2]
  · isplitr; · iexact Hctx
    isplitl [HO]; · iexact HO
    isplitl [HcrgR2]; · iexact HcrgR2
    iexact HposgR2
  iintro ⟨HO, HdonegR2, Hg2⟩
  ihave Hg2 := (xfer_gR I c 2) $$ Hg2
  iapply (ld_g I c 2 ![2, 0, 0, 0] rfl _) $$ Hg2
  iintro Hg2
  iapply (ld c oM _ ((outP I c fo 2)) _ rfl) $$ Ho
  iintro Ho
  iapply (st c oM _ (outP I c fo 2) (outP I c fo 3) _ (wr_out_slot I c fo 2 2 rfl _ rfl (k0_off12 c 3#32) (o12 c 2) _)) $$ Ho
  iintro Ho
  iapply (wp_waitX I κ c gR 3 [] [] 3 (lv_gR 3) (.inl rfl) (.inr rfl) _ rfl (credit_g 3)) $$ [HO HcrgR3 HposgR3]
  · isplitr; · iexact Hctx
    isplitl [HO]; · iexact HO
    isplitl [HcrgR3]; · iexact HcrgR3
    iexact HposgR3
  iintro ⟨HO, HdonegR3, Hg3⟩
  ihave Hg3 := (xfer_gR I c 3) $$ Hg3
  iapply (wp_done c)
  iapply Hcont
  isplitl [HO]; · iexact HO
  isplitl [Ho]; · iexact Ho
  isplitl [HdonegR2]; · iexact HdonegR2
  isplitl [Hg2]; · iexact Hg2
  isplitl [HdonegR3]; · iexact HdonegR3
  iexact Hg3

theorem part33_wp (fo : Vec F S2x512x768 .f32) (v2 : BitVec 32) (v889 : BitVec 32) (v899 : BitVec 32) (v971 : BitVec 32) {Φ} :
    iprop(ctx I κ
        ∗ gPts c 3 (gathC I c)
        ∗ buf c oM (outP I c fo 3)
        ∗ owesX c (owed c [] [] [])
        ∗ credKit gR c 4
        ∗ posKit gR c 4
        ∗ credKit gR c 5
        ∗ posKit gR c 5)
      ⊢ iprop((iprop(gPts c 3 (gathC I c)
          ∗ buf c oM (outP I c fo 5)
          ∗ owesX c (owed c [] [] [])
          ∗ doneKit gR c 4
          ∗ gPts c 4 (gathC I c)
          ∗ doneKit gR c 5
          ∗ gPts c 5 (gathC I c)) -∗ Φ ⟨⟩)
        -∗ WP (F := F) c (k0_part33 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v889 v899 v971) Φ) := by
  rw [k0_part33_eq_skeleton]; unfold k0_part33_skel
  simp only [semSignalWord, semWaitWord, Prog.lift, Prog.bind_op, Prog.bind_ret, Prog.pure_eq_ret, Prog.bind_assoc, wp_deviceId]
  iintro ⟨#Hctx, Hg3, Ho, HO, HcrgR4, HposgR4, HcrgR5, HposgR5⟩ Hcont
  iapply (ld_g I c 3 ![3, 0, 0, 0] rfl _) $$ Hg3
  iintro Hg3
  iapply (ld c oM _ ((outP I c fo 3)) _ rfl) $$ Ho
  iintro Ho
  iapply (st c oM _ (outP I c fo 3) (outP I c fo 4) _ (wr_out_slot I c fo 3 3 rfl _ rfl (k0_off12 c 4#32) (o12 c 3) _)) $$ Ho
  iintro Ho
  iapply (wp_waitX I κ c gR 4 [] [] 3 (lv_gR 4) (.inl rfl) (.inr rfl) _ rfl (credit_g 4)) $$ [HO HcrgR4 HposgR4]
  · isplitr; · iexact Hctx
    isplitl [HO]; · iexact HO
    isplitl [HcrgR4]; · iexact HcrgR4
    iexact HposgR4
  iintro ⟨HO, HdonegR4, Hg4⟩
  ihave Hg4 := (xfer_gR I c 4) $$ Hg4
  iapply (ld_g I c 4 ![4, 0, 0, 0] rfl _) $$ Hg4
  iintro Hg4
  iapply (ld c oM _ ((outP I c fo 4)) _ rfl) $$ Ho
  iintro Ho
  iapply (st c oM _ (outP I c fo 4) (outP I c fo 5) _ (wr_out_slot I c fo 4 4 rfl _ rfl (k0_off12 c 5#32) (o12 c 4) _)) $$ Ho
  iintro Ho
  iapply (wp_waitX I κ c gR 5 [] [] 3 (lv_gR 5) (.inl rfl) (.inr rfl) _ rfl (credit_g 5)) $$ [HO HcrgR5 HposgR5]
  · isplitr; · iexact Hctx
    isplitl [HO]; · iexact HO
    isplitl [HcrgR5]; · iexact HcrgR5
    iexact HposgR5
  iintro ⟨HO, HdonegR5, Hg5⟩
  ihave Hg5 := (xfer_gR I c 5) $$ Hg5
  iapply (wp_done c)
  iapply Hcont
  isplitl [Hg3]; · iexact Hg3
  isplitl [Ho]; · iexact Ho
  isplitl [HO]; · iexact HO
  isplitl [HdonegR4]; · iexact HdonegR4
  isplitl [Hg4]; · iexact Hg4
  isplitl [HdonegR5]; · iexact HdonegR5
  iexact Hg5

theorem part34_wp (fo : Vec F S2x512x768 .f32) (v2 : BitVec 32) (v909 : BitVec 32) {Φ} :
    iprop(ctx I κ
        ∗ gPts c 5 (gathC I c)
        ∗ buf c oM (outP I c fo 5)
        ∗ owesX c (owed c [] [] [])
        ∗ credKit gR c 6
        ∗ posKit gR c 6)
      ⊢ iprop((iprop(gPts c 5 (gathC I c)
          ∗ buf c oM (outP I c fo 7)
          ∗ owesX c (owed c [] [] [])
          ∗ doneKit gR c 6
          ∗ gPts c 6 (gathC I c)) -∗ Φ ⟨⟩)
        -∗ WP (F := F) c (k0_part34 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 c v2 v909) Φ) := by
  rw [k0_part34_eq_skeleton]; unfold k0_part34_skel
  simp only [semSignalWord, semWaitWord, Prog.lift, Prog.bind_op, Prog.bind_ret, Prog.pure_eq_ret, Prog.bind_assoc, wp_deviceId]
  iintro ⟨#Hctx, Hg5, Ho, HO, HcrgR6, HposgR6⟩ Hcont
  iapply (ld_g I c 5 ![5, 0, 0, 0] rfl _) $$ Hg5
  iintro Hg5
  iapply (ld c oM _ ((outP I c fo 5)) _ rfl) $$ Ho
  iintro Ho
  iapply (st c oM _ (outP I c fo 5) (outP I c fo 6) _ (wr_out_slot I c fo 5 5 rfl _ rfl (k0_off12 c 6#32) (o12 c 5) _)) $$ Ho
  iintro Ho
  iapply (wp_waitX I κ c gR 6 [] [] 3 (lv_gR 6) (.inl rfl) (.inr rfl) _ rfl (credit_g 6)) $$ [HO HcrgR6 HposgR6]
  · isplitr; · iexact Hctx
    isplitl [HO]; · iexact HO
    isplitl [HcrgR6]; · iexact HcrgR6
    iexact HposgR6
  iintro ⟨HO, HdonegR6, Hg6⟩
  ihave Hg6 := (xfer_gR I c 6) $$ Hg6
  iapply (ld_g I c 6 ![6, 0, 0, 0] rfl _) $$ Hg6
  iintro Hg6
  iapply (ld c oM _ ((outP I c fo 6)) _ rfl) $$ Ho
  iintro Ho
  iapply (st c oM _ (outP I c fo 6) (outP I c fo 7) _ (wr_out_slot I c fo 6 6 rfl _ rfl (k0_off12 c 7#32) (o12 c 6) _)) $$ Ho
  iintro Ho
  iapply (wp_done c)
  iapply Hcont
  isplitl [Hg5]; · iexact Hg5
  isplitl [Ho]; · iexact Ho
  isplitl [HO]; · iexact HO
  isplitl [HdonegR6]; · iexact HdonegR6
  iexact Hg6

end Parts

end Cert.Exchange

end
-- ==== Proof.PartF.lean ====
/-
# The parts of the kernel body: the waits for the own transfers

One rule for each part of the compiled body, at a device `c`: the resources it uses, what it leaves, and the values it
returns.
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Dev nD → Inp F) (κ : GSem nD τ sig → ℕ) (c : Dev nD)

theorem part35_wp {Φ} :
    iprop(ctx I κ
        ∗ owesX c (owed c [] [] [])
        ∗ credKit aS c 0
        ∗ posKit aS c 0
        ∗ credKit gS c 0
        ∗ posKit gS c 0
        ∗ credKit aS c 1
        ∗ posKit aS c 1
        ∗ credKit gS c 1
        ∗ posKit gS c 1)
      ⊢ iprop((iprop(owesX c (owed c [] [] [])
          ∗ doneKit aS c 0
          ∗ sPts c 0 (sendC I c)
          ∗ doneKit gS c 0
          ∗ rowPts (rowShare 0) c (rowsC I c)
          ∗ doneKit aS c 1
          ∗ sPts c 1 (sendC I c)
          ∗ doneKit gS c 1
          ∗ rowPts (rowShare 1) c (rowsC I c)) -∗ Φ ⟨⟩)
        -∗ WP (F := F) c (k0_part35 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 ) Φ) := by
  rw [k0_part35_eq_skeleton]; unfold k0_part35_skel
  simp only [semSignalWord, semWaitWord, Prog.lift, Prog.bind_op, Prog.bind_ret, Prog.pure_eq_ret, Prog.bind_assoc, wp_deviceId]
  iintro ⟨#Hctx, HO, HcraS0, HposaS0, HcrgS0, HposgS0, HcraS1, HposaS1, HcrgS1, HposgS1⟩ Hcont
  iapply (wp_waitX I κ c aS 0 [] [] 0 (lv_aS 0) (.inl rfl) (.inl (by decide)) _ rfl (credit_s 0)) $$ [HO HcraS0 HposaS0]
  · isplitr; · iexact Hctx
    isplitl [HO]; · iexact HO
    isplitl [HcraS0]; · iexact HcraS0
    iexact HposaS0
  iintro ⟨HO, HdoneaS0, Hs0⟩
  ihave Hs0 := (xfer_aS I c 0) $$ Hs0
  iapply (wp_waitX I κ c gS 0 [] [] 0 (lv_gS 0) (.inl rfl) (.inl (by decide)) _ rfl amount_row) $$ [HO HcrgS0 HposgS0]
  · isplitr; · iexact Hctx
    isplitl [HO]; · iexact HO
    isplitl [HcrgS0]; · iexact HcrgS0
    iexact HposgS0
  iintro ⟨HO, HdonegS0, Hrow0⟩
  ihave Hrow0 := (xfer_gS I c 0) $$ Hrow0
  iapply (wp_waitX I κ c aS 1 [] [] 0 (lv_aS 1) (.inl rfl) (.inl (by decide)) _ rfl (credit_s 1)) $$ [HO HcraS1 HposaS1]
  · isplitr; · iexact Hctx
    isplitl [HO]; · iexact HO
    isplitl [HcraS1]; · iexact HcraS1
    iexact HposaS1
  iintro ⟨HO, HdoneaS1, Hs1⟩
  ihave Hs1 := (xfer_aS I c 1) $$ Hs1
  iapply (wp_waitX I κ c gS 1 [] [] 0 (lv_gS 1) (.inl rfl) (.inl (by decide)) _ rfl amount_row) $$ [HO HcrgS1 HposgS1]
  · isplitr; · iexact Hctx
    isplitl [HO]; · iexact HO
    isplitl [HcrgS1]; · iexact HcrgS1
    iexact HposgS1
  iintro ⟨HO, HdonegS1, Hrow1⟩
  ihave Hrow1 := (xfer_gS I c 1) $$ Hrow1
  iapply (wp_done c)
  iapply Hcont
  isplitl [HO]; · iexact HO
  isplitl [HdoneaS0]; · iexact HdoneaS0
  isplitl [Hs0]; · iexact Hs0
  isplitl [HdonegS0]; · iexact HdonegS0
  isplitl [Hrow0]; · iexact Hrow0
  isplitl [HdoneaS1]; · iexact HdoneaS1
  isplitl [Hs1]; · iexact Hs1
  isplitl [HdonegS1]; · iexact HdonegS1
  iexact Hrow1

theorem part36_wp {Φ} :
    iprop(ctx I κ
        ∗ owesX c (owed c [] [] [])
        ∗ credKit aS c 2
        ∗ posKit aS c 2
        ∗ credKit gS c 2
        ∗ posKit gS c 2
        ∗ credKit aS c 3
        ∗ posKit aS c 3
        ∗ credKit gS c 3
        ∗ posKit gS c 3)
      ⊢ iprop((iprop(owesX c (owed c [] [] [])
          ∗ doneKit aS c 2
          ∗ sPts c 2 (sendC I c)
          ∗ doneKit gS c 2
          ∗ rowPts (rowShare 2) c (rowsC I c)
          ∗ doneKit aS c 3
          ∗ sPts c 3 (sendC I c)
          ∗ doneKit gS c 3
          ∗ rowPts (rowShare 3) c (rowsC I c)) -∗ Φ ⟨⟩)
        -∗ WP (F := F) c (k0_part36 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 ) Φ) := by
  rw [k0_part36_eq_skeleton]; unfold k0_part36_skel
  simp only [semSignalWord, semWaitWord, Prog.lift, Prog.bind_op, Prog.bind_ret, Prog.pure_eq_ret, Prog.bind_assoc, wp_deviceId]
  iintro ⟨#Hctx, HO, HcraS2, HposaS2, HcrgS2, HposgS2, HcraS3, HposaS3, HcrgS3, HposgS3⟩ Hcont
  iapply (wp_waitX I κ c aS 2 [] [] 0 (lv_aS 2) (.inl rfl) (.inl (by decide)) _ rfl (credit_s 2)) $$ [HO HcraS2 HposaS2]
  · isplitr; · iexact Hctx
    isplitl [HO]; · iexact HO
    isplitl [HcraS2]; · iexact HcraS2
    iexact HposaS2
  iintro ⟨HO, HdoneaS2, Hs2⟩
  ihave Hs2 := (xfer_aS I c 2) $$ Hs2
  iapply (wp_waitX I κ c gS 2 [] [] 0 (lv_gS 2) (.inl rfl) (.inl (by decide)) _ rfl amount_row) $$ [HO HcrgS2 HposgS2]
  · isplitr; · iexact Hctx
    isplitl [HO]; · iexact HO
    isplitl [HcrgS2]; · iexact HcrgS2
    iexact HposgS2
  iintro ⟨HO, HdonegS2, Hrow2⟩
  ihave Hrow2 := (xfer_gS I c 2) $$ Hrow2
  iapply (wp_waitX I κ c aS 3 [] [] 0 (lv_aS 3) (.inl rfl) (.inl (by decide)) _ rfl (credit_s 3)) $$ [HO HcraS3 HposaS3]
  · isplitr; · iexact Hctx
    isplitl [HO]; · iexact HO
    isplitl [HcraS3]; · iexact HcraS3
    iexact HposaS3
  iintro ⟨HO, HdoneaS3, Hs3⟩
  ihave Hs3 := (xfer_aS I c 3) $$ Hs3
  iapply (wp_waitX I κ c gS 3 [] [] 0 (lv_gS 3) (.inl rfl) (.inl (by decide)) _ rfl amount_row) $$ [HO HcrgS3 HposgS3]
  · isplitr; · iexact Hctx
    isplitl [HO]; · iexact HO
    isplitl [HcrgS3]; · iexact HcrgS3
    iexact HposgS3
  iintro ⟨HO, HdonegS3, Hrow3⟩
  ihave Hrow3 := (xfer_gS I c 3) $$ Hrow3
  iapply (wp_done c)
  iapply Hcont
  isplitl [HO]; · iexact HO
  isplitl [HdoneaS2]; · iexact HdoneaS2
  isplitl [Hs2]; · iexact Hs2
  isplitl [HdonegS2]; · iexact HdonegS2
  isplitl [Hrow2]; · iexact Hrow2
  isplitl [HdoneaS3]; · iexact HdoneaS3
  isplitl [Hs3]; · iexact Hs3
  isplitl [HdonegS3]; · iexact HdonegS3
  iexact Hrow3

theorem part37_wp {Φ} :
    iprop(ctx I κ
        ∗ owesX c (owed c [] [] [])
        ∗ credKit aS c 4
        ∗ posKit aS c 4
        ∗ credKit gS c 4
        ∗ posKit gS c 4
        ∗ credKit aS c 5
        ∗ posKit aS c 5
        ∗ credKit gS c 5
        ∗ posKit gS c 5)
      ⊢ iprop((iprop(owesX c (owed c [] [] [])
          ∗ doneKit aS c 4
          ∗ sPts c 4 (sendC I c)
          ∗ doneKit gS c 4
          ∗ rowPts (rowShare 4) c (rowsC I c)
          ∗ doneKit aS c 5
          ∗ sPts c 5 (sendC I c)
          ∗ doneKit gS c 5
          ∗ rowPts (rowShare 5) c (rowsC I c)) -∗ Φ ⟨⟩)
        -∗ WP (F := F) c (k0_part37 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11 ) Φ) := by
  rw [k0_part37_eq_skeleton]; unfold k0_part37_skel
  simp only [semSignalWord, semWaitWord, Prog.lift, Prog.bind_op, Prog.bind_ret, Prog.pure_eq_ret, Prog.bind_assoc, wp_deviceId]
  iintro ⟨#Hctx, HO, HcraS4, HposaS4, HcrgS4, HposgS4, HcraS5, HposaS5, HcrgS5, HposgS5⟩ Hcont
  iapply (wp_waitX I κ c aS 4 [] [] 0 (lv_aS 4) (.inl rfl) (.inl (by decide)) _ rfl (credit_s 4)) $$ [HO HcraS4 HposaS4]
  · isplitr; · iexact Hctx
    isplitl [HO]; · iexact HO
    isplitl [HcraS4]; · iexact HcraS4
    iexact HposaS4
  iintro ⟨HO, HdoneaS4, Hs4⟩
  ihave Hs4 := (xfer_aS I c 4) $$ Hs4
  iapply (wp_waitX I κ c gS 4 [] [] 0 (lv_gS 4) (.inl rfl) (.inl (by decide)) _ rfl amount_row) $$ [HO HcrgS4 HposgS4]
  · isplitr; · iexact Hctx
    isplitl [HO]; · iexact HO
    isplitl [HcrgS4]; · iexact HcrgS4
    iexact HposgS4
  iintro ⟨HO, HdonegS4, Hrow4⟩
  ihave Hrow4 := (xfer_gS I c 4) $$ Hrow4
  iapply (wp_waitX I κ c aS 5 [] [] 0 (lv_aS 5) (.inl rfl) (.inl (by decide)) _ rfl (credit_s 5)) $$ [HO HcraS5 HposaS5]
  · isplitr; · iexact Hctx
    isplitl [HO]; · iexact HO
    isplitl [HcraS5]; · iexact HcraS5
    iexact HposaS5
  iintro ⟨HO, HdoneaS5, Hs5⟩
  ihave Hs5 := (xfer_aS I c 5) $$ Hs5
  iapply (wp_waitX I κ c gS 5 [] [] 0 (lv_gS 5) (.inl rfl) (.inl (by decide)) _ rfl amount_row) $$ [HO HcrgS5 HposgS5]
  · isplitr; · iexact Hctx
    isplitl [HO]; · iexact HO
    isplitl [HcrgS5]; · iexact HcrgS5
    iexact HposgS5
  iintro ⟨HO, HdonegS5, Hrow5⟩
  ihave Hrow5 := (xfer_gS I c 5) $$ Hrow5
  iapply (wp_done c)
  iapply Hcont
  isplitl [HO]; · iexact HO
  isplitl [HdoneaS4]; · iexact HdoneaS4
  isplitl [Hs4]; · iexact Hs4
  isplitl [HdonegS4]; · iexact HdonegS4
  isplitl [Hrow4]; · iexact Hrow4
  isplitl [HdoneaS5]; · iexact HdoneaS5
  isplitl [Hs5]; · iexact Hs5
  isplitl [HdonegS5]; · iexact HdonegS5
  iexact Hrow5

end Parts

end Cert.Exchange

end
-- ==== Proof.Body.lean ====
/-
# The kernel body

The parts one after the other, at a device `c`.
-/
module

public import proofs.«01_k».proof.Proof.PartA
public import proofs.«01_k».proof.Proof.PartB1
public import proofs.«01_k».proof.Proof.PartB2
public import proofs.«01_k».proof.Proof.PartC
public import proofs.«01_k».proof.Proof.PartD
public import proofs.«01_k».proof.Proof.PartE
public import proofs.«01_k».proof.Proof.PartF

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (I : Dev nD → Inp F) (κ : GSem nD τ sig → ℕ) (c : Dev nD)

theorem wp_seq {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  show _ ⊢ wp _ _ _ _ _
  rw [wp_bind]

/-- The greeting of the device at offset `s` brings the ends of the two transfers to it. -/
theorem kits (s : Fin 7) :
    iprop(barPay c s ∗ payKit aS aR c s ∗ payKit gS gR c s) ⊢ (iprop(kitA c s ∗ kitG c s) : sProp 𝕄) := by
  unfold barPay kitA kitG
  iintro ⟨⟨Hr, Hg, Ha, Hb⟩, HA, HG⟩
  isplitl [Hr Ha HA]
  · isplitl [Hr]; · iexact Hr
    isplitl [HA]; · iexact HA
    iexact Ha
  isplitl [Hg]; · iexact Hg
  isplitl [HG]; · iexact HG
  iexact Hb

theorem part38_wp (fo : Vec F S2x512x768 .f32) {Φ} :
    iprop(ctx I κ
      ∗ buf c xM (I c).x
      ∗ buf c wqM (I c).wq
      ∗ buf c kM (I c).k
      ∗ buf c vM (I c).v
      ∗ buf c woM (I c).wo
      ∗ buf c oM fo
      ∗ (∃ f, buf c wqbM f)
      ∗ (∃ f, buf c wobM f)
      ∗ (∃ f, buf c qM f)
      ∗ (∃ f, buf c accM f)
      ∗ (∃ f, buf c rowM f)
      ∗ owesX c (owed c [0, 1, 2, 3, 4, 5, 6] [0, 4, 1, 5, 2, 6, 3] [0, 1, 2, 3, 4, 5, 6])
      ∗ sigKit c 0
      ∗ (∃ f, sPts c 0 f)
      ∗ posKit aS c 0
      ∗ posKit aR c 0
      ∗ posKit gS c 0
      ∗ posKit gR c 0
      ∗ credKit aR c 0
      ∗ credKit gR c 0
      ∗ sigKit c 1
      ∗ (∃ f, sPts c 1 f)
      ∗ posKit aS c 1
      ∗ posKit aR c 1
      ∗ posKit gS c 1
      ∗ posKit gR c 1
      ∗ credKit aR c 1
      ∗ credKit gR c 1
      ∗ sigKit c 2
      ∗ (∃ f, sPts c 2 f)
      ∗ posKit aS c 2
      ∗ posKit aR c 2
      ∗ posKit gS c 2
      ∗ posKit gR c 2
      ∗ credKit aR c 2
      ∗ credKit gR c 2
      ∗ sigKit c 3
      ∗ (∃ f, sPts c 3 f)
      ∗ posKit aS c 3
      ∗ posKit aR c 3
      ∗ posKit gS c 3
      ∗ posKit gR c 3
      ∗ credKit aR c 3
      ∗ credKit gR c 3
      ∗ sigKit c 4
      ∗ (∃ f, sPts c 4 f)
      ∗ posKit aS c 4
      ∗ posKit aR c 4
      ∗ posKit gS c 4
      ∗ posKit gR c 4
      ∗ credKit aR c 4
      ∗ credKit gR c 4
      ∗ sigKit c 5
      ∗ (∃ f, sPts c 5 f)
      ∗ posKit aS c 5
      ∗ posKit aR c 5
      ∗ posKit gS c 5
      ∗ posKit gR c 5
      ∗ credKit aR c 5
      ∗ credKit gR c 5
      ∗ sigKit c 6
      ∗ (∃ f, sPts c 6 f)
      ∗ posKit aS c 6
      ∗ posKit aR c 6
      ∗ posKit gS c 6
      ∗ posKit gR c 6
      ∗ credKit aR c 6
      ∗ credKit gR c 6
      ∗ cred (tallyAt (barCell c) () 7)
      ∗ atPos ER (barCell c) 0 ∅ 0
      ∗ payKit aS aR c 0
      ∗ payKit aS aR c 1
      ∗ payKit aS aR c 2
      ∗ payKit aS aR c 3
      ∗ payKit aS aR c 4
      ∗ payKit aS aR c 5
      ∗ payKit aS aR c 6
      ∗ payKit gS gR c 0
      ∗ payKit gS gR c 1
      ∗ payKit gS gR c 2
      ∗ payKit gS gR c 3
      ∗ payKit gS gR c 4
      ∗ payKit gS gR c 5
      ∗ payKit gS gR c 6)
      ⊢ iprop((iprop(buf c xM (I c).x
      ∗ buf c wqM (I c).wq
      ∗ buf c kM (I c).k
      ∗ buf c vM (I c).v
      ∗ buf c woM (I c).wo
      ∗ buf c oM (outP I c fo 7)
      ∗ buf c wqbM (wqB (I c))
      ∗ buf c wobM (woB (I c))
      ∗ buf c qM (qC (I c))
      ∗ buf c accM (accC I c 7 7)
      ∗ owesX c (owed c [] [] [])
      ∗ atPos ER (barCell c) 1 ∅ 0
      ∗ doneKit aR c 0
      ∗ rPts c 0 (recvC I c)
      ∗ doneKit aR c 4
      ∗ rPts c 4 (recvC I c)
      ∗ doneKit aR c 1
      ∗ rPts c 1 (recvC I c)
      ∗ doneKit aR c 5
      ∗ rPts c 5 (recvC I c)
      ∗ doneKit aR c 2
      ∗ rPts c 2 (recvC I c)
      ∗ doneKit aR c 6
      ∗ rPts c 6 (recvC I c)
      ∗ doneKit aR c 3
      ∗ rPts c 3 (recvC I c)
      ∗ rowPts (Transfers.shareDrop fullShare 7) c (rowsC I c)
      ∗ doneKit gR c 0
      ∗ gPts c 0 (gathC I c)
      ∗ doneKit gR c 1
      ∗ gPts c 1 (gathC I c)
      ∗ doneKit gR c 2
      ∗ gPts c 2 (gathC I c)
      ∗ doneKit gR c 3
      ∗ gPts c 3 (gathC I c)
      ∗ doneKit gR c 4
      ∗ gPts c 4 (gathC I c)
      ∗ doneKit gR c 5
      ∗ gPts c 5 (gathC I c)
      ∗ doneKit gR c 6
      ∗ gPts c 6 (gathC I c)
      ∗ doneKit aS c 0
      ∗ sPts c 0 (sendC I c)
      ∗ doneKit gS c 0
      ∗ rowPts (rowShare 0) c (rowsC I c)
      ∗ doneKit aS c 1
      ∗ sPts c 1 (sendC I c)
      ∗ doneKit gS c 1
      ∗ rowPts (rowShare 1) c (rowsC I c)
      ∗ doneKit aS c 2
      ∗ sPts c 2 (sendC I c)
      ∗ doneKit gS c 2
      ∗ rowPts (rowShare 2) c (rowsC I c)
      ∗ doneKit aS c 3
      ∗ sPts c 3 (sendC I c)
      ∗ doneKit gS c 3
      ∗ rowPts (rowShare 3) c (rowsC I c)
      ∗ doneKit aS c 4
      ∗ sPts c 4 (sendC I c)
      ∗ doneKit gS c 4
      ∗ rowPts (rowShare 4) c (rowsC I c)
      ∗ doneKit aS c 5
      ∗ sPts c 5 (sendC I c)
      ∗ doneKit gS c 5
      ∗ rowPts (rowShare 5) c (rowsC I c)
      ∗ doneKit aS c 6
      ∗ sPts c 6 (sendC I c)
      ∗ credKit gS c 6
      ∗ posKit gS c 6) -∗ Φ ⟨⟩)
        -∗ WP (F := F) c (k0_part38 xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11) Φ) := by
  rw [k0_part38_eq_skeleton]; unfold k0_part38_skel
  iintro ⟨#Hctx, Hx, Hwq, Hk, Hv, Hwo, Ho, Hwqb, Hwob, Hq, Hacc, Hrow, HO, Hsig0, Hs0, HposaS0, HposaR0, HposgS0, HposgR0, HcraR0, HcrgR0, Hsig1, Hs1, HposaS1, HposaR1, HposgS1, HposgR1, HcraR1, HcrgR1, Hsig2, Hs2, HposaS2, HposaR2, HposgS2, HposgR2, HcraR2, HcrgR2, Hsig3, Hs3, HposaS3, HposaR3, HposgS3, HposgR3, HcraR3, HcrgR3, Hsig4, Hs4, HposaS4, HposaR4, HposgS4, HposgR4, HcraR4, HcrgR4, Hsig5, Hs5, HposaS5, HposaR5, HposgS5, HposgR5, HcraR5, HcrgR5, Hsig6, Hs6, HposaS6, HposaR6, HposgS6, HposgR6, HcraR6, HcrgR6, Hbarc, Hbarp, HpA0, HpA1, HpA2, HpA3, HpA4, HpA5, HpA6, HpG0, HpG1, HpG2, HpG3, HpG4, HpG5, HpG6⟩ Hcont
  iapply (wp_seq c)
  iapply (part1_wp I κ c) $$ [HO Hsig0 Hsig1 Hsig2 Hsig3 Hsig4]
  · isplitr; · iexact Hctx
    isplitl [HO]; · iexact HO
    isplitl [Hsig0]; · iexact Hsig0
    isplitl [Hsig1]; · iexact Hsig1
    isplitl [Hsig2]; · iexact Hsig2
    isplitl [Hsig3]; · iexact Hsig3
    iexact Hsig4
  iintro %v2 %v24 %c8_i32_20 HO
  try dsimp only
  iapply (wp_seq c)
  iapply (part2_wp I κ c _ _ _) $$ [HO Hsig5 Hsig6 Hwq Hwqb Hwo Hwob Hx Hq]
  · isplitr; · iexact Hctx
    isplitl [HO]; · iexact HO
    isplitl [Hsig5]; · iexact Hsig5
    isplitl [Hsig6]; · iexact Hsig6
    isplitl [Hwq]; · iexact Hwq
    isplitl [Hwqb]; · iexact Hwqb
    isplitl [Hwo]; · iexact Hwo
    isplitl [Hwob]; · iexact Hwob
    isplitl [Hx]; · iexact Hx
    iexact Hq
  iintro ⟨HO, Hwq, Hwqb, Hwo, Hwob, Hx, Hq⟩
  try dsimp only
  iapply (wp_seq c)
  iapply (part3_wp I κ c _) $$ [Hq Hx Hwqb HO Hbarc Hbarp]
  · isplitr; · iexact Hctx
    isplitl [Hq]; · iexact Hq
    isplitl [Hx]; · iexact Hx
    isplitl [Hwqb]; · iexact Hwqb
    isplitl [HO]; · iexact HO
    isplitl [Hbarc]; · iexact Hbarc
    iexact Hbarp
  iintro %v67 %v70 %v71 ⟨Hq, Hx, Hwqb, HO, Hbarp, Hbpay⟩
  try dsimp only
  ihave Hbpay := (Entails.of_eq (bigSep_fin7 _)) $$ Hbpay
  icases Hbpay with ⟨Hb0, Hb1, Hb2, Hb3, Hb4, Hb5, Hb6⟩
  ihave Hkit := (kits c 0) $$ [Hb0 HpA0 HpG0]
  · isplitl [Hb0]; · iexact Hb0
    isplitl [HpA0]; · iexact HpA0
    iexact HpG0
  icases Hkit with ⟨HkA0, HkG0⟩
  ihave Hkit := (kits c 1) $$ [Hb1 HpA1 HpG1]
  · isplitl [Hb1]; · iexact Hb1
    isplitl [HpA1]; · iexact HpA1
    iexact HpG1
  icases Hkit with ⟨HkA1, HkG1⟩
  ihave Hkit := (kits c 2) $$ [Hb2 HpA2 HpG2]
  · isplitl [Hb2]; · iexact Hb2
    isplitl [HpA2]; · iexact HpA2
    iexact HpG2
  icases Hkit with ⟨HkA2, HkG2⟩
  ihave Hkit := (kits c 3) $$ [Hb3 HpA3 HpG3]
  · isplitl [Hb3]; · iexact Hb3
    isplitl [HpA3]; · iexact HpA3
    iexact HpG3
  icases Hkit with ⟨HkA3, HkG3⟩
  ihave Hkit := (kits c 4) $$ [Hb4 HpA4 HpG4]
  · isplitl [Hb4]; · iexact Hb4
    isplitl [HpA4]; · iexact HpA4
    iexact HpG4
  icases Hkit with ⟨HkA4, HkG4⟩
  ihave Hkit := (kits c 5) $$ [Hb5 HpA5 HpG5]
  · isplitl [Hb5]; · iexact Hb5
    isplitl [HpA5]; · iexact HpA5
    iexact HpG5
  icases Hkit with ⟨HkA5, HkG5⟩
  ihave Hkit := (kits c 6) $$ [Hb6 HpA6 HpG6]
  · isplitl [Hb6]; · iexact Hb6
    isplitl [HpA6]; · iexact HpA6
    iexact HpG6
  icases Hkit with ⟨HkA6, HkG6⟩
  iapply (wp_seq c)
  iapply (part4_wp I κ c _) $$ [Hk Hv Hwob]
  · isplitr; · iexact Hctx
    isplitl [Hk]; · iexact Hk
    isplitl [Hv]; · iexact Hv
    iexact Hwob
  iintro ⟨Hk, Hv, Hwob⟩
  try dsimp only
  iapply (wp_seq c)
  iapply (part5_wp I κ c _ _ _) $$ [Hs0 Hs4 Hq Hk Hv]
  · isplitr; · iexact Hctx
    isplitl [Hs0]; · iexact Hs0
    isplitl [Hs4]; · iexact Hs4
    isplitl [Hq]; · iexact Hq
    isplitl [Hk]; · iexact Hk
    iexact Hv
  iintro %c64_i32_114 ⟨Hs0, Hs4, Hq, Hk, Hv⟩
  try dsimp only
  iapply (wp_seq c)
  iapply (part6_wp I κ c _ _ _) $$ [Hv Hwob Hs0 Hs4]
  · isplitr; · iexact Hctx
    isplitl [Hv]; · iexact Hv
    isplitl [Hwob]; · iexact Hwob
    isplitl [Hs0]; · iexact Hs0
    iexact Hs4
  iintro %v189 ⟨Hv, Hwob, Hs0, Hs4⟩
  try dsimp only
  iapply (wp_seq c)
  iapply (part7_wp I κ c _ _) $$ [HO Hs0 HkA0 Hs4 HkA4]
  · isplitr; · iexact Hctx
    isplitl [HO]; · iexact HO
    isplitl [Hs0]; · iexact Hs0
    isplitl [HkA0]; · iexact HkA0
    isplitl [Hs4]; · iexact Hs4
    iexact HkA4
  iintro %v201 %v213 %v216 %v217 ⟨HO, HcraS0, HcraS4⟩
  try dsimp only
  iapply (wp_seq c)
  iapply (part8_wp I κ c _ _ _) $$ [Hq Hk Hv]
  · isplitr; · iexact Hctx
    isplitl [Hq]; · iexact Hq
    isplitl [Hk]; · iexact Hk
    iexact Hv
  iintro ⟨Hq, Hk, Hv⟩
  try dsimp only
  iapply (wp_seq c)
  iapply (part9_wp I κ c _ _ _) $$ [Hwob Hs1 Hs5 Hq]
  · isplitr; · iexact Hctx
    isplitl [Hwob]; · iexact Hwob
    isplitl [Hs1]; · iexact Hs1
    isplitl [Hs5]; · iexact Hs5
    iexact Hq
  iintro ⟨Hwob, Hs1, Hs5, Hq⟩
  try dsimp only
  iapply (wp_seq c)
  iapply (part10_wp I κ c _) $$ [Hk Hv Hwob]
  · isplitr; · iexact Hctx
    isplitl [Hk]; · iexact Hk
    isplitl [Hv]; · iexact Hv
    iexact Hwob
  iintro ⟨Hk, Hv, Hwob⟩
  try dsimp only
  iapply (wp_seq c)
  iapply (part11_wp I κ c _) $$ [Hs1 Hs5 HO HkA1]
  · isplitr; · iexact Hctx
    isplitl [Hs1]; · iexact Hs1
    isplitl [Hs5]; · iexact Hs5
    isplitl [HO]; · iexact HO
    iexact HkA1
  iintro %v335 %v347 ⟨Hs5, HO, HcraS1⟩
  try dsimp only
  iapply (wp_seq c)
  iapply (part12_wp I κ c _) $$ [HO Hs5 HkA5 Hq Hk]
  · isplitr; · iexact Hctx
    isplitl [HO]; · iexact HO
    isplitl [Hs5]; · iexact Hs5
    isplitl [HkA5]; · iexact HkA5
    isplitl [Hq]; · iexact Hq
    iexact Hk
  iintro %v359 %v362 %v363 %v384 ⟨HO, Hq, Hk, HcraS5⟩
  try dsimp only
  iapply (wp_seq c)
  iapply (part13_wp I κ c _ _) $$ [Hv Hwob Hs2 Hs6]
  · isplitr; · iexact Hctx
    isplitl [Hv]; · iexact Hv
    isplitl [Hwob]; · iexact Hwob
    isplitl [Hs2]; · iexact Hs2
    iexact Hs6
  iintro ⟨Hv, Hwob, Hs2, Hs6⟩
  try dsimp only
  iapply (wp_seq c)
  iapply (part14_wp I κ c _ _ _) $$ [Hq Hk Hv]
  · isplitr; · iexact Hctx
    isplitl [Hq]; · iexact Hq
    isplitl [Hk]; · iexact Hk
    iexact Hv
  iintro ⟨Hq, Hk, Hv⟩
  try dsimp only
  iapply (wp_seq c)
  iapply (part15_wp I κ c _) $$ [Hwob Hs2 Hs6]
  · isplitr; · iexact Hctx
    isplitl [Hwob]; · iexact Hwob
    isplitl [Hs2]; · iexact Hs2
    iexact Hs6
  iintro %v481 ⟨Hwob, Hs2, Hs6⟩
  try dsimp only
  iapply (wp_seq c)
  iapply (part16_wp I κ c _) $$ [HO Hs2 HkA2 Hs6 HkA6 Hk]
  · isplitr; · iexact Hctx
    isplitl [HO]; · iexact HO
    isplitl [Hs2]; · iexact Hs2
    isplitl [HkA2]; · iexact HkA2
    isplitl [Hs6]; · iexact Hs6
    isplitl [HkA6]; · iexact HkA6
    iexact Hk
  iintro %v493 %v505 %v506 ⟨HO, Hk, HcraS2, HcraS6⟩
  try dsimp only
  iapply (wp_seq c)
  iapply (part17_wp I κ c _) $$ [Hv Hk]
  · isplitr; · iexact Hctx
    isplitl [Hv]; · iexact Hv
    iexact Hk
  iintro ⟨Hv, Hk⟩
  try dsimp only
  iapply (wp_seq c)
  iapply (part18_wp I κ c _) $$ [Hq Hwob Hs3]
  · isplitr; · iexact Hctx
    isplitl [Hq]; · iexact Hq
    isplitl [Hwob]; · iexact Hwob
    iexact Hs3
  iintro ⟨Hq, Hwob, Hs3⟩
  try dsimp only
  iapply (wp_seq c)
  iapply (part19_wp I κ c _) $$ [Hwob Hs3 HO HkA3 Hq]
  · isplitr; · iexact Hctx
    isplitl [Hwob]; · iexact Hwob
    isplitl [Hs3]; · iexact Hs3
    isplitl [HO]; · iexact HO
    isplitl [HkA3]; · iexact HkA3
    iexact Hq
  iintro %v602 ⟨Hwob, HO, Hq, HcraS3⟩
  try dsimp only
  iapply (wp_seq c)
  iapply (part20_wp I κ c _ _) $$ [Hwob Hacc Hq]
  · isplitr; · iexact Hctx
    isplitl [Hwob]; · iexact Hwob
    isplitl [Hacc]; · iexact Hacc
    iexact Hq
  iintro %v657 %c0_i32_485 ⟨Hwob, Hacc, Hq⟩
  try dsimp only
  iapply (wp_seq c)
  iapply (part21_wp I κ c _ _ _) $$ [HO HcraR0 HposaR0 Hacc]
  · isplitr; · iexact Hctx
    isplitl [HO]; · iexact HO
    isplitl [HcraR0]; · iexact HcraR0
    isplitl [HposaR0]; · iexact HposaR0
    iexact Hacc
  iintro %v683 ⟨HO, Hacc, HdoneaR0, Hr0⟩
  try dsimp only
  iapply (wp_seq c)
  iapply (part22_wp I κ c _) $$ [HO HcraR4 HposaR4 Hacc]
  · isplitr; · iexact Hctx
    isplitl [HO]; · iexact HO
    isplitl [HcraR4]; · iexact HcraR4
    isplitl [HposaR4]; · iexact HposaR4
    iexact Hacc
  iintro %c1_i32_548 ⟨HO, Hacc, HdoneaR4, Hr4⟩
  try dsimp only
  iapply (wp_seq c)
  iapply (part23_wp I κ c _ _) $$ [HO HcraR1 HposaR1 Hacc]
  · isplitr; · iexact Hctx
    isplitl [HO]; · iexact HO
    isplitl [HcraR1]; · iexact HcraR1
    isplitl [HposaR1]; · iexact HposaR1
    iexact Hacc
  iintro ⟨HO, Hacc, HdoneaR1, Hr1⟩
  try dsimp only
  iapply (wp_seq c)
  iapply (part24_wp I κ c _) $$ [HO HcraR5 HposaR5 Hacc]
  · isplitr; · iexact Hctx
    isplitl [HO]; · iexact HO
    isplitl [HcraR5]; · iexact HcraR5
    isplitl [HposaR5]; · iexact HposaR5
    iexact Hacc
  iintro ⟨HO, Hacc, HdoneaR5, Hr5⟩
  try dsimp only
  iapply (wp_seq c)
  iapply (part25_wp I κ c _) $$ [HO HcraR2 HposaR2 Hacc]
  · isplitr; · iexact Hctx
    isplitl [HO]; · iexact HO
    isplitl [HcraR2]; · iexact HcraR2
    isplitl [HposaR2]; · iexact HposaR2
    iexact Hacc
  iintro ⟨HO, Hacc, HdoneaR2, Hr2⟩
  try dsimp only
  iapply (wp_seq c)
  iapply (part26_wp I κ c _) $$ [HO HcraR6 HposaR6 Hacc]
  · isplitr; · iexact Hctx
    isplitl [HO]; · iexact HO
    isplitl [HcraR6]; · iexact HcraR6
    isplitl [HposaR6]; · iexact HposaR6
    iexact Hacc
  iintro ⟨HO, Hacc, HdoneaR6, Hr6⟩
  try dsimp only
  iapply (wp_seq c)
  iapply (part27_wp I κ c _) $$ [HO HcraR3 HposaR3 Hacc]
  · isplitr; · iexact Hctx
    isplitl [HO]; · iexact HO
    isplitl [HcraR3]; · iexact HcraR3
    isplitl [HposaR3]; · iexact HposaR3
    iexact Hacc
  iintro ⟨HO, Hacc, HdoneaR3, Hr3⟩
  try dsimp only
  iapply (wp_seq c)
  iapply (part28_wp I κ c fo _) $$ [Hacc Ho Hrow HO HkG0]
  · isplitr; · iexact Hctx
    isplitl [Hacc]; · iexact Hacc
    isplitl [Ho]; · iexact Ho
    isplitl [Hrow]; · iexact Hrow
    isplitl [HO]; · iexact HO
    iexact HkG0
  iintro %v849 %v859 ⟨Hacc, Ho, HO, Hrw, Hrow1, Hrow2, Hrow3, Hrow4, Hrow5, Hrow6, HcrgS0⟩
  try dsimp only
  iapply (wp_seq c)
  iapply (part29_wp I κ c _) $$ [HO Hrow1 HkG1 Hrow2 HkG2 Hrow3 HkG3]
  · isplitr; · iexact Hctx
    isplitl [HO]; · iexact HO
    isplitl [Hrow1]; · iexact Hrow1
    isplitl [HkG1]; · iexact HkG1
    isplitl [Hrow2]; · iexact Hrow2
    isplitl [HkG2]; · iexact HkG2
    isplitl [Hrow3]; · iexact Hrow3
    iexact HkG3
  iintro %v869 %v879 %v889 ⟨HO, HcrgS1, HcrgS2, HcrgS3⟩
  try dsimp only
  iapply (wp_seq c)
  iapply (part30_wp I κ c _ _) $$ [HO Hrow4 HkG4 Hrow5 HkG5 Hrow6 HkG6]
  · isplitr; · iexact Hctx
    isplitl [HO]; · iexact HO
    isplitl [Hrow4]; · iexact Hrow4
    isplitl [HkG4]; · iexact HkG4
    isplitl [Hrow5]; · iexact Hrow5
    isplitl [HkG5]; · iexact HkG5
    isplitl [Hrow6]; · iexact Hrow6
    iexact HkG6
  iintro %v899 %v909 ⟨HO, HcrgS4, HcrgS5, HcrgS6⟩
  try dsimp only
  iapply (wp_seq c)
  iapply (part31_wp I κ c fo _ _) $$ [HO HcrgR0 HposgR0 Ho HcrgR1 HposgR1]
  · isplitr; · iexact Hctx
    isplitl [HO]; · iexact HO
    isplitl [HcrgR0]; · iexact HcrgR0
    isplitl [HposgR0]; · iexact HposgR0
    isplitl [Ho]; · iexact Ho
    isplitl [HcrgR1]; · iexact HcrgR1
    iexact HposgR1
  iintro ⟨HO, Ho, HdonegR0, Hg0, HdonegR1, Hg1⟩
  try dsimp only
  iapply (wp_seq c)
  iapply (part32_wp I κ c fo _ _ _) $$ [HO HcrgR2 HposgR2 Ho HcrgR3 HposgR3]
  · isplitr; · iexact Hctx
    isplitl [HO]; · iexact HO
    isplitl [HcrgR2]; · iexact HcrgR2
    isplitl [HposgR2]; · iexact HposgR2
    isplitl [Ho]; · iexact Ho
    isplitl [HcrgR3]; · iexact HcrgR3
    iexact HposgR3
  iintro %v971 ⟨HO, Ho, HdonegR2, Hg2, HdonegR3, Hg3⟩
  try dsimp only
  iapply (wp_seq c)
  iapply (part33_wp I κ c fo _ _ _ _) $$ [Hg3 Ho HO HcrgR4 HposgR4 HcrgR5 HposgR5]
  · isplitr; · iexact Hctx
    isplitl [Hg3]; · iexact Hg3
    isplitl [Ho]; · iexact Ho
    isplitl [HO]; · iexact HO
    isplitl [HcrgR4]; · iexact HcrgR4
    isplitl [HposgR4]; · iexact HposgR4
    isplitl [HcrgR5]; · iexact HcrgR5
    iexact HposgR5
  iintro ⟨Hg3, Ho, HO, HdonegR4, Hg4, HdonegR5, Hg5⟩
  try dsimp only
  iapply (wp_seq c)
  iapply (part34_wp I κ c fo _ _) $$ [Hg5 Ho HO HcrgR6 HposgR6]
  · isplitr; · iexact Hctx
    isplitl [Hg5]; · iexact Hg5
    isplitl [Ho]; · iexact Ho
    isplitl [HO]; · iexact HO
    isplitl [HcrgR6]; · iexact HcrgR6
    iexact HposgR6
  iintro ⟨Hg5, Ho, HO, HdonegR6, Hg6⟩
  try dsimp only
  iapply (wp_seq c)
  iapply (part35_wp I κ c) $$ [HO HcraS0 HposaS0 HcrgS0 HposgS0 HcraS1 HposaS1 HcrgS1 HposgS1]
  · isplitr; · iexact Hctx
    isplitl [HO]; · iexact HO
    isplitl [HcraS0]; · iexact HcraS0
    isplitl [HposaS0]; · iexact HposaS0
    isplitl [HcrgS0]; · iexact HcrgS0
    isplitl [HposgS0]; · iexact HposgS0
    isplitl [HcraS1]; · iexact HcraS1
    isplitl [HposaS1]; · iexact HposaS1
    isplitl [HcrgS1]; · iexact HcrgS1
    iexact HposgS1
  iintro ⟨HO, HdoneaS0, Hs0, HdonegS0, Hrow0, HdoneaS1, Hs1, HdonegS1, Hrow1⟩
  try dsimp only
  iapply (wp_seq c)
  iapply (part36_wp I κ c) $$ [HO HcraS2 HposaS2 HcrgS2 HposgS2 HcraS3 HposaS3 HcrgS3 HposgS3]
  · isplitr; · iexact Hctx
    isplitl [HO]; · iexact HO
    isplitl [HcraS2]; · iexact HcraS2
    isplitl [HposaS2]; · iexact HposaS2
    isplitl [HcrgS2]; · iexact HcrgS2
    isplitl [HposgS2]; · iexact HposgS2
    isplitl [HcraS3]; · iexact HcraS3
    isplitl [HposaS3]; · iexact HposaS3
    isplitl [HcrgS3]; · iexact HcrgS3
    iexact HposgS3
  iintro ⟨HO, HdoneaS2, Hs2, HdonegS2, Hrow2, HdoneaS3, Hs3, HdonegS3, Hrow3⟩
  try dsimp only
  iapply (wp_seq c)
  iapply (part37_wp I κ c) $$ [HO HcraS4 HposaS4 HcrgS4 HposgS4 HcraS5 HposaS5 HcrgS5 HposgS5]
  · isplitr; · iexact Hctx
    isplitl [HO]; · iexact HO
    isplitl [HcraS4]; · iexact HcraS4
    isplitl [HposaS4]; · iexact HposaS4
    isplitl [HcrgS4]; · iexact HcrgS4
    isplitl [HposgS4]; · iexact HposgS4
    isplitl [HcraS5]; · iexact HcraS5
    isplitl [HposaS5]; · iexact HposaS5
    isplitl [HcrgS5]; · iexact HcrgS5
    iexact HposgS5
  iintro ⟨HO, HdoneaS4, Hs4, HdonegS4, Hrow4, HdoneaS5, Hs5, HdonegS5, Hrow5⟩
  try dsimp only
  simp only [Prog.lift, Prog.bind_op, Prog.bind_ret, Prog.pure_eq_ret]
  iapply (wp_waitX I κ c aS 6 [] [] 0 (lv_aS 6) (.inl rfl) (.inl (by decide)) _ rfl (credit_s 6)) $$ [HO HcraS6 HposaS6]
  · isplitr; · iexact Hctx
    isplitl [HO]; · iexact HO
    isplitl [HcraS6]; · iexact HcraS6
    iexact HposaS6
  iintro ⟨HO, HdoneaS6, Hs6⟩
  ihave Hs6 := (xfer_aS I c 6) $$ Hs6
  iapply (wp_done c)
  iapply Hcont
  isplitl [Hx]; · iexact Hx
  isplitl [Hwq]; · iexact Hwq
  isplitl [Hk]; · iexact Hk
  isplitl [Hv]; · iexact Hv
  isplitl [Hwo]; · iexact Hwo
  isplitl [Ho]; · iexact Ho
  isplitl [Hwqb]; · iexact Hwqb
  isplitl [Hwob]; · iexact Hwob
  isplitl [Hq]; · iexact Hq
  isplitl [Hacc]; · iexact Hacc
  isplitl [HO]; · iexact HO
  isplitl [Hbarp]; · iexact Hbarp
  isplitl [HdoneaR0]; · iexact HdoneaR0
  isplitl [Hr0]; · iexact Hr0
  isplitl [HdoneaR4]; · iexact HdoneaR4
  isplitl [Hr4]; · iexact Hr4
  isplitl [HdoneaR1]; · iexact HdoneaR1
  isplitl [Hr1]; · iexact Hr1
  isplitl [HdoneaR5]; · iexact HdoneaR5
  isplitl [Hr5]; · iexact Hr5
  isplitl [HdoneaR2]; · iexact HdoneaR2
  isplitl [Hr2]; · iexact Hr2
  isplitl [HdoneaR6]; · iexact HdoneaR6
  isplitl [Hr6]; · iexact Hr6
  isplitl [HdoneaR3]; · iexact HdoneaR3
  isplitl [Hr3]; · iexact Hr3
  isplitl [Hrw]; · iexact Hrw
  isplitl [HdonegR0]; · iexact HdonegR0
  isplitl [Hg0]; · iexact Hg0
  isplitl [HdonegR1]; · iexact HdonegR1
  isplitl [Hg1]; · iexact Hg1
  isplitl [HdonegR2]; · iexact HdonegR2
  isplitl [Hg2]; · iexact Hg2
  isplitl [HdonegR3]; · iexact HdonegR3
  isplitl [Hg3]; · iexact Hg3
  isplitl [HdonegR4]; · iexact HdonegR4
  isplitl [Hg4]; · iexact Hg4
  isplitl [HdonegR5]; · iexact HdonegR5
  isplitl [Hg5]; · iexact Hg5
  isplitl [HdonegR6]; · iexact HdonegR6
  isplitl [Hg6]; · iexact Hg6
  isplitl [HdoneaS0]; · iexact HdoneaS0
  isplitl [Hs0]; · iexact Hs0
  isplitl [HdonegS0]; · iexact HdonegS0
  isplitl [Hrow0]; · iexact Hrow0
  isplitl [HdoneaS1]; · iexact HdoneaS1
  isplitl [Hs1]; · iexact Hs1
  isplitl [HdonegS1]; · iexact HdonegS1
  isplitl [Hrow1]; · iexact Hrow1
  isplitl [HdoneaS2]; · iexact HdoneaS2
  isplitl [Hs2]; · iexact Hs2
  isplitl [HdonegS2]; · iexact HdonegS2
  isplitl [Hrow2]; · iexact Hrow2
  isplitl [HdoneaS3]; · iexact HdoneaS3
  isplitl [Hs3]; · iexact Hs3
  isplitl [HdonegS3]; · iexact HdonegS3
  isplitl [Hrow3]; · iexact Hrow3
  isplitl [HdoneaS4]; · iexact HdoneaS4
  isplitl [Hs4]; · iexact Hs4
  isplitl [HdonegS4]; · iexact HdonegS4
  isplitl [Hrow4]; · iexact Hrow4
  isplitl [HdoneaS5]; · iexact HdoneaS5
  isplitl [Hs5]; · iexact Hs5
  isplitl [HdonegS5]; · iexact HdonegS5
  isplitl [Hrow5]; · iexact Hrow5
  isplitl [HdoneaS6]; · iexact HdoneaS6
  isplitl [Hs6]; · iexact Hs6
  isplitl [HcrgS6]; · iexact HcrgS6
  iexact HposgS6

theorem body_wp (fo : Vec F S2x512x768 .f32) {Φ} :
    iprop(ctx I κ
      ∗ buf c xM (I c).x
      ∗ buf c wqM (I c).wq
      ∗ buf c kM (I c).k
      ∗ buf c vM (I c).v
      ∗ buf c woM (I c).wo
      ∗ buf c oM fo
      ∗ (∃ f, buf c wqbM f)
      ∗ (∃ f, buf c wobM f)
      ∗ (∃ f, buf c qM f)
      ∗ (∃ f, buf c accM f)
      ∗ (∃ f, buf c rowM f)
      ∗ owesX c (owed c [0, 1, 2, 3, 4, 5, 6] [0, 4, 1, 5, 2, 6, 3] [0, 1, 2, 3, 4, 5, 6])
      ∗ sigKit c 0
      ∗ (∃ f, sPts c 0 f)
      ∗ posKit aS c 0
      ∗ posKit aR c 0
      ∗ posKit gS c 0
      ∗ posKit gR c 0
      ∗ credKit aR c 0
      ∗ credKit gR c 0
      ∗ sigKit c 1
      ∗ (∃ f, sPts c 1 f)
      ∗ posKit aS c 1
      ∗ posKit aR c 1
      ∗ posKit gS c 1
      ∗ posKit gR c 1
      ∗ credKit aR c 1
      ∗ credKit gR c 1
      ∗ sigKit c 2
      ∗ (∃ f, sPts c 2 f)
      ∗ posKit aS c 2
      ∗ posKit aR c 2
      ∗ posKit gS c 2
      ∗ posKit gR c 2
      ∗ credKit aR c 2
      ∗ credKit gR c 2
      ∗ sigKit c 3
      ∗ (∃ f, sPts c 3 f)
      ∗ posKit aS c 3
      ∗ posKit aR c 3
      ∗ posKit gS c 3
      ∗ posKit gR c 3
      ∗ credKit aR c 3
      ∗ credKit gR c 3
      ∗ sigKit c 4
      ∗ (∃ f, sPts c 4 f)
      ∗ posKit aS c 4
      ∗ posKit aR c 4
      ∗ posKit gS c 4
      ∗ posKit gR c 4
      ∗ credKit aR c 4
      ∗ credKit gR c 4
      ∗ sigKit c 5
      ∗ (∃ f, sPts c 5 f)
      ∗ posKit aS c 5
      ∗ posKit aR c 5
      ∗ posKit gS c 5
      ∗ posKit gR c 5
      ∗ credKit aR c 5
      ∗ credKit gR c 5
      ∗ sigKit c 6
      ∗ (∃ f, sPts c 6 f)
      ∗ posKit aS c 6
      ∗ posKit aR c 6
      ∗ posKit gS c 6
      ∗ posKit gR c 6
      ∗ credKit aR c 6
      ∗ credKit gR c 6
      ∗ cred (tallyAt (barCell c) () 7)
      ∗ atPos ER (barCell c) 0 ∅ 0
      ∗ payKit aS aR c 0
      ∗ payKit aS aR c 1
      ∗ payKit aS aR c 2
      ∗ payKit aS aR c 3
      ∗ payKit aS aR c 4
      ∗ payKit aS aR c 5
      ∗ payKit aS aR c 6
      ∗ payKit gS gR c 0
      ∗ payKit gS gR c 1
      ∗ payKit gS gR c 2
      ∗ payKit gS gR c 3
      ∗ payKit gS gR c 4
      ∗ payKit gS gR c 5
      ∗ payKit gS gR c 6)
      ⊢ iprop((iprop(buf c xM (I c).x
      ∗ buf c wqM (I c).wq
      ∗ buf c kM (I c).k
      ∗ buf c vM (I c).v
      ∗ buf c woM (I c).wo
      ∗ buf c oM (outP I c fo 7)
      ∗ buf c wqbM (wqB (I c))
      ∗ buf c wobM (woB (I c))
      ∗ buf c qM (qC (I c))
      ∗ buf c accM (accC I c 7 7)
      ∗ owesX c (owed c [] [] [])
      ∗ atPos ER (barCell c) 1 ∅ 0
      ∗ doneKit aR c 0
      ∗ rPts c 0 (recvC I c)
      ∗ doneKit aR c 4
      ∗ rPts c 4 (recvC I c)
      ∗ doneKit aR c 1
      ∗ rPts c 1 (recvC I c)
      ∗ doneKit aR c 5
      ∗ rPts c 5 (recvC I c)
      ∗ doneKit aR c 2
      ∗ rPts c 2 (recvC I c)
      ∗ doneKit aR c 6
      ∗ rPts c 6 (recvC I c)
      ∗ doneKit aR c 3
      ∗ rPts c 3 (recvC I c)
      ∗ rowPts (Transfers.shareDrop fullShare 7) c (rowsC I c)
      ∗ doneKit gR c 0
      ∗ gPts c 0 (gathC I c)
      ∗ doneKit gR c 1
      ∗ gPts c 1 (gathC I c)
      ∗ doneKit gR c 2
      ∗ gPts c 2 (gathC I c)
      ∗ doneKit gR c 3
      ∗ gPts c 3 (gathC I c)
      ∗ doneKit gR c 4
      ∗ gPts c 4 (gathC I c)
      ∗ doneKit gR c 5
      ∗ gPts c 5 (gathC I c)
      ∗ doneKit gR c 6
      ∗ gPts c 6 (gathC I c)
      ∗ doneKit aS c 0
      ∗ sPts c 0 (sendC I c)
      ∗ doneKit gS c 0
      ∗ rowPts (rowShare 0) c (rowsC I c)
      ∗ doneKit aS c 1
      ∗ sPts c 1 (sendC I c)
      ∗ doneKit gS c 1
      ∗ rowPts (rowShare 1) c (rowsC I c)
      ∗ doneKit aS c 2
      ∗ sPts c 2 (sendC I c)
      ∗ doneKit gS c 2
      ∗ rowPts (rowShare 2) c (rowsC I c)
      ∗ doneKit aS c 3
      ∗ sPts c 3 (sendC I c)
      ∗ doneKit gS c 3
      ∗ rowPts (rowShare 3) c (rowsC I c)
      ∗ doneKit aS c 4
      ∗ sPts c 4 (sendC I c)
      ∗ doneKit gS c 4
      ∗ rowPts (rowShare 4) c (rowsC I c)
      ∗ doneKit aS c 5
      ∗ sPts c 5 (sendC I c)
      ∗ doneKit gS c 5
      ∗ rowPts (rowShare 5) c (rowsC I c)
      ∗ doneKit aS c 6
      ∗ sPts c 6 (sendC I c)
      ∗ doneKit gS c 6
      ∗ rowPts (rowShare 6) c (rowsC I c)) -∗ Φ ⟨⟩)
        -∗ WP (F := F) c (cc0_body xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11) Φ) := by
  rw [cc0_body_eq_skeleton]; unfold cc0_body_skel
  iintro ⟨#Hctx, H⟩ Hcont
  iapply (wp_seq c)
  iapply (part38_wp I κ c fo) $$ [H]
  · isplitr; · iexact Hctx
    iexact H
  iintro ⟨Hx, Hwq, Hk, Hv, Hwo, Ho, Hwqb, Hwob, Hq, Hacc, HO, Hbarp, HdoneaR0, Hr0, HdoneaR4, Hr4, HdoneaR1, Hr1, HdoneaR5, Hr5, HdoneaR2, Hr2, HdoneaR6, Hr6, HdoneaR3, Hr3, Hrw, HdonegR0, Hg0, HdonegR1, Hg1, HdonegR2, Hg2, HdonegR3, Hg3, HdonegR4, Hg4, HdonegR5, Hg5, HdonegR6, Hg6, HdoneaS0, Hs0, HdonegS0, Hrow0, HdoneaS1, Hs1, HdonegS1, Hrow1, HdoneaS2, Hs2, HdonegS2, Hrow2, HdoneaS3, Hs3, HdonegS3, Hrow3, HdoneaS4, Hs4, HdonegS4, Hrow4, HdoneaS5, Hs5, HdonegS5, Hrow5, HdoneaS6, Hs6, HcrgS6, HposgS6⟩
  try dsimp only
  simp only [Prog.lift, Prog.bind_op, Prog.bind_ret, Prog.pure_eq_ret]
  iapply (wp_waitX I κ c gS 6 [] [] 0 (lv_gS 6) (.inl rfl) (.inl (by decide)) _ rfl amount_row) $$ [HO HcrgS6 HposgS6]
  · isplitr; · iexact Hctx
    isplitl [HO]; · iexact HO
    isplitl [HcrgS6]; · iexact HcrgS6
    iexact HposgS6
  iintro ⟨HO, HdonegS6, Hrow6⟩
  ihave Hrow6 := (xfer_gS I c 6) $$ Hrow6
  iapply (wp_done c)
  iapply Hcont
  isplitl [Hx]; · iexact Hx
  isplitl [Hwq]; · iexact Hwq
  isplitl [Hk]; · iexact Hk
  isplitl [Hv]; · iexact Hv
  isplitl [Hwo]; · iexact Hwo
  isplitl [Ho]; · iexact Ho
  isplitl [Hwqb]; · iexact Hwqb
  isplitl [Hwob]; · iexact Hwob
  isplitl [Hq]; · iexact Hq
  isplitl [Hacc]; · iexact Hacc
  isplitl [HO]; · iexact HO
  isplitl [Hbarp]; · iexact Hbarp
  isplitl [HdoneaR0]; · iexact HdoneaR0
  isplitl [Hr0]; · iexact Hr0
  isplitl [HdoneaR4]; · iexact HdoneaR4
  isplitl [Hr4]; · iexact Hr4
  isplitl [HdoneaR1]; · iexact HdoneaR1
  isplitl [Hr1]; · iexact Hr1
  isplitl [HdoneaR5]; · iexact HdoneaR5
  isplitl [Hr5]; · iexact Hr5
  isplitl [HdoneaR2]; · iexact HdoneaR2
  isplitl [Hr2]; · iexact Hr2
  isplitl [HdoneaR6]; · iexact HdoneaR6
  isplitl [Hr6]; · iexact Hr6
  isplitl [HdoneaR3]; · iexact HdoneaR3
  isplitl [Hr3]; · iexact Hr3
  isplitl [Hrw]; · iexact Hrw
  isplitl [HdonegR0]; · iexact HdonegR0
  isplitl [Hg0]; · iexact Hg0
  isplitl [HdonegR1]; · iexact HdonegR1
  isplitl [Hg1]; · iexact Hg1
  isplitl [HdonegR2]; · iexact HdonegR2
  isplitl [Hg2]; · iexact Hg2
  isplitl [HdonegR3]; · iexact HdonegR3
  isplitl [Hg3]; · iexact Hg3
  isplitl [HdonegR4]; · iexact HdonegR4
  isplitl [Hg4]; · iexact Hg4
  isplitl [HdonegR5]; · iexact HdonegR5
  isplitl [Hg5]; · iexact Hg5
  isplitl [HdonegR6]; · iexact HdonegR6
  isplitl [Hg6]; · iexact Hg6
  isplitl [HdoneaS0]; · iexact HdoneaS0
  isplitl [Hs0]; · iexact Hs0
  isplitl [HdonegS0]; · iexact HdonegS0
  isplitl [Hrow0]; · iexact Hrow0
  isplitl [HdoneaS1]; · iexact HdoneaS1
  isplitl [Hs1]; · iexact Hs1
  isplitl [HdonegS1]; · iexact HdonegS1
  isplitl [Hrow1]; · iexact Hrow1
  isplitl [HdoneaS2]; · iexact HdoneaS2
  isplitl [Hs2]; · iexact Hs2
  isplitl [HdonegS2]; · iexact HdonegS2
  isplitl [Hrow2]; · iexact Hrow2
  isplitl [HdoneaS3]; · iexact HdoneaS3
  isplitl [Hs3]; · iexact Hs3
  isplitl [HdonegS3]; · iexact HdonegS3
  isplitl [Hrow3]; · iexact Hrow3
  isplitl [HdoneaS4]; · iexact HdoneaS4
  isplitl [Hs4]; · iexact Hs4
  isplitl [HdonegS4]; · iexact HdonegS4
  isplitl [Hrow4]; · iexact Hrow4
  isplitl [HdoneaS5]; · iexact HdoneaS5
  isplitl [Hs5]; · iexact Hs5
  isplitl [HdonegS5]; · iexact HdonegS5
  isplitl [Hrow5]; · iexact Hrow5
  isplitl [HdoneaS6]; · iexact HdoneaS6
  isplitl [Hs6]; · iexact Hs6
  isplitl [HdonegS6]; · iexact HdonegS6
  iexact Hrow6

end Body

end Cert.Exchange

end
-- ==== Proof.Enter.lean ====
/- # Into the body and out of it

What a device brings to the launch — the buffers, the places of its semaphores, the tokens and the credits — arranged
slot by slot as the body takes it, and what the body leaves, arranged as whole buffers and semaphores at zero. -/
module

public import proofs.«01_k».proof.Proof.Body
public import Idealize.ShloMosaic.Lib.Ring

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole buffers and their slots -/

theorem bigSep_fin4 (Φ : Fin 4 → sProp 𝕄) :
    bigSep Finset.univ Φ = (iprop(Φ 0 ∗ Φ 1 ∗ Φ 2 ∗ Φ 3) : sProp 𝕄) :=
  (bigSep_univ_eq_bigSepL [0, 1, 2, 3] (by decide) (by decide) Φ).trans rfl

/-- Two families as one of pairs. -/
theorem bigSep_pair {ι : Type} [Fintype ι] {Φ Ψ : ι → sProp 𝕄} :
    iprop(bigSep Finset.univ Φ ∗ bigSep Finset.univ Ψ) ⊢ bigSep Finset.univ (fun i => iprop(Φ i ∗ Ψ i)) :=
  Entails.of_eq (bigSep_sep _ _ _).symm

section Slots
variable (c : Dev nD)

theorem slots_s_eq (f : Vec F S7x2x64x768 .bf16) :
    ((((c : Thread nD τ).loc cc0_scratch3) ↦{fullShare} f) : sProp 𝕄) = bigSep Finset.univ fun s : Fin 7 => sPts c s f := by
  unfold sPts
  exact Ring.pointsTo_blocks (ℓ := (c : Thread nD τ).loc cc0_scratch3) (q := fullShare) slotSet (fun _ _ h => slots_disjoint h) slots_cover f

theorem slots_s_open : iprop(∃ f : Vec F S7x2x64x768 .bf16, ((c : Thread nD τ).loc cc0_scratch3) ↦{fullShare} f)
    ⊢ (bigSep Finset.univ fun s : Fin 7 => iprop(∃ f, sPts c s f) : sProp 𝕄) := by
  have h (f : Vec F S7x2x64x768 .bf16) (s : Fin 7) : sPts c s f ⊢ (iprop(∃ f, sPts c s f) : sProp 𝕄) := by iintro H; iexists f; iexact H
  have h' (f : Vec F S7x2x64x768 .bf16) : (bigSep Finset.univ fun s : Fin 7 => sPts c s f) ⊢ (bigSep Finset.univ fun s : Fin 7 => iprop(∃ f, sPts c s f) : sProp 𝕄) :=
    bigSep_mono fun s _ => h f s
  iintro ⟨%f, H⟩
  ihave H := (Entails.of_eq (slots_s_eq c f)) $$ H
  iapply (h' f) $$ H

theorem slots_s_join (f : Vec F S7x2x64x768 .bf16) :
    (bigSep Finset.univ fun s : Fin 7 => sPts c s f)
      ⊢ (iprop(∃ f : Vec F S7x2x64x768 .bf16, ((c : Thread nD τ).loc cc0_scratch3) ↦{fullShare} f) : sProp 𝕄) := by
  rw [← slots_s_eq]
  iintro H
  iexists f
  iexact H

theorem slots_r_eq (f : Vec F S7x2x64x768 .bf16) :
    ((((c : Thread nD τ).loc cc0_scratch4) ↦{fullShare} f) : sProp 𝕄) = bigSep Finset.univ fun s : Fin 7 => rPts c s f := by
  unfold rPts
  exact Ring.pointsTo_blocks (ℓ := (c : Thread nD τ).loc cc0_scratch4) (q := fullShare) slotSet (fun _ _ h => slots_disjoint h) slots_cover f

theorem slots_r_open : iprop(∃ f : Vec F S7x2x64x768 .bf16, ((c : Thread nD τ).loc cc0_scratch4) ↦{fullShare} f)
    ⊢ (bigSep Finset.univ fun s : Fin 7 => iprop(∃ f, rPts c s f) : sProp 𝕄) := by
  have h (f : Vec F S7x2x64x768 .bf16) (s : Fin 7) : rPts c s f ⊢ (iprop(∃ f, rPts c s f) : sProp 𝕄) := by iintro H; iexists f; iexact H
  have h' (f : Vec F S7x2x64x768 .bf16) : (bigSep Finset.univ fun s : Fin 7 => rPts c s f) ⊢ (bigSep Finset.univ fun s : Fin 7 => iprop(∃ f, rPts c s f) : sProp 𝕄) :=
    bigSep_mono fun s _ => h f s
  iintro ⟨%f, H⟩
  ihave H := (Entails.of_eq (slots_r_eq c f)) $$ H
  iapply (h' f) $$ H

theorem slots_r_join (f : Vec F S7x2x64x768 .bf16) :
    (bigSep Finset.univ fun s : Fin 7 => rPts c s f)
      ⊢ (iprop(∃ f : Vec F S7x2x64x768 .bf16, ((c : Thread nD τ).loc cc0_scratch4) ↦{fullShare} f) : sProp 𝕄) := by
  rw [← slots_r_eq]
  iintro H
  iexists f
  iexact H

theorem slots_g_eq (f : Vec F S7x2x64x768 .bf16) :
    ((((c : Thread nD τ).loc cc0_scratch7) ↦{fullShare} f) : sProp 𝕄) = bigSep Finset.univ fun s : Fin 7 => gPts c s f := by
  unfold gPts
  exact Ring.pointsTo_blocks (ℓ := (c : Thread nD τ).loc cc0_scratch7) (q := fullShare) slotSet (fun _ _ h => slots_disjoint h) slots_cover f

theorem slots_g_open : iprop(∃ f : Vec F S7x2x64x768 .bf16, ((c : Thread nD τ).loc cc0_scratch7) ↦{fullShare} f)
    ⊢ (bigSep Finset.univ fun s : Fin 7 => iprop(∃ f, gPts c s f) : sProp 𝕄) := by
  have h (f : Vec F S7x2x64x768 .bf16) (s : Fin 7) : gPts c s f ⊢ (iprop(∃ f, gPts c s f) : sProp 𝕄) := by iintro H; iexists f; iexact H
  have h' (f : Vec F S7x2x64x768 .bf16) : (bigSep Finset.univ fun s : Fin 7 => gPts c s f) ⊢ (bigSep Finset.univ fun s : Fin 7 => iprop(∃ f, gPts c s f) : sProp 𝕄) :=
    bigSep_mono fun s _ => h f s
  iintro ⟨%f, H⟩
  ihave H := (Entails.of_eq (slots_g_eq c f)) $$ H
  iapply (h' f) $$ H

theorem slots_g_join (f : Vec F S7x2x64x768 .bf16) :
    (bigSep Finset.univ fun s : Fin 7 => gPts c s f)
      ⊢ (iprop(∃ f : Vec F S7x2x64x768 .bf16, ((c : Thread nD τ).loc cc0_scratch7) ↦{fullShare} f) : sProp 𝕄) := by
  rw [← slots_g_eq]
  iintro H
  iexists f
  iexact H

theorem rows_join' (f : Vec F S2x64x768 .bf16) :
    iprop(rowPts (Transfers.shareDrop fullShare 7) c f ∗ rowPts (rowShare 0) c f ∗ rowPts (rowShare 1) c f ∗ rowPts (rowShare 2) c f
      ∗ rowPts (rowShare 3) c f ∗ rowPts (rowShare 4) c f ∗ rowPts (rowShare 5) c f ∗ rowPts (rowShare 6) c f)
      ⊢ (iprop(∃ f : Buf (Elt F) ((c : Thread nD τ).loc cc0_scratch6), ((c : Thread nD τ).loc cc0_scratch6) ↦{fullShare} f) : sProp 𝕄) := by
  have h := rows_join c f
  unfold buf at h
  iintro H
  ihave H := h $$ H
  iexists f
  iexact H

end Slots

/-! ## What a device holds before the body, family by family -/

/-- The scratch buffers, at any contents. -/
def scratch (c : Dev nD) : sProp 𝕄 := iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))

/-- The rights to pay each duty that `c` pays. -/
def tokens (c : Dev nD) : sProp 𝕄 :=
  iprop((bigSep Finset.univ fun s : Fin 7 => dutyTok ER (barCell (peer c s)) 0 s.rev)
    ∗ (bigSep Finset.univ fun s : Fin 7 => dutyTok ER (cell aS c s) 0 0)
    ∗ (bigSep Finset.univ fun s : Fin 7 => dutyTok ER (cell aR (peer c s) s) 0 0)
    ∗ (bigSep Finset.univ fun s : Fin 7 => dutyTok ER (cell gS c s) 0 0)
    ∗ (bigSep Finset.univ fun s : Fin 7 => dutyTok ER (cell gR (peer c s) s) 0 0))

/-- The credits for what the others will send to `c`. -/
def credits (c : Dev nD) : sProp 𝕄 :=
  iprop(cred (tallyAt (barCell c) () 7) ∗ (bigSep Finset.univ fun s : Fin 7 => credKit aR c s) ∗ (bigSep Finset.univ fun s : Fin 7 => credKit gR c s))

/-- The transfer semaphores of `c`, not yet in use, in use at round 0, and after their one round. -/
def dormant (c : Dev nD) : sProp 𝕄 := bigSep Finset.univ fun p : Fin 4 × Fin 7 => openTok ER (cell p.1 c p.2)
def opened (c : Dev nD) : sProp 𝕄 :=
  bigSep Finset.univ fun p : Fin 4 × Fin 7 => iprop(atPos ER (cell p.1 c p.2) 0 ∅ 0 ∗ reached ER (cell p.1 c p.2) 0)
def finished (c : Dev nD) : sProp 𝕄 := bigSep Finset.univ fun p : Fin 4 × Fin 7 => doneKit p.1 c p.2
/-- The transfer semaphores of `c` at zero. -/
def zeros (c : Dev nD) : sProp 𝕄 := bigSep Finset.univ fun p : Fin 4 × Fin 7 => semVal (cell p.1 c p.2) 0

theorem ownSems0_eq (c : Dev nD) : (Pipeline.ownSems0 osem c : sProp 𝕄) = zeros c := by
  unfold Pipeline.ownSems0 zeros
  rw [bigSep_univ_equiv (finProdFinEquiv (m := 4) (n := 7))]
  refine bigSep_congr fun p _ => ?_
  have h : osem (finProdFinEquiv p) = .dma (dsem p.1 p.2) := by
    obtain ⟨k, s⟩ := p
    refine congrArg SemLoc.dma (Fin.ext ?_)
    show 6 + (s.val + 7 * k.val) = 6 + 7 * k.val + s.val
    omega
  rw [h]

section Cells
variable (I : Dev nD → Inp F) (κ : GSem nD τ sig → ℕ) (c : Dev nD)

/-- The transfer semaphores are put in use. -/
theorem open_cells : iprop(records I κ ∗ dormant c ∗ zeros c) ⊢ (|={Set.univ}=> opened c : sProp 𝕄) := by
  have h (p : Fin 4 × Fin 7) : iprop(records I κ ∗ (openTok ER (cell p.1 c p.2) ∗ semVal (cell p.1 c p.2) 0))
      ⊢ (|={Set.univ}=> iprop(atPos ER (cell p.1 c p.2) 0 ∅ 0 ∗ reached ER (cell p.1 c p.2) 0) : sProp 𝕄) := by
    iintro ⟨#HR, Ho, Hv⟩
    iapply (Rounds.cell_open ER (Rd I) (g := cell p.1 c p.2) (Set.mem_univ (κ (cell p.1 c p.2))))
    isplitr; · iapply (rec_cell I κ p.1 c p.2) $$ HR
    isplitl [Ho]; · iexact Ho
    iexact Hv
  unfold dormant zeros opened
  iintro ⟨#HR, Ho, Hv⟩
  iapply ((bigSep_with_persistent (R := records I κ) (Φ := fun p : Fin 4 × Fin 7 => iprop(openTok ER (cell p.1 c p.2) ∗ semVal (cell p.1 c p.2) 0))
    fun p _ => h p).trans (BI.bigSep_fupd _ _))
  isplitr; · iexact HR
  iapply bigSep_pair
  isplitl [Ho]; · iexact Ho
  iexact Hv

/-- The transfer semaphores are retired, each at zero. -/
theorem close_cells : iprop(records I κ ∗ finished c) ⊢ (|={Set.univ}=> zeros c : sProp 𝕄) := by
  have h (p : Fin 4 × Fin 7) : iprop(records I κ ∗ doneKit p.1 c p.2)
      ⊢ (|={Set.univ}=> semVal (cell p.1 c p.2) 0 : sProp 𝕄) := by
    unfold doneKit
    iintro ⟨#HR, Ha⟩
    iapply (Rounds.cell_close ER (Rd I) (κ := κ (cell p.1 c p.2)) (g := cell p.1 c p.2) (Set.mem_univ _) (fun h => h) (R := 1) (duties_later I _))
    isplitr; · iapply (rec_cell I κ p.1 c p.2) $$ HR
    iexact Ha
  unfold finished zeros
  iintro H
  iapply ((bigSep_with_persistent (R := records I κ) (Φ := fun p : Fin 4 × Fin 7 => (doneKit p.1 c p.2 : sProp 𝕄)) fun p _ => h p).trans (BI.bigSep_fupd _ _))
  iexact H

/-- So is the barrier. -/
theorem close_bar : iprop(records I κ ∗ atPos ER (barCell c) 1 ∅ 0) ⊢ (|={Set.univ}=> semVal (barCell c) 0 : sProp 𝕄) := by
  iintro ⟨#HR, Ha⟩
  iapply (Rounds.cell_close ER (Rd I) (κ := κ (barCell c)) (g := barCell c) (Set.mem_univ _) (fun h => h) (R := 1) (duties_later I _))
  isplitr; · iapply (rec_bar I κ c) $$ HR
  iexact Ha

end Cells

/-! ## Slot by slot -/

/-- What belongs to one slot before the body. -/
def slotKit (c : Dev nD) (s : Fin 7) : sProp 𝕄 :=
  iprop(sigKit c s ∗ (∃ f, sPts c s f) ∗ posKit aS c s ∗ posKit aR c s ∗ posKit gS c s ∗ posKit gR c s ∗ credKit aR c s ∗ credKit gR c s)

theorem rev_eq (Φ : Fin 7 → sProp 𝕄) : bigSep Finset.univ Φ = bigSep Finset.univ fun s : Fin 7 => Φ s.rev :=
  bigSep_univ_equiv Fin.revPerm Φ

theorem opened_eq (c : Dev nD) : (opened c : sProp 𝕄) = iprop(
    (bigSep Finset.univ (fun s : Fin 7 => posKit aS c s) ∗ bigSep Finset.univ (fun s : Fin 7 => reached ER (cell aS c s) 0))
    ∗ (bigSep Finset.univ (fun s : Fin 7 => posKit aR c s) ∗ bigSep Finset.univ (fun s : Fin 7 => reached ER (cell aR c s.rev) 0))
    ∗ (bigSep Finset.univ (fun s : Fin 7 => posKit gS c s) ∗ bigSep Finset.univ (fun s : Fin 7 => reached ER (cell gS c s) 0))
    ∗ (bigSep Finset.univ (fun s : Fin 7 => posKit gR c s) ∗ bigSep Finset.univ (fun s : Fin 7 => reached ER (cell gR c s.rev) 0))) := by
  unfold opened posKit
  rw [bigSep_univ_prod, bigSep_fin4, ← rev_eq fun s => reached ER (cell aR c s) 0, ← rev_eq fun s => reached ER (cell gR c s) 0,
    bigSep_sep', bigSep_sep', bigSep_sep', bigSep_sep']

theorem kits_intro (c : Dev nD) : iprop((∃ f : Vec F S7x2x64x768 .bf16, ((c : Thread nD τ).loc cc0_scratch3) ↦{fullShare} f)
      ∗ (∃ f : Vec F S7x2x64x768 .bf16, ((c : Thread nD τ).loc cc0_scratch4) ↦{fullShare} f)
      ∗ (∃ f : Vec F S7x2x64x768 .bf16, ((c : Thread nD τ).loc cc0_scratch7) ↦{fullShare} f)
      ∗ opened c ∗ tokens c ∗ credits c)
    ⊢ (iprop(bigSep Finset.univ (fun s : Fin 7 => slotKit c s) ∗ cred (tallyAt (barCell c) () 7)
      ∗ bigSep Finset.univ (fun s : Fin 7 => payKit aS aR c s) ∗ bigSep Finset.univ (fun s : Fin 7 => payKit gS gR c s)) : sProp 𝕄) := by
  rw [opened_eq]
  unfold tokens credits
  iintro ⟨Hs, Hr, Hg, ⟨⟨HpaS, HraS⟩, ⟨HpaR, HraR⟩, ⟨HpgS, HrgS⟩, ⟨HpgR, HrgR⟩⟩, ⟨HtB, HtaS, HtaR, HtgS, HtgR⟩, ⟨HcB, HcaR, HcgR⟩⟩
  ihave Hs := (slots_s_open c) $$ Hs
  ihave Hr := ((slots_r_open c).trans (Entails.of_eq (rev_eq _))) $$ Hr
  ihave Hg := ((slots_g_open c).trans (Entails.of_eq (rev_eq _))) $$ Hg
  isplitl [Hs Hr Hg HtB HpaS HpaR HpgS HpgR HraR HrgR HcaR HcgR]
  · unfold slotKit sigKit
    iapply bigSep_pair
    isplitl [Hr Hg HtB HraR HrgR]
    · iapply bigSep_pair
      isplitl [HtB]; · iexact HtB
      iapply bigSep_pair
      isplitl [Hr]; · iexact Hr
      iapply bigSep_pair
      isplitl [Hg]; · iexact Hg
      iapply bigSep_pair
      isplitl [HraR]; · iexact HraR
      iexact HrgR
    iapply bigSep_pair
    isplitl [Hs]; · iexact Hs
    iapply bigSep_pair
    isplitl [HpaS]; · iexact HpaS
    iapply bigSep_pair
    isplitl [HpaR]; · iexact HpaR
    iapply bigSep_pair
    isplitl [HpgS]; · iexact HpgS
    iapply bigSep_pair
    isplitl [HpgR]; · iexact HpgR
    iapply bigSep_pair
    isplitl [HcaR]; · iexact HcaR
    iexact HcgR
  isplitl [HcB]; · iexact HcB
  unfold payKit
  isplitl [HtaS HraS HtaR]
  · iapply bigSep_pair
    isplitl [HtaS]; · iexact HtaS
    iapply bigSep_pair
    isplitl [HraS]; · iexact HraS
    iexact HtaR
  iapply bigSep_pair
  isplitl [HtgS]; · iexact HtgS
  iapply bigSep_pair
  isplitl [HrgS]; · iexact HrgS
  iexact HtgR

theorem finished_eq (c : Dev nD) : (finished c : sProp 𝕄) = iprop(
    bigSep Finset.univ (fun s : Fin 7 => doneKit aS c s) ∗ bigSep Finset.univ (fun s : Fin 7 => doneKit aR c s)
    ∗ bigSep Finset.univ (fun s : Fin 7 => doneKit gS c s) ∗ bigSep Finset.univ (fun s : Fin 7 => doneKit gR c s)) := by
  unfold finished
  rw [bigSep_univ_prod, bigSep_fin4]

/-! ## The body between them -/

/-- The staged inputs of a device. -/
def inputs (J : Inp F) (c : Dev nD) : sProp 𝕄 := iprop(buf c xM J.x ∗ buf c wqM J.wq ∗ buf c kM J.k ∗ buf c vM J.v ∗ buf c woM J.wo)

theorem enter (c : Dev nD) (J : Inp F) (fo : Vec F S2x512x768 .f32) :
    iprop(inputs J c ∗ buf c oM fo ∗ scratch c ∗ (atPos ER (barCell c) 0 ∅ 0 ∗ opened c ∗ tokens c) ∗ credits c ∗ owesX c (O₀ c))
    ⊢ (iprop(buf c xM J.x
    ∗ buf c wqM J.wq
    ∗ buf c kM J.k
    ∗ buf c vM J.v
    ∗ buf c woM J.wo
    ∗ buf c oM fo
    ∗ (∃ f, buf c wqbM f)
    ∗ (∃ f, buf c wobM f)
    ∗ (∃ f, buf c qM f)
    ∗ (∃ f, buf c accM f)
    ∗ (∃ f, buf c rowM f)
    ∗ owesX c (owed c [0, 1, 2, 3, 4, 5, 6] [0, 4, 1, 5, 2, 6, 3] [0, 1, 2, 3, 4, 5, 6])
    ∗ sigKit c 0
    ∗ (∃ f, sPts c 0 f)
    ∗ posKit aS c 0
    ∗ posKit aR c 0
    ∗ posKit gS c 0
    ∗ posKit gR c 0
    ∗ credKit aR c 0
    ∗ credKit gR c 0
    ∗ sigKit c 1
    ∗ (∃ f, sPts c 1 f)
    ∗ posKit aS c 1
    ∗ posKit aR c 1
    ∗ posKit gS c 1
    ∗ posKit gR c 1
    ∗ credKit aR c 1
    ∗ credKit gR c 1
    ∗ sigKit c 2
    ∗ (∃ f, sPts c 2 f)
    ∗ posKit aS c 2
    ∗ posKit aR c 2
    ∗ posKit gS c 2
    ∗ posKit gR c 2
    ∗ credKit aR c 2
    ∗ credKit gR c 2
    ∗ sigKit c 3
    ∗ (∃ f, sPts c 3 f)
    ∗ posKit aS c 3
    ∗ posKit aR c 3
    ∗ posKit gS c 3
    ∗ posKit gR c 3
    ∗ credKit aR c 3
    ∗ credKit gR c 3
    ∗ sigKit c 4
    ∗ (∃ f, sPts c 4 f)
    ∗ posKit aS c 4
    ∗ posKit aR c 4
    ∗ posKit gS c 4
    ∗ posKit gR c 4
    ∗ credKit aR c 4
    ∗ credKit gR c 4
    ∗ sigKit c 5
    ∗ (∃ f, sPts c 5 f)
    ∗ posKit aS c 5
    ∗ posKit aR c 5
    ∗ posKit gS c 5
    ∗ posKit gR c 5
    ∗ credKit aR c 5
    ∗ credKit gR c 5
    ∗ sigKit c 6
    ∗ (∃ f, sPts c 6 f)
    ∗ posKit aS c 6
    ∗ posKit aR c 6
    ∗ posKit gS c 6
    ∗ posKit gR c 6
    ∗ credKit aR c 6
    ∗ credKit gR c 6
    ∗ cred (tallyAt (barCell c) () 7)
    ∗ atPos ER (barCell c) 0 ∅ 0
    ∗ payKit aS aR c 0
    ∗ payKit aS aR c 1
    ∗ payKit aS aR c 2
    ∗ payKit aS aR c 3
    ∗ payKit aS aR c 4
    ∗ payKit aS aR c 5
    ∗ payKit aS aR c 6
    ∗ payKit gS gR c 0
    ∗ payKit gS gR c 1
    ∗ payKit gS gR c 2
    ∗ payKit gS gR c 3
    ∗ payKit gS gR c 4
    ∗ payKit gS gR c 5
    ∗ payKit gS gR c 6) : sProp 𝕄) := by
  unfold inputs scratch
  iintro ⟨⟨Hx, Hwq, Hk, Hv, Hwo⟩, Ho, ⟨Hwqb, Hwob, Hq, Hs, Hr, Hacc, Hrow, Hg⟩, ⟨Hbarp, Hop, Htok⟩, Hcr, HO⟩
  ihave HK := (kits_intro c) $$ [Hs Hr Hg Hop Htok Hcr]
  · isplitl [Hs]; · iexact Hs
    isplitl [Hr]; · iexact Hr
    isplitl [Hg]; · iexact Hg
    isplitl [Hop]; · iexact Hop
    isplitl [Htok]; · iexact Htok
    iexact Hcr
  rw [bigSep_fin7, bigSep_fin7, bigSep_fin7]
  unfold slotKit
  icases HK with ⟨⟨⟨Hsig0, Hs0, HposaS0, HposaR0, HposgS0, HposgR0, HcraR0, HcrgR0⟩, ⟨Hsig1, Hs1, HposaS1, HposaR1, HposgS1, HposgR1, HcraR1, HcrgR1⟩, ⟨Hsig2, Hs2, HposaS2, HposaR2, HposgS2, HposgR2, HcraR2, HcrgR2⟩, ⟨Hsig3, Hs3, HposaS3, HposaR3, HposgS3, HposgR3, HcraR3, HcrgR3⟩, ⟨Hsig4, Hs4, HposaS4, HposaR4, HposgS4, HposgR4, HcraR4, HcrgR4⟩, ⟨Hsig5, Hs5, HposaS5, HposaR5, HposgS5, HposgR5, HcraR5, HcrgR5⟩, ⟨Hsig6, Hs6, HposaS6, HposaR6, HposgS6, HposgR6, HcraR6, HcrgR6⟩⟩, Hbarc, ⟨HpA0, HpA1, HpA2, HpA3, HpA4, HpA5, HpA6⟩, ⟨HpG0, HpG1, HpG2, HpG3, HpG4, HpG5, HpG6⟩⟩
  isplitl [Hx]; · iexact Hx
  isplitl [Hwq]; · iexact Hwq
  isplitl [Hk]; · iexact Hk
  isplitl [Hv]; · iexact Hv
  isplitl [Hwo]; · iexact Hwo
  isplitl [Ho]; · iexact Ho
  isplitl [Hwqb]; · iexact Hwqb
  isplitl [Hwob]; · iexact Hwob
  isplitl [Hq]; · iexact Hq
  isplitl [Hacc]; · iexact Hacc
  isplitl [Hrow]; · iexact Hrow
  isplitl [HO]; · iexact HO
  isplitl [Hsig0]; · iexact Hsig0
  isplitl [Hs0]; · iexact Hs0
  isplitl [HposaS0]; · iexact HposaS0
  isplitl [HposaR0]; · iexact HposaR0
  isplitl [HposgS0]; · iexact HposgS0
  isplitl [HposgR0]; · iexact HposgR0
  isplitl [HcraR0]; · iexact HcraR0
  isplitl [HcrgR0]; · iexact HcrgR0
  isplitl [Hsig1]; · iexact Hsig1
  isplitl [Hs1]; · iexact Hs1
  isplitl [HposaS1]; · iexact HposaS1
  isplitl [HposaR1]; · iexact HposaR1
  isplitl [HposgS1]; · iexact HposgS1
  isplitl [HposgR1]; · iexact HposgR1
  isplitl [HcraR1]; · iexact HcraR1
  isplitl [HcrgR1]; · iexact HcrgR1
  isplitl [Hsig2]; · iexact Hsig2
  isplitl [Hs2]; · iexact Hs2
  isplitl [HposaS2]; · iexact HposaS2
  isplitl [HposaR2]; · iexact HposaR2
  isplitl [HposgS2]; · iexact HposgS2
  isplitl [HposgR2]; · iexact HposgR2
  isplitl [HcraR2]; · iexact HcraR2
  isplitl [HcrgR2]; · iexact HcrgR2
  isplitl [Hsig3]; · iexact Hsig3
  isplitl [Hs3]; · iexact Hs3
  isplitl [HposaS3]; · iexact HposaS3
  isplitl [HposaR3]; · iexact HposaR3
  isplitl [HposgS3]; · iexact HposgS3
  isplitl [HposgR3]; · iexact HposgR3
  isplitl [HcraR3]; · iexact HcraR3
  isplitl [HcrgR3]; · iexact HcrgR3
  isplitl [Hsig4]; · iexact Hsig4
  isplitl [Hs4]; · iexact Hs4
  isplitl [HposaS4]; · iexact HposaS4
  isplitl [HposaR4]; · iexact HposaR4
  isplitl [HposgS4]; · iexact HposgS4
  isplitl [HposgR4]; · iexact HposgR4
  isplitl [HcraR4]; · iexact HcraR4
  isplitl [HcrgR4]; · iexact HcrgR4
  isplitl [Hsig5]; · iexact Hsig5
  isplitl [Hs5]; · iexact Hs5
  isplitl [HposaS5]; · iexact HposaS5
  isplitl [HposaR5]; · iexact HposaR5
  isplitl [HposgS5]; · iexact HposgS5
  isplitl [HposgR5]; · iexact HposgR5
  isplitl [HcraR5]; · iexact HcraR5
  isplitl [HcrgR5]; · iexact HcrgR5
  isplitl [Hsig6]; · iexact Hsig6
  isplitl [Hs6]; · iexact Hs6
  isplitl [HposaS6]; · iexact HposaS6
  isplitl [HposaR6]; · iexact HposaR6
  isplitl [HposgS6]; · iexact HposgS6
  isplitl [HposgR6]; · iexact HposgR6
  isplitl [HcraR6]; · iexact HcraR6
  isplitl [HcrgR6]; · iexact HcrgR6
  isplitl [Hbarc]; · iexact Hbarc
  isplitl [Hbarp]; · iexact Hbarp
  isplitl [HpA0]; · iexact HpA0
  isplitl [HpA1]; · iexact HpA1
  isplitl [HpA2]; · iexact HpA2
  isplitl [HpA3]; · iexact HpA3
  isplitl [HpA4]; · iexact HpA4
  isplitl [HpA5]; · iexact HpA5
  isplitl [HpA6]; · iexact HpA6
  isplitl [HpG0]; · iexact HpG0
  isplitl [HpG1]; · iexact HpG1
  isplitl [HpG2]; · iexact HpG2
  isplitl [HpG3]; · iexact HpG3
  isplitl [HpG4]; · iexact HpG4
  isplitl [HpG5]; · iexact HpG5
  iexact HpG6

theorem leave (I : Dev nD → Inp F) (c : Dev nD) (fo : Vec F S2x512x768 .f32) :
    (iprop(buf c xM (I c).x
    ∗ buf c wqM (I c).wq
    ∗ buf c kM (I c).k
    ∗ buf c vM (I c).v
    ∗ buf c woM (I c).wo
    ∗ buf c oM (outP I c fo 7)
    ∗ buf c wqbM (wqB (I c))
    ∗ buf c wobM (woB (I c))
    ∗ buf c qM (qC (I c))
    ∗ buf c accM (accC I c 7 7)
    ∗ owesX c (owed c [] [] [])
    ∗ atPos ER (barCell c) 1 ∅ 0
    ∗ doneKit aR c 0
    ∗ rPts c 0 (recvC I c)
    ∗ doneKit aR c 4
    ∗ rPts c 4 (recvC I c)
    ∗ doneKit aR c 1
    ∗ rPts c 1 (recvC I c)
    ∗ doneKit aR c 5
    ∗ rPts c 5 (recvC I c)
    ∗ doneKit aR c 2
    ∗ rPts c 2 (recvC I c)
    ∗ doneKit aR c 6
    ∗ rPts c 6 (recvC I c)
    ∗ doneKit aR c 3
    ∗ rPts c 3 (recvC I c)
    ∗ rowPts (Transfers.shareDrop fullShare 7) c (rowsC I c)
    ∗ doneKit gR c 0
    ∗ gPts c 0 (gathC I c)
    ∗ doneKit gR c 1
    ∗ gPts c 1 (gathC I c)
    ∗ doneKit gR c 2
    ∗ gPts c 2 (gathC I c)
    ∗ doneKit gR c 3
    ∗ gPts c 3 (gathC I c)
    ∗ doneKit gR c 4
    ∗ gPts c 4 (gathC I c)
    ∗ doneKit gR c 5
    ∗ gPts c 5 (gathC I c)
    ∗ doneKit gR c 6
    ∗ gPts c 6 (gathC I c)
    ∗ doneKit aS c 0
    ∗ sPts c 0 (sendC I c)
    ∗ doneKit gS c 0
    ∗ rowPts (rowShare 0) c (rowsC I c)
    ∗ doneKit aS c 1
    ∗ sPts c 1 (sendC I c)
    ∗ doneKit gS c 1
    ∗ rowPts (rowShare 1) c (rowsC I c)
    ∗ doneKit aS c 2
    ∗ sPts c 2 (sendC I c)
    ∗ doneKit gS c 2
    ∗ rowPts (rowShare 2) c (rowsC I c)
    ∗ doneKit aS c 3
    ∗ sPts c 3 (sendC I c)
    ∗ doneKit gS c 3
    ∗ rowPts (rowShare 3) c (rowsC I c)
    ∗ doneKit aS c 4
    ∗ sPts c 4 (sendC I c)
    ∗ doneKit gS c 4
    ∗ rowPts (rowShare 4) c (rowsC I c)
    ∗ doneKit aS c 5
    ∗ sPts c 5 (sendC I c)
    ∗ doneKit gS c 5
    ∗ rowPts (rowShare 5) c (rowsC I c)
    ∗ doneKit aS c 6
    ∗ sPts c 6 (sendC I c)
    ∗ doneKit gS c 6
    ∗ rowPts (rowShare 6) c (rowsC I c)) : sProp 𝕄)
    ⊢ iprop(inputs (I c) c ∗ buf c oM (outC I c) ∗ scratch c ∗ finished c ∗ atPos ER (barCell c) 1 ∅ 0 ∗ owesX c 0) := by
  rw [outP_seven, owed_nil, finished_eq]
  unfold inputs scratch
  iintro ⟨Hx, Hwq, Hk, Hv, Hwo, Ho, Hwqb, Hwob, Hq, Hacc, HO, Hbarp, HdoneaR0, Hr0, HdoneaR4, Hr4, HdoneaR1, Hr1, HdoneaR5, Hr5, HdoneaR2, Hr2, HdoneaR6, Hr6, HdoneaR3, Hr3, Hrw, HdonegR0, Hg0, HdonegR1, Hg1, HdonegR2, Hg2, HdonegR3, Hg3, HdonegR4, Hg4, HdonegR5, Hg5, HdonegR6, Hg6, HdoneaS0, Hs0, HdonegS0, Hrow0, HdoneaS1, Hs1, HdonegS1, Hrow1, HdoneaS2, Hs2, HdonegS2, Hrow2, HdoneaS3, Hs3, HdonegS3, Hrow3, HdoneaS4, Hs4, HdonegS4, Hrow4, HdoneaS5, Hs5, HdonegS5, Hrow5, HdoneaS6, Hs6, HdonegS6, Hrow6⟩
  isplitl [Hx Hwq Hk Hv Hwo]
  · isplitl [Hx]; · iexact Hx
    isplitl [Hwq]; · iexact Hwq
    isplitl [Hk]; · iexact Hk
    isplitl [Hv]; · iexact Hv
    iexact Hwo
  isplitl [Ho]; · iexact Ho
  isplitl [Hwqb Hwob Hq Hacc Hs0 Hs1 Hs2 Hs3 Hs4 Hs5 Hs6 Hr0 Hr1 Hr2 Hr3 Hr4 Hr5 Hr6 Hrw Hrow0 Hrow1 Hrow2 Hrow3 Hrow4 Hrow5 Hrow6 Hg0 Hg1 Hg2 Hg3 Hg4 Hg5 Hg6]
  · isplitl [Hwqb]; · iexists _; unfold buf; iexact Hwqb
    isplitl [Hwob]; · iexists _; unfold buf; iexact Hwob
    isplitl [Hq]; · iexists _; unfold buf; iexact Hq
    isplitl [Hs0 Hs1 Hs2 Hs3 Hs4 Hs5 Hs6]
    · iapply (slots_s_join c (sendC I c))
      rw [bigSep_fin7]
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hr0 Hr1 Hr2 Hr3 Hr4 Hr5 Hr6]
    · iapply (slots_r_join c (recvC I c))
      rw [bigSep_fin7]
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      iexact Hr6
    isplitl [Hacc]; · iexists _; unfold buf; iexact Hacc
    isplitl [Hrw Hrow0 Hrow1 Hrow2 Hrow3 Hrow4 Hrow5 Hrow6]
    · iapply (rows_join' c (rowsC I c))
      isplitl [Hrw]; · iexact Hrw
      isplitl [Hrow0]; · iexact Hrow0
      isplitl [Hrow1]; · iexact Hrow1
      isplitl [Hrow2]; · iexact Hrow2
      isplitl [Hrow3]; · iexact Hrow3
      isplitl [Hrow4]; · iexact Hrow4
      isplitl [Hrow5]; · iexact Hrow5
      iexact Hrow6
    iapply (slots_g_join c (gathC I c))
    rw [bigSep_fin7]
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  isplitl [HdoneaS0 HdoneaS1 HdoneaS2 HdoneaS3 HdoneaS4 HdoneaS5 HdoneaS6 HdoneaR0 HdoneaR1 HdoneaR2 HdoneaR3 HdoneaR4 HdoneaR5 HdoneaR6 HdonegS0 HdonegS1 HdonegS2 HdonegS3 HdonegS4 HdonegS5 HdonegS6 HdonegR0 HdonegR1 HdonegR2 HdonegR3 HdonegR4 HdonegR5 HdonegR6]
  · rw [bigSep_fin7, bigSep_fin7, bigSep_fin7, bigSep_fin7]
    isplitl [HdoneaS0 HdoneaS1 HdoneaS2 HdoneaS3 HdoneaS4 HdoneaS5 HdoneaS6]
    · isplitl [HdoneaS0]; · iexact HdoneaS0
      isplitl [HdoneaS1]; · iexact HdoneaS1
      isplitl [HdoneaS2]; · iexact HdoneaS2
      isplitl [HdoneaS3]; · iexact HdoneaS3
      isplitl [HdoneaS4]; · iexact HdoneaS4
      isplitl [HdoneaS5]; · iexact HdoneaS5
      iexact HdoneaS6
    isplitl [HdoneaR0 HdoneaR1 HdoneaR2 HdoneaR3 HdoneaR4 HdoneaR5 HdoneaR6]
    · isplitl [HdoneaR0]; · iexact HdoneaR0
      isplitl [HdoneaR1]; · iexact HdoneaR1
      isplitl [HdoneaR2]; · iexact HdoneaR2
      isplitl [HdoneaR3]; · iexact HdoneaR3
      isplitl [HdoneaR4]; · iexact HdoneaR4
      isplitl [HdoneaR5]; · iexact HdoneaR5
      iexact HdoneaR6
    isplitl [HdonegS0 HdonegS1 HdonegS2 HdonegS3 HdonegS4 HdonegS5 HdonegS6]
    · isplitl [HdonegS0]; · iexact HdonegS0
      isplitl [HdonegS1]; · iexact HdonegS1
      isplitl [HdonegS2]; · iexact HdonegS2
      isplitl [HdonegS3]; · iexact HdonegS3
      isplitl [HdonegS4]; · iexact HdonegS4
      isplitl [HdonegS5]; · iexact HdonegS5
      iexact HdonegS6
    isplitl [HdonegR0]; · iexact HdonegR0
    isplitl [HdonegR1]; · iexact HdonegR1
    isplitl [HdonegR2]; · iexact HdonegR2
    isplitl [HdonegR3]; · iexact HdonegR3
    isplitl [HdonegR4]; · iexact HdonegR4
    isplitl [HdonegR5]; · iexact HdonegR5
    iexact HdonegR6
  isplitl [Hbarp]; · iexact Hbarp
  iexact HO

end Cert.Exchange

end
-- ==== Proof.Region.lean ====
/- # The kernel as one region of the program

What the pipeline stages for the one grid point, the body's obligation from its run, and the region from the ghost
state dealt at launch to the barrier back at zero. -/
module

public import proofs.«01_k».proof.Proof.Enter
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg HostSeg RegionSeg BodyObligation)

variable (m : (ℓ : Loc nD τ sig) → Buf (Elt F) ℓ)

/-- What the input windows of each device hold when the region begins. -/
def inp (c : Dev nD) : Inp F := ⟨V1 m c main_arg0, V1 m c main_v9, V1 m c main_arg2, V1 m c main_arg3, V1 m c main_v14⟩

/-- What the region leaves. -/
def outs : Outs (F := F) := fun J r c =>
  if h : r = main_v15 then h ▸ (outC (inp m) c : Buf (Elt F) ((c : Thread nD τ).loc main_v15)) else V1 m c r

theorem outs_v15 (c : Dev nD) : outs m 2 main_v15 c = outC (inp m) c := by unfold outs; rw [dif_pos rfl]

/-! ## What is held from launch to the region, in it, and after it -/

/-- From launch: the records, the places, tokens and credits. -/
def Tk (c : Dev nD) : sProp 𝕄 :=
  iprop((∃ κ, records (inp m) κ) ∗ (atPos ER (barCell c) 0 ∅ 0 ∗ dormant c ∗ tokens c) ∗ credits c)
/-- In the region: the same, the transfer semaphores in use. -/
def Xk (c : Dev nD) : sProp 𝕄 :=
  iprop((∃ κ, ctx (inp m) κ) ∗ (atPos ER (barCell c) 0 ∅ 0 ∗ opened c ∗ tokens c) ∗ credits c)
/-- After it. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  rw [ownSems0_eq]
  unfold Tk Xk ctx
  iintro ⟨⟨⟨%κ, #HR⟩, ⟨Hbar, Hd, Ht⟩, Hc⟩, Hz, #HL⟩
  imod (open_cells (inp m) κ c) $$ [Hd Hz] with Ho
  · isplitr; · iexact HR
    isplitl [Hd]; · iexact Hd
    iexact Hz
  imodintro
  isplitr
  · iexists κ
    isplitr; · iexact HR
    iexact HL
  isplitr [Hc]
  · isplitl [Hbar]; · iexact Hbar
    isplitl [Ho]; · iexact Ho
    iexact Ht
  iexact Hc

/-! ## The proof data -/

def Φ₀ (c : Dev nD) : sProp 𝕄 := iprop(Xk m c ∗ scratch c ∗ ∃ r, prngReg c r)
def Φ₁ (c : Dev nD) : sProp 𝕄 := iprop(Yk c ∗ zeros c ∗ scratch c ∗ ∃ r, prngReg c r)

def pdats (_ : Fin 1) (c : Dev nD) : Dat τ (Elt F) Unit ℕ UU ℕ cfg0 c where
  A w := V1 m c (Proc.devRef .tc (Pipeline.arrRef spec0 w))
  after w _ := match w with
    | ⟨0, _⟩ => (inp m c).x
    | ⟨1, _⟩ => (inp m c).wq
    | ⟨2, _⟩ => (inp m c).k
    | ⟨3, _⟩ => (inp m c).v
    | ⟨4, _⟩ => (inp m c).wo
    | ⟨5, _⟩ => outC (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem share_eq (c : Dev nD) (w : Fin cfg0.W) : (pdats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! Every window's one block is its whole array. -/

theorem before_x (c : Dev nD) (t : Fin cfg0.N) (d) : (pdats m 0 c).before 0 t d = (inp m c).x := by
  obtain rfl := fin_N0 t
  unfold Dat.before
  rw [if_pos (fetch0_0 _)]
  have hz : (fun a => (win0_0.index t0_0) a * main_arg0.ty.shape.size a) = fun _ => 0 := funext fun a => by fin_cases a <;> decide
  have hr := fun f => Memref.read_access_unit_zero (Elt F) main_arg0 hz (fun a => by fin_cases a <;> decide) f
  show (win0_0.blk t0_0).view.read (Elt F) (V1 m c main_arg0) = V1 m c main_arg0
  exact hr _

theorem before_wq (c : Dev nD) (t : Fin cfg0.N) (d) : (pdats m 0 c).before 1 t d = (inp m c).wq := by
  obtain rfl := fin_N0 t
  unfold Dat.before
  rw [if_pos (fetch0_1 _)]
  have hz : (fun a => (win0_1.index t0_0) a * main_v9.ty.shape.size a) = fun _ => 0 := funext fun a => by fin_cases a <;> decide
  have hr := fun f => Memref.read_access_unit_zero (Elt F) main_v9 hz (fun a => by fin_cases a <;> decide) f
  show (win0_1.blk t0_0).view.read (Elt F) (V1 m c main_v9) = V1 m c main_v9
  exact hr _

theorem before_k (c : Dev nD) (t : Fin cfg0.N) (d) : (pdats m 0 c).before 2 t d = (inp m c).k := by
  obtain rfl := fin_N0 t
  unfold Dat.before
  rw [if_pos (fetch0_2 _)]
  have hz : (fun a => (win0_2.index t0_0) a * main_arg2.ty.shape.size a) = fun _ => 0 := funext fun a => by fin_cases a <;> decide
  have hr := fun f => Memref.read_access_unit_zero (Elt F) main_arg2 hz (fun a => by fin_cases a <;> decide) f
  show (win0_2.blk t0_0).view.read (Elt F) (V1 m c main_arg2) = V1 m c main_arg2
  exact hr _

theorem before_v (c : Dev nD) (t : Fin cfg0.N) (d) : (pdats m 0 c).before 3 t d = (inp m c).v := by
  obtain rfl := fin_N0 t
  unfold Dat.before
  rw [if_pos (fetch0_3 _)]
  have hz : (fun a => (win0_3.index t0_0) a * main_arg3.ty.shape.size a) = fun _ => 0 := funext fun a => by fin_cases a <;> decide
  have hr := fun f => Memref.read_access_unit_zero (Elt F) main_arg3 hz (fun a => by fin_cases a <;> decide) f
  show (win0_3.blk t0_0).view.read (Elt F) (V1 m c main_arg3) = V1 m c main_arg3
  exact hr _

theorem before_wo (c : Dev nD) (t : Fin cfg0.N) (d) : (pdats m 0 c).before 4 t d = (inp m c).wo := by
  obtain rfl := fin_N0 t
  unfold Dat.before
  rw [if_pos (fetch0_4 _)]
  have hz : (fun a => (win0_4.index t0_0) a * main_v14.ty.shape.size a) = fun _ => 0 := funext fun a => by fin_cases a <;> decide
  have hr := fun f => Memref.read_access_unit_zero (Elt F) main_v14 hz (fun a => by fin_cases a <;> decide) f
  show (win0_4.blk t0_0).view.read (Elt F) (V1 m c main_v14) = V1 m c main_v14
  exact hr _

theorem arrAt_out (c : Dev nD) : (pdats m 0 c).arrAt (5 : Fin 6) cfg0.N = outC (inp m) c := by
  have hz : (fun a => (win0_5.index t0_0) a * main_v15.ty.shape.size a) = fun _ => 0 := funext fun a => by fin_cases a <;> decide
  have hr := fun f => Memref.read_access_unit_zero (Elt F) main_v15 hz (fun a => by fin_cases a <;> decide) f
  have h : (win0_5.blk t0_0).view.read (Elt F) ((pdats m 0 c).arrAt (5 : Fin 6) cfg0.N) = outC (inp m) c := by
    rw [show cfg0.N = (t0_0 : Fin cfg0.N).val + 1 from rfl, (pdats m 0 c).arrAt_succ (5 : Fin 6) t0_0, if_pos (flush0_5 t0_0)]
    exact View.read_write_univ _ _
  exact (hr _).symm.trans h

/-! ## The body's obligation -/

theorem owesAt_intro (c : Dev nD) (t : Fin (cfg0.N + 1)) (O : CellTallies nD τ sig Unit) (h : (pdats m 0 c).owed t = O) :
    owesX c O ⊢ ((pdats m 0 c).owesAt () t : sProp 𝕄) := by
  unfold owesX Dat.owesAt Pipeline.owesWithin Dat.bound
  rw [h, show (pdats m 0 c).recorded t = Set.univ from rfl]
  iintro ⟨%W, HO⟩
  iexists W
  isplitr; · ipureintro; exact fun _ _ => Or.inl trivial
  iexact HO

theorem owesAt_elim (c : Dev nD) (t : Fin (cfg0.N + 1)) (O : CellTallies nD τ sig Unit) (h : (pdats m 0 c).owed t = O) :
    ((pdats m 0 c).owesAt () t : sProp 𝕄) ⊢ owesX c O := by
  unfold owesX Dat.owesAt Pipeline.owesWithin
  rw [h]
  iintro ⟨%W, -, HO⟩
  iexists W
  iexact HO

/-- A staging buffer of device `c` at known contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (pdats m 0 c).owesAt () t0_0.castSucc
    ∗ (∃ d, stg c cc0_stg0_0 ((pdats m 0 c).before (0 : Fin 6) t0_0 d)) ∗ (∃ d, stg c cc0_stg1_0 ((pdats m 0 c).before (1 : Fin 6) t0_0 d))
    ∗ (∃ d, stg c cc0_stg2_0 ((pdats m 0 c).before (2 : Fin 6) t0_0 d)) ∗ (∃ d, stg c cc0_stg3_0 ((pdats m 0 c).before (3 : Fin 6) t0_0 d))
    ∗ (∃ d, stg c cc0_stg4_0 ((pdats m 0 c).before (4 : Fin 6) t0_0 d)) ∗ (∃ d, stg c cc0_stg5_0 ((pdats m 0 c).before (5 : Fin 6) t0_0 d)))

def bodyPost (c : Dev nD) : sProp 𝕄 :=
  iprop(Φ₁ c ∗ (pdats m 0 c).owesAt () t0_0.succ
    ∗ stg c cc0_stg0_0 (inp m c).x ∗ stg c cc0_stg1_0 (inp m c).wq ∗ stg c cc0_stg2_0 (inp m c).k ∗ stg c cc0_stg3_0 (inp m c).v
    ∗ stg c cc0_stg4_0 (inp m c).wo ∗ stg c cc0_stg5_0 (outC (inp m) c))

/-- A view shift at the end of a program. -/
theorem wp_fupd_post (c : Dev nD) {α : Type} (p : Prog (TpuEff nD τ sig (Elt F) Λ₀ .tc) α) (Q : α → sProp 𝕄) :
    WP c p (fun a => iprop(|={Set.univ}=> Q a)) ⊢ WP c p Q := wp_fupd _ _ _ _ _

theorem ctx_records (I : Dev nD → Inp F) (κ : GSem nD τ sig → ℕ) : ctx I κ ⊢ records I κ := by
  unfold ctx
  iintro ⟨H, -⟩
  iexact H

/-- After the body: what it left, its transfer semaphores and its barrier retired. -/
theorem after_body (I : Dev nD → Inp F) (κ : GSem nD τ sig → ℕ) (c : Dev nD) (fo : Vec F S2x512x768 .f32) :
    iprop(records I κ ∗ buf c xM (I c).x
    ∗ buf c wqM (I c).wq
    ∗ buf c kM (I c).k
    ∗ buf c vM (I c).v
    ∗ buf c woM (I c).wo
    ∗ buf c oM (outP I c fo 7)
    ∗ buf c wqbM (wqB (I c))
    ∗ buf c wobM (woB (I c))
    ∗ buf c qM (qC (I c))
    ∗ buf c accM (accC I c 7 7)
    ∗ owesX c (owed c [] [] [])
    ∗ atPos ER (barCell c) 1 ∅ 0
    ∗ doneKit aR c 0
    ∗ rPts c 0 (recvC I c)
    ∗ doneKit aR c 4
    ∗ rPts c 4 (recvC I c)
    ∗ doneKit aR c 1
    ∗ rPts c 1 (recvC I c)
    ∗ doneKit aR c 5
    ∗ rPts c 5 (recvC I c)
    ∗ doneKit aR c 2
    ∗ rPts c 2 (recvC I c)
    ∗ doneKit aR c 6
    ∗ rPts c 6 (recvC I c)
    ∗ doneKit aR c 3
    ∗ rPts c 3 (recvC I c)
    ∗ rowPts (Transfers.shareDrop fullShare 7) c (rowsC I c)
    ∗ doneKit gR c 0
    ∗ gPts c 0 (gathC I c)
    ∗ doneKit gR c 1
    ∗ gPts c 1 (gathC I c)
    ∗ doneKit gR c 2
    ∗ gPts c 2 (gathC I c)
    ∗ doneKit gR c 3
    ∗ gPts c 3 (gathC I c)
    ∗ doneKit gR c 4
    ∗ gPts c 4 (gathC I c)
    ∗ doneKit gR c 5
    ∗ gPts c 5 (gathC I c)
    ∗ doneKit gR c 6
    ∗ gPts c 6 (gathC I c)
    ∗ doneKit aS c 0
    ∗ sPts c 0 (sendC I c)
    ∗ doneKit gS c 0
    ∗ rowPts (rowShare 0) c (rowsC I c)
    ∗ doneKit aS c 1
    ∗ sPts c 1 (sendC I c)
    ∗ doneKit gS c 1
    ∗ rowPts (rowShare 1) c (rowsC I c)
    ∗ doneKit aS c 2
    ∗ sPts c 2 (sendC I c)
    ∗ doneKit gS c 2
    ∗ rowPts (rowShare 2) c (rowsC I c)
    ∗ doneKit aS c 3
    ∗ sPts c 3 (sendC I c)
    ∗ doneKit gS c 3
    ∗ rowPts (rowShare 3) c (rowsC I c)
    ∗ doneKit aS c 4
    ∗ sPts c 4 (sendC I c)
    ∗ doneKit gS c 4
    ∗ rowPts (rowShare 4) c (rowsC I c)
    ∗ doneKit aS c 5
    ∗ sPts c 5 (sendC I c)
    ∗ doneKit gS c 5
    ∗ rowPts (rowShare 5) c (rowsC I c)
    ∗ doneKit aS c 6
    ∗ sPts c 6 (sendC I c)
    ∗ doneKit gS c 6
    ∗ rowPts (rowShare 6) c (rowsC I c))
    ⊢ (|={Set.univ}=> iprop(inputs (I c) c ∗ buf c oM (outC I c) ∗ scratch c ∗ zeros c ∗ semVal (barCell c) 0 ∗ owesX c 0) : sProp 𝕄) := by
  iintro ⟨#HR, H⟩
  ihave H := (leave I c fo) $$ H
  icases H with ⟨Hin, Ho, Hs, Hf, Hb, HO⟩
  imod (close_cells I κ c) $$ [Hf] with Hz
  · isplitr; · iexact HR
    iexact Hf
  imod (close_bar I κ c) $$ [Hb] with Hb
  · isplitr; · iexact HR
    iexact Hb
  imodintro
  isplitl [Hin]; · iexact Hin
  isplitl [Ho]; · iexact Ho
  isplitl [Hs]; · iexact Hs
  isplitl [Hz]; · iexact Hz
  isplitl [Hb]; · iexact Hb
  iexact HO

/-- The body, from what the pipeline hands it to what the pipeline takes back. -/
theorem body_run (c : Dev nD) : bodyPre m c ⊢ WP c (cc0_body (F := F) xM (Memref.isWhole_whole _) wqM (Memref.isWhole_whole _) kM (Memref.isWhole_whole _) vM (Memref.isWhole_whole _) woM (Memref.isWhole_whole _) oM (Memref.isWhole_whole _)
        wqbM (Memref.isWhole_whole _) wobM (Memref.isWhole_whole _) qM (Memref.isWhole_whole _) sM (Memref.isWhole_whole _) rM (Memref.isWhole_whole _) accM (Memref.isWhole_whole _)
        rowM (Memref.isWhole_whole _) gM (Memref.isWhole_whole _) cc0_scratch8 cc0_scratch9 cc0_scratch10 cc0_scratch11) (fun _ => bodyPost m c) := by
  unfold bodyPre Φ₀ Xk stg
  iintro ⟨⟨⟨⟨%κ, #HC⟩, Hgh, Hcr⟩, Hscr, Hp⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  rw [before_x] at e0
  rw [before_wq] at e1
  rw [before_k] at e2
  rw [before_v] at e3
  rw [before_wo] at e4
  subst e0 e1 e2 e3 e4
  ihave HO := (owesAt_elim m c t0_0.castSucc (O₀ c) rfl) $$ HO
  ihave HE := (enter c (inp m c) f5) $$ [H0 H1 H2 H3 H4 H5 Hscr Hgh Hcr HO]
  · unfold inputs buf
    isplitl [H0 H1 H2 H3 H4]
    · isplitl [H0]; · iexact H0
      isplitl [H1]; · iexact H1
      isplitl [H2]; · iexact H2
      isplitl [H3]; · iexact H3
      iexact H4
    isplitl [H5]; · iexact H5
    isplitl [Hscr]; · iexact Hscr
    isplitl [Hgh]; · iexact Hgh
    isplitl [Hcr]; · iexact Hcr
    iexact HO
  iapply (wp_fupd_post c)
  iapply (body_wp (inp m) κ c f5) $$ [HE]
  · isplitr; · iexact HC
    iexact HE
  iintro H
  ihave HR := (ctx_records (inp m) κ) $$ HC
  imod (after_body (inp m) κ c f5) $$ [H HR] with H
  · isplitl [HR]; · iexact HR
    iexact H
  imodintro
  unfold bodyPost Φ₁ Yk stg inputs buf
  icases H with ⟨⟨H0, H1, H2, H3, H4⟩, H5, Hs, Hz, Hb, HO⟩
  isplitl [Hp Hs Hz Hb]
  · isplitl [Hb]; · iexact Hb
    isplitl [Hz]; · iexact Hz
    isplitl [Hs]; · iexact Hs
    iexact Hp
  isplitl [HO]; · iapply (owesAt_intro m c t0_0.succ 0 rfl) $$ HO
  isplitl [H0]
  · iexists _
    isplitr; · ipureintro; rfl
    iexact H0
  isplitl [H1]
  · iexists _
    isplitr; · ipureintro; rfl
    iexact H1
  isplitl [H2]
  · iexists _
    isplitr; · ipureintro; rfl
    iexact H2
  isplitl [H3]
  · iexists _
    isplitr; · ipureintro; rfl
    iexact H3
  isplitl [H4]
  · iexists _
    isplitr; · ipureintro; rfl
    iexact H4
  iexists _
  isplitr; · ipureintro; rfl
  iexact H5

theorem body_obligation (c : Dev nD) : BodyObligation (pdats m 0 c) (defs₀ (F := F)) 𝒱₀ () Set.univ := fun t => by
  rw [fin_N0 t]
  rw [bigSep_W, bigSep_W]
  simp only [owns_whole_eq]
  exact body_run m c

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownSemFacts : Pipeline.OwnSemFacts spec0 osem := by decide

/-- The unscoped buffers that are no window's array. -/
def restRefs : Finset (DevRef τ sig) := Pipeline.ucRefs τ sig \ Pipeline.arrRefs (τ := τ) spec0

theorem hin (c : Dev nD) : iprop(Pipeline.scopedRest spec0 c ∗ (∃ r, prngReg c r) ∗ StableHlo.held (c.tc : Thread nD τ) ∅ (V1 m c) ∗ Xk m c) ⊢ Φ₀ m c := by
  rw [scopedRest0_eq]
  unfold Φ₀ scratch
  iintro ⟨Hs, Hp, -, HX⟩
  isplitl [HX]; · iexact HX
  isplitl [Hs]; · iexact Hs
  iexact Hp

theorem hout (c : Dev nD) : Φ₁ c ⊢ iprop(Pipeline.scopedRest spec0 c ∗ (∃ r, prngReg c r) ∗ StableHlo.held (c.tc : Thread nD τ) ∅ (V2 m (outs m) c)
    ∗ Pipeline.ownSems0 osem c ∗ Yk c) := by
  rw [scopedRest0_eq, ownSems0_eq]
  unfold Φ₁ scratch StableHlo.held
  rw [bigSep_empty]
  iintro ⟨HY, Hz, Hs, Hp⟩
  isplitl [Hs]; · iexact Hs
  isplitl [Hp]; · iexact Hp
  isplitr; · iempintro
  isplitl [Hz]; · iexact Hz
  iexact HY

theorem arr_cases (P : Fin 6 → Prop) (h0 : P 0) (h1 : P 1) (h2 : P 2) (h3 : P 3) (h4 : P 4) (h5 : P 5) : ∀ w, P w
  | ⟨0, _⟩ => h0 | ⟨1, _⟩ => h1 | ⟨2, _⟩ => h2 | ⟨3, _⟩ => h3 | ⟨4, _⟩ => h4 | ⟨5, _⟩ => h5

theorem hW (c : Dev nD) (w : Fin 6) : (pdats m 0 c).arrAt w 0 = V1 m c (Proc.devRef .tc (Pipeline.arrRef spec0 w)) := rfl

theorem hW' (c : Dev nD) : ∀ w : Fin 6, (pdats m 0 c).arrAt w cfg0.N = V2 m (outs m) c (Proc.devRef .tc (Pipeline.arrRef spec0 w)) :=
  arr_cases _
    (((pdats m 0 c).arrAt_in (0 : Fin 6) rfl _).trans (V2_of m (outs m) c main_arg0 (by decide)).symm)
    (((pdats m 0 c).arrAt_in (1 : Fin 6) rfl _).trans (V2_of m (outs m) c main_v9 (by decide)).symm)
    (((pdats m 0 c).arrAt_in (2 : Fin 6) rfl _).trans (V2_of m (outs m) c main_arg2 (by decide)).symm)
    (((pdats m 0 c).arrAt_in (3 : Fin 6) rfl _).trans (V2_of m (outs m) c main_arg3 (by decide)).symm)
    (((pdats m 0 c).arrAt_in (4 : Fin 6) rfl _).trans (V2_of m (outs m) c main_v14 (by decide)).symm)
    ((arrAt_out m c).trans ((outs_v15 m c).symm.trans (Function.update_self (f := V1 m c) ..).symm))

theorem hcutD (c : Dev nD) (t : Fin (cfg0.N + 1)) (g : GSem nD τ sig) (i : Unit) (h : 0 < (pdats m 0 c).owed t g i) : i ∈ L g ∧ (0 : ℕ) < lv g i := by
  match t, h with
  | ⟨0, _⟩, h => exact ⟨owed_L h, owed_lv_pos h⟩
  | ⟨_ + 1, _⟩, h => exact absurd h (Nat.lt_irrefl 0)

theorem hcutL (c : Dev nD) (q : DmaSem sig) : () ∈ L ((c : Thread nD τ), .dma q) := by rw [L_tc]; exact Finset.mem_singleton_self _
theorem stage_lv : ∀ (w : Fin 6) (s : Fin (spec0 w).nbuf), lvSem (.dma ((spec0 w).sem s)) ≤ 0 := by decide

set_option backward.isDefEq.respectTransparency.types false in
def region : RegionSeg (pcfgs (F := F)) adm (pdats m) () defs₀ 𝒱₀ L lv 0 :=
  RegionSeg.ofTalk (pcfgs (F := F)) adm (pdats m) () defs₀ 𝒱₀ L lv 0 osem ownSemFacts
    ∅ restRefs (Finset.empty_subset _) kit rfl (fun c => (body_obligation m c).loose)
    (fun _ => 0) O₀ (fun c => (zero_add _).symm) (fun _ => rfl) (fun _ => rfl) (share_eq m)
    (V1 m) (V2 m (outs m)) (fun c b hb => Function.update_of_ne (fun h => by
      subst h
      exact absurd (Finset.mem_sdiff.mp hb).1 (by decide)) _ _)
    (Tk m) Yk (Xk m) Yk (hopen m) (hin m) (hout m)
    (fun c => by iintro H; imodintro; iexact H)
    (fun _ => 0)
    ⟨fun c w s => hcutL c _, fun c w s => stage_lv w s, fun c t g i h => hcutD m c t g i h⟩
    (fun _ => iprop(emp))
    (hW m) (hW' m)

end Cert.Exchange

end
-- ==== Proof.Deal.lean ====
/- # What is dealt at launch

The tokens of all the duties, handed each to the device that pays it, and the credits for what each device will be
sent. Both are one rearrangement of the pairs (device, slot): a slot of a device belongs to the device it is sent to. -/
module

public import proofs.«01_k».proof.Proof.Enter
public import Idealize.ShloMosaic.Lib.Pipeline.Launch

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rearranging pairs -/

/-- A slot's pair as its receiver sees it. -/
def toPeer : Dev nD × Fin 7 ≃ Dev nD × Fin 7 where
  toFun p := (peer p.1 p.2, p.2)
  invFun p := (orig p.1 p.2, p.2)
  left_inv p := Prod.ext (orig_peer p.1 p.2) rfl
  right_inv p := Prod.ext (peer_orig p.1 p.2) rfl

/-- The same for signals, which the receiver names by the way back. -/
def across : Dev nD × Fin 7 ≃ Dev nD × Fin 7 where
  toFun p := (peer p.1 p.2, p.2.rev)
  invFun p := (peer p.1 p.2, p.2.rev)
  left_inv p := Prod.ext (peer_rev p.1 p.2) (Fin.rev_rev p.2)
  right_inv p := Prod.ext (peer_rev p.1 p.2) (Fin.rev_rev p.2)

theorem along (e : Dev nD × Fin 7 ≃ Dev nD × Fin 7) (Φ : Dev nD → Fin 7 → sProp 𝕄) :
    (bigSep Finset.univ fun c : Dev nD => bigSep Finset.univ fun s : Fin 7 => Φ c s)
      = bigSep Finset.univ fun c : Dev nD => bigSep Finset.univ fun s : Fin 7 => Φ (e (c, s)).1 (e (c, s)).2 := by
  rw [← bigSep_univ_prod (fun p : Dev nD × Fin 7 => Φ p.1 p.2), bigSep_univ_equiv e, bigSep_univ_prod]

/-! ## Tokens -/

/-- The signals' duties and the transfers'. -/
def barTok : Dev nD × Fin 7 ↪ GSem nD τ sig × ℕ × Fin 7 :=
  ⟨fun p => (barCell p.1, 0, p.2), fun p q h =>
    Prod.ext (congrArg (fun x : GSem nD τ sig × ℕ × Fin 7 => x.1.1.1) h) (congrArg (fun x : GSem nD τ sig × ℕ × Fin 7 => x.2.2) h)⟩
def xferTok : Dev nD × (Fin 4 × Fin 7) ↪ GSem nD τ sig × ℕ × Fin 7 :=
  ⟨fun p => (scEmb p, 0, 0), fun p q h => scEmb.injective (congrArg Prod.fst h)⟩

theorem disjoint_toks : Disjoint (Finset.univ.map barTok) (Finset.univ.map xferTok) := by
  rw [Finset.disjoint_left]
  rintro g h₁ h₂
  obtain ⟨p, -, rfl⟩ := Finset.mem_map.mp h₁
  obtain ⟨q, -, h⟩ := Finset.mem_map.mp h₂
  have := congrArg (fun x : GSem nD τ sig × ℕ × Fin 7 => x.1.2) h
  cases this

def toks : Finset (GSem nD τ sig × ℕ × Fin 7) := Finset.univ.map barTok ∪ Finset.univ.map xferTok

/-- All the tokens, each with the device that pays. -/
theorem toks_deal : (bigSep toks fun x => (dutyTok ER x.1 x.2.1 x.2.2 : sProp 𝕄)) = bigSep Finset.univ fun c : Dev nD => tokens c := by
  unfold toks tokens
  rw [bigSep_union disjoint_toks, bigSep_map, bigSep_map, bigSep_univ_prod, bigSep_univ_prod]
  rw [bigSep_sep', bigSep_sep', bigSep_sep', bigSep_sep']
  have hb : (bigSep Finset.univ fun c : Dev nD => bigSep Finset.univ fun s : Fin 7 => (dutyTok ER (barCell c) 0 s : sProp 𝕄))
      = bigSep Finset.univ fun c : Dev nD => bigSep Finset.univ fun s : Fin 7 => dutyTok ER (barCell (peer c s)) 0 s.rev :=
    along across fun c s => dutyTok ER (barCell c) 0 s
  have hx (k : Fin 4) : (bigSep Finset.univ fun c : Dev nD => bigSep Finset.univ fun s : Fin 7 => (dutyTok ER (cell k c s) 0 0 : sProp 𝕄))
      = bigSep Finset.univ fun c : Dev nD => bigSep Finset.univ fun s : Fin 7 => dutyTok ER (cell k (peer c s) s) 0 0 :=
    along toPeer fun c s => dutyTok ER (cell k c s) 0 0
  rw [← hb, ← hx aR, ← hx gR, ← bigSep_sep', ← bigSep_sep', ← bigSep_sep']
  refine congrArg₂ _ rfl (bigSep_congr fun c _ => ?_)
  rw [bigSep_univ_prod, bigSep_fin4]
  rfl

/-! ## Credits -/

theorem list_tally_apply {α : Type} (f : α → GSem nD τ sig) (n : ℕ) (l : List α) (g : GSem nD τ sig) :
    (l.map fun s => (tallyAt (f s) () n : CellTallies nD τ sig Unit)).sum g () = (l.map fun s => if f s = g then n else 0).sum := by
  induction l with
  | nil => rfl
  | cons s l ih =>
    rw [List.map_cons, List.sum_cons, Pi.add_apply, Finsupp.add_apply, ih, List.map_cons, List.sum_cons, tallyAt_apply]
    congr 1
    by_cases h : f s = g
    · rw [if_pos h, if_pos ⟨h.symm, rfl⟩]
    · rw [if_neg h, if_neg fun e => h e.1.symm]

theorem sum_ordB (f : Fin 7 → ℕ) : (ordB.map f).sum = ∑ s, f s := by
  simp only [ordB, List.map_cons, List.map_nil, List.sum_cons, List.sum_nil, Fin.sum_univ_seven]; omega
theorem sum_ordA (f : Fin 7 → ℕ) : (ordA.map f).sum = ∑ s, f s := by
  simp only [ordA, List.map_cons, List.map_nil, List.sum_cons, List.sum_nil, Fin.sum_univ_seven]; omega

theorem owed_apply (d : Dev nD) (g : GSem nD τ sig) :
    O₀ d g () = (∑ s : Fin 7, if barCell (peer d s) = g then 1 else 0) + (∑ s : Fin 7, if cell aR (peer d s) s = g then N else 0)
      + ∑ s : Fin 7, if cell gR (peer d s) s = g then N else 0 := by
  show owed d ordB ordA ordG g () = _
  unfold owed oweB oweA oweG
  rw [Pi.add_apply, Finsupp.add_apply, Pi.add_apply, Finsupp.add_apply, list_tally_apply, list_tally_apply, list_tally_apply,
    sum_ordB, sum_ordA, sum_ordB]

theorem sum_along (e : Dev nD × Fin 7 ≃ Dev nD × Fin 7) (f : Dev nD → Fin 7 → ℕ) :
    (∑ d : Dev nD, ∑ s : Fin 7, f (e (d, s)).1 (e (d, s)).2) = ∑ d : Dev nD, ∑ s : Fin 7, f d s := by
  rw [← Fintype.sum_prod_type (fun p : Dev nD × Fin 7 => f (e p).1 (e p).2), ← Fintype.sum_prod_type (fun p : Dev nD × Fin 7 => f p.1 p.2)]
  exact e.sum_comp fun p => f p.1 p.2

theorem bar_ne_cell (c d : Dev nD) (k : Fin 4) (s : Fin 7) : barCell c ≠ cell k d s := fun h => by
  have := congrArg Prod.snd h
  cases this

theorem bar_iff (c d : Dev nD) : barCell d = barCell c ↔ d = c := barEmb.injective.eq_iff
theorem cell_iff (k k' : Fin 4) (c d : Dev nD) (s t : Fin 7) : cell k d t = cell k' c s ↔ d = c ∧ k = k' ∧ t = s := by
  have h : cell k d t = cell k' c s ↔ (d, k, t) = (c, k', s) := scEmb.injective.eq_iff (a := (d, k, t)) (b := (c, k', s))
  rw [h, Prod.mk.injEq, Prod.mk.injEq]

theorem total_bar (c : Dev nD) : (∑ d : Dev nD, O₀ d (barCell c) ()) = 7 := by
  simp only [owed_apply, bar_iff, if_neg fun h => bar_ne_cell c _ _ _ (Eq.symm h), Finset.sum_const_zero, Nat.add_zero]
  refine (sum_along across fun d _ => if d = c then 1 else 0).trans ?_
  simp only [Finset.sum_const, Finset.card_univ, Fintype.card_fin, smul_eq_mul, mul_ite, mul_one, mul_zero, Finset.sum_ite_eq', Finset.mem_univ, if_true]

theorem total_cell (k : Fin 4) (c : Dev nD) (s : Fin 7) :
    (∑ d : Dev nD, ∑ t : Fin 7, if cell k (peer d t) t = cell k c s then N else 0) = N := by
  refine (sum_along toPeer fun d t => if cell k d t = cell k c s then N else 0).trans ?_
  rw [Finset.sum_eq_single c, Finset.sum_eq_single s, if_pos rfl]
  · intro t _ ht; exact if_neg fun h => ht ((cell_iff k k c c s t).mp h).2.2
  · intro h; exact absurd (Finset.mem_univ _) h
  · intro d _ hd; exact Finset.sum_eq_zero fun t _ => if_neg fun h => hd ((cell_iff k k c d s t).mp h).1
  · intro h; exact absurd (Finset.mem_univ _) h

theorem total_aR (c : Dev nD) (s : Fin 7) : (∑ d : Dev nD, O₀ d (cell aR c s) ()) = N := by
  have h (d : Dev nD) : O₀ d (cell aR c s) () = ∑ t : Fin 7, if cell aR (peer d t) t = cell aR c s then N else 0 := by
    rw [owed_apply, Finset.sum_eq_zero fun t _ => if_neg (bar_ne_cell _ _ _ _),
      Finset.sum_eq_zero (f := fun t : Fin 7 => if cell gR (peer d t) t = cell aR c s then N else 0) fun t _ =>
        if_neg fun h => absurd ((cell_iff gR aR c _ s t).mp h).2.1 (by decide), Nat.zero_add, Nat.add_zero]
  rw [Finset.sum_congr rfl fun d _ => h d, total_cell]

theorem total_gR (c : Dev nD) (s : Fin 7) : (∑ d : Dev nD, O₀ d (cell gR c s) ()) = N := by
  have h (d : Dev nD) : O₀ d (cell gR c s) () = ∑ t : Fin 7, if cell gR (peer d t) t = cell gR c s then N else 0 := by
    rw [owed_apply, Finset.sum_eq_zero fun t _ => if_neg (bar_ne_cell _ _ _ _),
      Finset.sum_eq_zero (f := fun t : Fin 7 => if cell aR (peer d t) t = cell gR c s then N else 0) fun t _ =>
        if_neg fun h => absurd ((cell_iff aR gR c _ s t).mp h).2.1 (by decide), Nat.zero_add, Nat.zero_add]
  rw [Finset.sum_congr rfl fun d _ => h d, total_cell]

theorem launch_tally (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The semaphores another device adds to. -/
def sent : Unit ⊕ (Fin 7 ⊕ Fin 7) ↪ SemLoc sig :=
  ⟨fun | .inl _ => .reg barS | .inr (.inl s) => .dma (dsem aR s) | .inr (.inr s) => .dma (dsem gR s), by
    rintro (_ | s | s) (_ | t | t) h
    · rfl
    · cases h
    · cases h
    · cases h
    · rw [(dsem_inj (SemLoc.dma.inj h)).2]
    · exact absurd (dsem_inj (SemLoc.dma.inj h)).1 (by decide)
    · cases h
    · exact absurd (dsem_inj (SemLoc.dma.inj h)).1 (by decide)
    · rw [(dsem_inj (SemLoc.dma.inj h)).2]⟩

theorem creds (c : Dev nD) : (Pipeline.launchCred O₀ c : sProp 𝕄) ⊢ credits c := by
  have h : (Pipeline.launchCred O₀ c : sProp 𝕄)
      ⊢ bigSep (Finset.univ.map sent) fun sm : SemLoc sig => cred (tallyOn ((c : Thread nD τ), sm) (launchCredit (Pipeline.owing O₀) 0 ((c : Thread nD τ), sm))) :=
    bigSep_subset (Finset.subset_univ _)
  refine h.trans (Entails.of_eq ?_)
  rw [bigSep_map, bigSep_univ_sum, bigSep_univ_sum, bigSep_univ_of_subsingleton ()]
  unfold credits credKit
  refine congrArg₂ _ ?_ (congrArg₂ _ (bigSep_congr fun s _ => ?_) (bigSep_congr fun s _ => ?_))
  · exact congrArg _ (launch_tally (barCell c) 7 (total_bar c))
  · exact congrArg _ (launch_tally (cell aR c s) N (total_aR c s))
  · exact congrArg _ (launch_tally (cell gR c s) N (total_gR c s))

end Cert.Exchange

end
-- ==== Proof.Launch.lean ====
/- # The launch and the run

From any memory with all semaphores at zero, every run of the program on the eight devices ends, with the arguments as
they were, every semaphore at zero, and the result of each device at the contents named in `Content`. -/
module

public import proofs.«01_k».proof.Proof.Region
public import proofs.«01_k».proof.Proof.Deal
public import Idealize.ShloMosaic.Lib.Pipeline.Launch
public import Idealize.ShloMosaic.Lib.Quiescent

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals -/

def u₀ : UU :=
  (initOf (Pipeline.cells (Pipeline.pin (pcfgs (F := F)) adm) cellOf_inj) (Pipeline.launchToks (Pipeline.pin (pcfgs (F := F)) adm) cellOf_inj),
    launchOf barCells scCells toks)

def onDev (c₀ : Dev nD) (X : sProp 𝕄) (c : Dev nD) : sProp 𝕄 := if c = c₀ then X else iprop(emp)

theorem bigSep_onDev (c₀ : Dev nD) (X : sProp 𝕄) : bigSep Finset.univ (onDev c₀ X) = X := by
  have h : bigSep (Finset.univ.erase c₀) (onDev c₀ X) = (iprop(emp) : sProp 𝕄) := by
    rw [bigSep_congr fun c hc => show onDev c₀ X c = iprop(emp) from if_neg (Finset.ne_of_mem_erase hc)]
    exact BI.bigSep_emp_const _
  rw [bigSep_univ_at _ c₀, h]
  exact (congrArg (fun Y : sProp 𝕄 => iprop(Y ∗ emp)) (if_pos rfl)).trans (BI.equiv_iff.mp BI.sep_emp)

/-- The protocol's ghost state, dealt on device 0 and handed out from there. -/
def G : Dev nD → sProp 𝕄 := onDev 0 (BI.own (ER (launchOf barCells scCells toks)))

theorem fund : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ G) := by
  unfold u₀ G
  iintro Hu
  ihave H := (ownU_pair _ _) $$ Hu
  icases H with ⟨HP, HX⟩
  imodintro
  isplitl [HP]; · iexact HP
  rw [bigSep_onDev]; iexact HX

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What rides along with the buffers until the region begins. -/
def E (m : (ℓ : Loc nD τ sig) → Buf (Elt F) ℓ) (_ : Fin 2) (c : Dev nD) : sProp 𝕄 :=
  iprop(Tk m c ∗ (∃ W, owes (c.tc : Thread nD τ) (O₀ c) W) ∗ ∃ r, prngReg c r)

def T₀ (c : Dev nD) : sProp 𝕄 := iprop(StableHlo.held (c : Thread nD τ) (Pipeline.ucRefs τ sig) (V0 m c) ∗ E m 0 c)
def Tₙ (c : Dev nD) : sProp 𝕄 := iprop(StableHlo.held (c : Thread nD τ) (Pipeline.ucRefs τ sig) (V2 m (outs m) c) ∗ semVal (barCell c) 0)

def linear (c : Dev nD) : sProp 𝕄 := iprop(atPos ER (barCell c) 0 ∅ 0 ∗ dormant c ∗ tokens c)
def bundle (c : Dev nD) : sProp 𝕄 :=
  iprop(StableHlo.held (c : Thread nD τ) (Pipeline.ucRefs τ sig) (V0 m c) ∗ credits c ∗ owes (c.tc : Thread nD τ) (O₀ c) ∅ ∗ ∃ r, prngReg c r)

theorem T₀_intro (κ : GSem nD τ sig → ℕ) (c : Dev nD) : iprop(records (inp m) κ ∗ (linear c ∗ bundle m c)) ⊢ T₀ m c := by
  unfold bundle T₀ E Tk linear
  iintro ⟨#HR, Hl, Hh, Hc, HO, Hp⟩
  isplitl [Hh]; · iexact Hh
  isplitl [Hl Hc]
  · isplitr; · iexists κ; iexact HR
    isplitl [Hl]; · iexact Hl
    iexact Hc
  isplitl [HO]; · iexists ∅; iexact HO
  iexact Hp

theorem pair' (A B : Dev nD → sProp 𝕄) : (bigSep Finset.univ fun c => iprop(A c ∗ B c)) ⊢ iprop(bigSep Finset.univ A ∗ bigSep Finset.univ B) :=
  Entails.of_eq (bigSep_sep _ _ _)
theorem pair (A B : Dev nD → sProp 𝕄) : iprop(bigSep Finset.univ A ∗ bigSep Finset.univ B) ⊢ bigSep Finset.univ fun c => iprop(A c ∗ B c) :=
  Entails.of_eq (bigSep_sep _ _ _).symm

theorem hcore (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c.tc : Thread nD τ).loc b)) = StableHlo.held (c : Thread nD τ) (Pipeline.ucRefs τ sig) (V0 m c) from
    (Pipeline.unscopedBufs_held (Ix := Unit) (Name := ℕ) (U := UU) (Lvl := ℕ) c (V0 m c)), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem bars_in : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm

theorem linear_intro : iprop(bigSep barCells (fun g => (atPos ER g 0 ∅ 0 : sProp 𝕄)) ∗ bigSep scCells (fun g => openTok ER g)
      ∗ bigSep toks (fun x => dutyTok ER x.1 x.2.1 x.2.2))
    ⊢ (bigSep Finset.univ fun c : Dev nD => linear c : sProp 𝕄) := by
  rw [toks_deal]
  unfold linear barCells scCells dormant
  rw [bigSep_map, bigSep_map, bigSep_univ_prod, bigSep_sep', bigSep_sep']
  exact .rfl

/-- The launch: the buffers stay as they are, the barrier counters and the ghost state become the protocol's records, and
    each device gets its tokens and credits. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) := bigSep_mono fun c _ => hcore m ρ c
  have hu : bigSep Finset.univ (G (F := F)) ⊢ BI.own (ER (launchOf barCells scCells toks)) :=
    Entails.of_eq (bigSep_onDev (F := F) 0 (BI.own (ER (launchOf barCells scCells toks))))
  iintro ⟨H, -⟩
  ihave H' := h1 $$ H
  ihave H2 := (pair' _ _) $$ H'
  icases H2 with ⟨HB, H3⟩
  ihave H4 := (pair' _ _) $$ H3
  icases H4 with ⟨Hv, HG⟩
  ihave Hu := hu $$ HG
  imod (Rounds.fund_launch ER (Rd (inp m)) disjoint_cells (fun g _ h => h) toks) $$ [Hv Hu] with ⟨%κ, -, #Hinv, #Hr, Hat, Hopen, Htok⟩
  · isplitl [Hv]
    · iapply bars_in $$ Hv
    · iexact Hu
  imodintro
  iapply (bigSep_with_persistent (R := records (inp m) κ) (Φ := fun c => iprop(linear c ∗ bundle m c)) fun c _ => T₀_intro m κ c)
  isplitr
  · unfold records
    isplitr; · iexact Hinv
    iexact Hr
  iapply (pair _ _)
  isplitr [HB]
  · iapply linear_intro
    isplitl [Hat]; · iexact Hat
    isplitl [Hopen]; · iexact Hopen
    iexact Htok
  · iexact HB

/-! ## Into the region and out of it -/

theorem arrs_sub : Pipeline.arrRefs spec0 ⊆ Pipeline.ucRefs τ sig := by decide

theorem into (c : Dev nD) : iprop(StableHlo.held (c : Thread nD τ) (Pipeline.ucRefs τ sig) (V1 m c) ∗ E m 0 c) ⊢ (region m).pre c := by
  have h : iprop(StableHlo.held (c : Thread nD τ) (Pipeline.ucRefs τ sig) (V1 m c) ∗ E m 0 c)
      ⊢ iprop(StableHlo.held (c : Thread nD τ) (Pipeline.arrRefs spec0) (V1 m c) ∗ (∃ r, prngReg c r)
        ∗ (StableHlo.held (c : Thread nD τ) restRefs (V1 m c) ∗ emp) ∗ Tk m c ∗ ∃ W, owes (c.tc : Thread nD τ) (0 + O₀ c) W) := by
    rw [StableHlo.held_sub_split _ arrs_sub, zero_add]
    unfold E
    iintro ⟨⟨Ha, Hr⟩, Ht, HO, Hp⟩
    isplitl [Ha]; · iexact Ha
    isplitl [Hp]; · iexact Hp
    isplitl [Hr]
    · isplitl [Hr]; · iexact Hr
      iempintro
    isplitl [Ht]; · iexact Ht
    iexact HO
  exact h

theorem outof (c : Dev nD) : (region m).post c ⊢ iprop(Tₙ m c ∗ ∃ W, owes (c.tc : Thread nD τ) (0 : CellTallies nD τ sig Unit) W) := by
  have h : iprop(StableHlo.held (c : Thread nD τ) (Pipeline.arrRefs spec0) (V2 m (outs m) c) ∗ (∃ r, prngReg c r)
        ∗ (StableHlo.held (c : Thread nD τ) restRefs (V2 m (outs m) c) ∗ emp) ∗ Yk c ∗ ∃ W, owes (c.tc : Thread nD τ) (0 : CellTallies nD τ sig Unit) W)
      ⊢ (iprop(Tₙ m c ∗ ∃ W, owes (c.tc : Thread nD τ) (0 : CellTallies nD τ sig Unit) W) : sProp 𝕄) := by
    unfold Tₙ Yk
    rw [StableHlo.held_sub_split _ arrs_sub]
    iintro ⟨Ha, Hp, ⟨Hr, -⟩, HY, HO⟩
    isplitr [HO]
    · isplitl [Ha Hr]
      · isplitl [Ha]; · iexact Ha
        iexact Hr
      iexact HY
    iexact HO
  exact h

/-! ## The run -/

theorem unscoped_eq : ∀ sm : SemLoc sig, sm.isScoped .tc = false → sm = .reg barS := by decide

/-- What is read off the final memory of device `c`. -/
def Final (c : Dev nD) (s : MemSt nD τ sig (Elt F)) : Prop :=
  (s.mem ((c.tc : Thread nD τ).loc main_v15) = outC (inp m) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem (barCell c) = 0

theorem V2_v15 (c : Dev nD) : V2 m (outs m) c main_v15 = outC (inp m) c :=
  (Function.update_self (f := V1 m c) ..).trans (outs_v15 m c)

theorem finish (c : Dev nD) (s' : Phys nD τ sig (Elt F)) : iprop(Tₙ m c ∗ SI s') ⊢ (|={Set.univ}=> iprop(⌜Final m c s'.mem⌝ ∗ SI s') : sProp 𝕄) := by
  unfold Tₙ StableHlo.held
  iintro ⟨⟨Hh, Hb0⟩, HSI⟩
  icombine HSI Hb0 gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨(h (Proc.devRef .tc main_v15) (Finset.mem_filter.mpr ⟨StableHlo.devRef_mem_tcRefs main_v15, by decide⟩)).trans (V2_v15 m c),
      (h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_arg2) (Finset.mem_filter.mpr ⟨StableHlo.devRef_mem_tcRefs main_arg2, by decide⟩)).trans (V2_main_arg2 m (outs m) c),
      (h (Proc.devRef .tc main_arg3) (Finset.mem_filter.mpr ⟨StableHlo.devRef_mem_tcRefs main_arg3, by decide⟩)).trans (V2_main_arg3 m (outs m) c),
      (h (Proc.devRef .tc main_arg4) (Finset.mem_filter.mpr ⟨StableHlo.devRef_mem_tcRefs main_arg4, by decide⟩)).trans (V2_main_arg4 m (outs m) c)⟩,
      by simpa using hb⟩
  iexact HSI

set_option backward.isDefEq.respectTransparency.types false in
/-- THE RUN. -/
theorem run_main : θ_run defs (onTc (τ := τ) (main (F := F))) ⟨m, fun _ => 0, ρ⟩
    (fun r => (∀ c : Dev nD, Final m c r.2) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (region m))
    (fun c Q => by
      rewrite [main_chain c, Pipeline.Seg.run_eq_chain,
        show (segs m 𝒱₀ L lv (E m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ (fun g h => if_neg h) G u₀ fund (T₀ m) (Tₙ m)
    (fun c => ⟨.rfl, into m c, outof m c⟩)
    (init m ρ) (Final m) (finish m)
    (fun s h hs => ⟨h, sem_eq_zero hs fun c sm hsm => by
      obtain rfl := unscoped_eq sm hsm
      exact (h c).2⟩)

end Cert.Exchange

end
-- ==== Proof.Frames.lean ====
/- # The frames

Each program ends with its arguments as they were and every semaphore at zero. The kernel is run once, over any float
values; both of its frames are that run with the values dropped. -/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

noncomputable section

namespace Cert.Proof

open Idealize.ShloMosaic Idealize.SL.Sem

set_option maxRecDepth 16384

/-- The two programs have one body. -/
theorem same_body : @Cert.Kernel.cc0_body Bits _ _ = @Cert.KernelIdeal.cc0_body Bits _ _ := by
  with_unfolding_all rfl

theorem same_defs₀ : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    dsimp only
    rw [same_body]
  | ⟨_ + 1, h⟩, _ => exact absurd h (Nat.not_lt.2 (Nat.le_add_left _ _))

theorem same_defs : Cert.Kernel.defs (F := Bits) = Cert.KernelIdeal.defs (F := Bits) := by
  unfold Cert.Kernel.defs Cert.KernelIdeal.defs
  rw [same_defs₀]
  rfl

theorem frame_kernel : Cert.quiescent_Kernel := by
  intro m ρ _
  rw [same_defs]
  exact (θ_run Cert.KernelIdeal.defs _ _).mono (fun _ h => ⟨fun c => (h.1 c).1.2, h.2⟩)
    (Cert.Exchange.run_main (F := Bits) m ρ)

theorem frame_kernelIdeal : Cert.quiescent_KernelIdeal := fun m ρ _ =>
  (θ_run Cert.KernelIdeal.defs _ _).mono (fun _ h => ⟨fun c => (h.1 c).1.2, h.2⟩) (Cert.Exchange.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.KerValue.lean ====
/- # The kernel's arithmetic, read at an index over the reals

Over the extended reals each payload of one device is a plain expression of its inputs: a scaled query, a score,
a weighted mean of the values, and the product with the device's rows of the output projection. -/
module

public import proofs.«01_k».proof.Proof.Content
public import Idealize.ShloMosaic.Lib.Pointwise

@[expose] public section

set_option maxRecDepth 16384

noncomputable section

namespace Cert.Exchange

open Cert.KernelIdeal Cert.KernelIdeal.Gen
open Idealize.ShloMosaic

section One
variable (I : Inp Ideal)

/-- The head and the place in it of column `q`. -/
def headOf (q : Fin 512) : Fin 8 := ⟨q.val / 64, by omega⟩
def dimOf (q : Fin 512) : Fin 64 := ⟨q.val % 64, Nat.mod_lt _ (by decide)⟩

/-- The scaled query. -/
def qv (b : Fin 2) (i : Fin 512) (q : Fin 512) : EReal :=
  (∑ e : Fin 768, I.x (ix3 b i e) * I.wq (ix2 e q)) * Ideal.ofBits .f32 0x3E000000#32

theorem qC_apply (b : Fin 2) (i : Fin 512) (q : Fin 512) : qC I (ix3 b i q) = qv I b i q := by
  pointwise [qC, qRow, wqB, xBox, k0_pay3, k0_pay1, qv]

/-- The column of place `d` in head `h`. -/
def colOf (h : Fin 8) (d : Fin 64) : Fin 512 := ⟨h.val * 64 + d.val, by omega⟩

/-- The score of query row `i` against key `p` of block `g`, in head `h`. -/
def scoreK (b : Fin 2) (i : Fin 512) (h : Fin 8) (g : Fin 8) (p : Fin 64) : EReal :=
  ∑ d : Fin 64, qv I b i (colOf h d) * I.k (ix4 b (row g p) h d)

/-- The mean of the values of blocks `g₁` and `g₂`, weighted by the exponentials of the scores. -/
def ctxG (b : Fin 2) (i : Fin 512) (h : Fin 8) (g₁ g₂ : Fin 8) (d : Fin 64) : EReal :=
  Ideal.div
    (∑ p : Fin 64, Ideal.exp (scoreK I b i h g₁ p) * I.v (ix4 b (row g₁ p) h d)
      + ∑ p : Fin 64, Ideal.exp (scoreK I b i h g₂ p) * I.v (ix4 b (row g₂ p) h d))
    (∑ p : Fin 64, Ideal.exp (scoreK I b i h g₁ p) + ∑ p : Fin 64, Ideal.exp (scoreK I b i h g₂ p))

/-- What the device contributes to row `i`, column `n` of the result, its keys being blocks `g₁` and `g₂`. -/
def contribG (b : Fin 2) (i : Fin 512) (g₁ g₂ : Fin 8) (n : Fin 768) : EReal :=
  ∑ q : Fin 512, ctxG I b i (headOf q) g₁ g₂ (dimOf q) * I.wo (ix2 q n)

/-- The same with the row's own key blocks. -/
def contrib (b : Fin 2) (i : Fin 512) (n : Fin 768) : EReal :=
  contribG I b i (lowG (chunkOf i)) (highG (chunkOf i)) n

theorem chunkOf_row (g : Fin 8) (r : Fin 64) : chunkOf (row g r) = g := by
  apply Fin.ext
  show (64 * g.val + r.val) / 64 = g.val
  omega

theorem inChunk_row (g : Fin 8) (r : Fin 64) : inChunk (row g r) = r := by
  apply Fin.ext
  show (64 * g.val + r.val) % 64 = r.val
  omega

theorem row_chunkOf (i : Fin 512) : row (chunkOf i) (inChunk i) = i := by
  apply Fin.ext
  show 64 * (i.val / 64) + i.val % 64 = i.val
  omega

theorem lowG_congr {g ch : Fin 8} (h : g.val % 4 = ch.val % 4) : lowG g = lowG ch := Fin.ext h
theorem highG_congr {g ch : Fin 8} (h : g.val % 4 = ch.val % 4) : highG g = highG ch := by
  apply Fin.ext
  show g.val % 4 + 4 = ch.val % 4 + 4
  rw [h]

theorem woB_apply (q : Fin 512) (n : Fin 768) : woB I (ix2 q n) = I.wo (ix2 q n) := by
  pointwise [woB, k0_pay2]

theorem own_apply (b : Fin 2) (g ch : Fin 8) (r : Fin 64) (n : Fin 768) :
    ownV I b g ch (ix3 0 r n) = contribG I b (row ch r) (lowG g) (highG g) n := by
  pointwise [ownV, k0_pay54, k0_pay44, k0_pay46, k0_pay45, kvBox, qBox, qC_apply, woB_apply, contribG, ctxG, scoreK]
  rfl

theorem mid_apply (b : Fin 2) (ch : Fin 8) (r : Fin 64) (n : Fin 768) :
    midV I b ch (ix4 0 0 r n) = contribG I b (row ch r) (lowG ch) (highG ch) n := by
  pointwise [midV, k0_pay49, k0_pay48, k0_pay44, k0_pay46, k0_pay45, kvBox, qBox, qC_apply, woB_apply, contribG, ctxG, scoreK]
  rfl

theorem pair_lo (b : Fin 2) (ch : Fin 8) (r : Fin 128) (hr : r.val < 64) (n : Fin 768) :
    pairV I b ch (ix2 r n) = contribG I b (row ch ⟨r.val, hr⟩) (lowG ch) (highG ch) n := by
  pointwise [pairV, k0_pay6, k0_pay5, kvBox, qBox, qC_apply, woB_apply, contribG, ctxG, scoreK]
  simp only [hr]
  rfl

theorem pair_hi (b : Fin 2) (ch : Fin 8) (r : Fin 128) (hr : ¬ r.val < 64) (n : Fin 768) :
    pairV I b ch (ix2 r n) = contribG I b (row (opp ch) ⟨r.val - 64, by omega⟩) (lowG ch) (highG ch) n := by
  pointwise [pairV, k0_pay6, k0_pay5, kvBox, qBox, qC_apply, woB_apply, contribG, ctxG, scoreK]
  simp only [hr]
  rfl

theorem lo_apply (b : Fin 2) (ch : Fin 8) (r : Fin 64) (n : Fin 768) :
    loV I b ch (ix4 0 0 r n) = contribG I b (row ch r) (lowG ch) (highG ch) n := by
  refine Eq.trans ?_ (pair_lo I b ch ⟨r.val, by omega⟩ r.isLt n)
  pointwise [loV, k0_pay8, k0_pay7]
  rfl

theorem hi_apply (b : Fin 2) (ch : Fin 8) (r : Fin 64) (n : Fin 768) :
    hiV I b ch (ix4 0 0 r n) = contribG I b (row (opp ch) r) (lowG ch) (highG ch) n := by
  refine Eq.trans ?_ ((pair_hi I b ch ⟨64 + r.val, by omega⟩ (by simp) n).trans ?_)
  · pointwise [hiV, k0_pay9]
  · congr 2
    apply Fin.ext
    simp

end One

section All
variable (I : Dev nD → Inp Ideal)

theorem contrib_row (J : Inp Ideal) (b : Fin 2) (ch : Fin 8) (r : Fin 64) (n : Fin 768) :
    contrib J b (row ch r) n = contribG J b (row ch r) (lowG ch) (highG ch) n := by
  unfold contrib
  rw [chunkOf_row]

theorem opp_mod (ch : Fin 8) : (opp ch).val % 4 = ch.val % 4 := by revert ch; decide
theorem opp_opp (ch : Fin 8) : opp (opp ch) = ch := by revert ch; decide
theorem peer_three_mod (c : Dev nD) : (peer c 3).val % 4 = c.val % 4 := by revert c; decide

theorem part_apply (c : Dev nD) (s : Fin 7) (b : Fin 2) (r : Fin 64) (n : Fin 768) :
    partV I c s b (ix4 0 0 r n) = contrib (I c) b (row (peer c s) r) n := by
  rw [contrib_row]
  unfold partV
  split
  · exact lo_apply _ _ _ _ _
  · split
    · exact mid_apply _ _ _ _ _
    · rw [hi_apply, opp_opp, lowG_congr (opp_mod _), highG_congr (opp_mod _)]

theorem own_eq (c : Dev nD) (b : Fin 2) (r : Fin 64) (n : Fin 768) :
    ownV (I c) b (peer c 3) c (ix3 0 r n) = contrib (I c) b (row c r) n := by
  rw [contrib_row, own_apply, lowG_congr (peer_three_mod c), highG_congr (peer_three_mod c)]

theorem pay55_apply (f : Vec Ideal S1x64x768 .f32) (g : Vec Ideal S1x1x64x768 .bf16) (r : Fin 64) (n : Fin 768) :
    k0_pay55 f g (ix3 0 r n) = f (ix3 0 r n) + g (ix4 0 0 r n) := by
  pointwise [k0_pay55]

/-- The eight devices, counted down from `c`, are the eight devices. -/
theorem sum_down (f : Fin 8 → EReal) (c : Fin 8) :
    ∑ d, f d = f c + f (orig c 0) + f (orig c 1) + f (orig c 2) + f (orig c 3) + f (orig c 4) + f (orig c 5) + f (orig c 6) := by
  have hb : Function.Bijective (fun k : Fin 8 => c - k) := by revert c; decide
  rw [← Equiv.sum_comp (Equiv.ofBijective _ hb) f, Fin.sum_univ_eight]
  have e0 : c - 0 = c := by revert c; decide
  have e1 : c - 1 = orig c 0 := by revert c; decide
  have e2 : c - 2 = orig c 1 := by revert c; decide
  have e3 : c - 3 = orig c 2 := by revert c; decide
  have e4 : c - 4 = orig c 3 := by revert c; decide
  have e5 : c - 5 = orig c 4 := by revert c; decide
  have e6 : c - 6 = orig c 5 := by revert c; decide
  have e7 : c - 7 = orig c 6 := by revert c; decide
  simp only [Equiv.ofBijective_apply, e0, e1, e2, e3, e4, e5, e6, e7]

theorem acc_apply (c : Dev nD) (b : Fin 2) (r : Fin 64) (n : Fin 768) :
    accB I c b 7 (ix3 0 r n) = ∑ d : Dev nD, contrib (I d) b (row c r) n := by
  have h : ∀ s, partV I (orig c s) s b (ix4 0 0 r n) = contrib (I (orig c s)) b (row c r) n := by
    intro s
    rw [part_apply, peer_orig]
  refine Eq.trans ?_ (sum_down (fun d => contrib (I d) b (row c r) n) c).symm
  simp only [accB, pay55_apply, own_eq]
  change contrib (I c) b (row c r) n + partV I (orig c 0) 0 b (ix4 0 0 r n) + partV I (orig c 4) 4 b (ix4 0 0 r n)
    + partV I (orig c 1) 1 b (ix4 0 0 r n) + partV I (orig c 5) 5 b (ix4 0 0 r n) + partV I (orig c 2) 2 b (ix4 0 0 r n)
    + partV I (orig c 6) 6 b (ix4 0 0 r n) + partV I (orig c 3) 3 b (ix4 0 0 r n) = _
  simp only [h]
  ac_rfl

theorem done_apply (c : Dev nD) (b : Fin 2) (r : Fin 64) (n : Fin 768) :
    doneC I c (ix3 b r n) = ∑ d : Dev nD, contrib (I d) b (row c r) n := by
  rw [← acc_apply]
  unfold doneC accC
  simp only [ite_self]
  rfl

theorem chunk_apply (c : Dev nD) (b : Fin 2) (r : Fin 64) (n : Fin 768) :
    chunkV I c (ix3 b r n) = doneC I c (ix3 b r n) := by
  pointwise [chunkV, rowsC, k0_pay69, k0_pay70]

/-- Every device ends with the sum of the devices' contributions. -/
theorem out_apply (c : Dev nD) (b : Fin 2) (i : Fin 512) (n : Fin 768) :
    outC I c (ix3 b i n) = ∑ d : Dev nD, contrib (I d) b i n := by
  have h : outC I c (ix3 b i n) = doneC I (chunkOf i) (ix3 b (inChunk i) n) := by
    show (if chunkOf i = c then doneC I c (ix3 b (inChunk i) n) else chunkV I (chunkOf i) (ix3 b (inChunk i) n)) = _
    by_cases e : chunkOf i = c
    · rw [if_pos e, e]
    · rw [if_neg e, chunk_apply]
  rw [h, done_apply, row_chunkOf]

end All

end Cert.Exchange

end
-- ==== Proof.RefStages.lean ====
/- # The reference's result, stage by stage

The reference's result is one long term of its arguments. Here its stages get names: the block number of a row, the
mask, the scores, the weights, their mean of the values. -/
module

public import proofs.«01_k».proof.Proof.Gen.ReferenceIdeal.Run
public import Idealize.ShloMosaic.Lib.Pointwise

@[expose] public section

set_option maxRecDepth 16384

noncomputable section

namespace Cert.Ref

open Cert.ReferenceIdeal Cert.ReferenceIdeal.Gen
open Idealize.ShloMosaic Idealize.SL.Sem

/-- Row `i`'s block: `i // 64`, as the reference computes it. -/
def blk : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

/-- The divisor 4, guarded as the reference guards it. -/
def four : IVec S_ 32 :=
  select (cmpi .eq (id (constantI S_ 32 4#32)) (constantI S_ 32 0#32)) (constantI S_ 32 1#32) (id (constantI S_ 32 4#32))

/-- The query's and the key's block modulo 4. -/
def qMod : IVec S512x1 32 :=
  select (andi (cmpi .ne (cmpi .slt (Host.remsi (broadcastInDim S512x1 ![0] bcast_S512_S512x1_0 blk) (broadcastInDim S512x1 ![] bcast_S_S512x1 four)) (broadcastInDim S512x1 ![] bcast_S_S512x1 (constantI S_ 32 0#32)))
        (broadcastInDim S512x1 ![] bcast_S_S512x1 (cmpi .slt four (constantI S_ 32 0#32))))
      (cmpi .ne (Host.remsi (broadcastInDim S512x1 ![0] bcast_S512_S512x1_0 blk) (broadcastInDim S512x1 ![] bcast_S_S512x1 four)) (broadcastInDim S512x1 ![] bcast_S_S512x1 (constantI S_ 32 0#32))))
    (addi (Host.remsi (broadcastInDim S512x1 ![0] bcast_S512_S512x1_0 blk) (broadcastInDim S512x1 ![] bcast_S_S512x1 four)) (broadcastInDim S512x1 ![] bcast_S_S512x1 four))
    (Host.remsi (broadcastInDim S512x1 ![0] bcast_S512_S512x1_0 blk) (broadcastInDim S512x1 ![] bcast_S_S512x1 four))
def kMod : IVec S1x512 32 :=
  select (andi (cmpi .ne (cmpi .slt (Host.remsi (broadcastInDim S1x512 ![1] bcast_S512_S1x512_1 blk) (broadcastInDim S1x512 ![] bcast_S_S1x512 four)) (broadcastInDim S1x512 ![] bcast_S_S1x512 (constantI S_ 32 0#32)))
        (broadcastInDim S1x512 ![] bcast_S_S1x512 (cmpi .slt four (constantI S_ 32 0#32))))
      (cmpi .ne (Host.remsi (broadcastInDim S1x512 ![1] bcast_S512_S1x512_1 blk) (broadcastInDim S1x512 ![] bcast_S_S1x512 four)) (broadcastInDim S1x512 ![] bcast_S_S1x512 (constantI S_ 32 0#32))))
    (addi (Host.remsi (broadcastInDim S1x512 ![1] bcast_S512_S1x512_1 blk) (broadcastInDim S1x512 ![] bcast_S_S1x512 four)) (broadcastInDim S1x512 ![] bcast_S_S1x512 four))
    (Host.remsi (broadcastInDim S1x512 ![1] bcast_S512_S1x512_1 blk) (broadcastInDim S1x512 ![] bcast_S_S1x512 four))

/-- Which keys a query looks at. -/
def mask : IVec S512x512 1 :=
  ori (cmpi .eq (broadcastInDim S512x512 ![0, 1] bcast_S512x1_S512x512_0_1 (broadcastInDim S512x1 ![0] bcast_S512_S512x1_0 blk))
      (broadcastInDim S512x512 ![0, 1] bcast_S1x512_S512x512_0_1 (broadcastInDim S1x512 ![1] bcast_S512_S1x512_1 blk)))
    (cmpi .eq (broadcastInDim S512x512 ![0, 1] bcast_S1x512_S512x512_0_1 kMod) (broadcastInDim S512x512 ![0, 1] bcast_S512x1_S512x512_0_1 qMod))

/-- Whether a query looks at any key. -/
def keep : IVec S512 1 := Host.reduce IntOp.ori mask (constantI S_ 1 0#1) reducesTo_S512x512_S512_d1 h_S_

section Values
variable (x : FVec Ideal S2x512x768 .f32) (wq : FVec Ideal S768x4096 .f32) (k v : FVec Ideal S2x512x64x64 .f32) (wo : FVec Ideal S4096x768 .f32)

/-- The scores, before and after the mask. -/
def raw : FVec Ideal S2x64x512x512 .f32 :=
  mulf (Host.dotGeneral dot_S2x512x64x64_S2x512x64x64_S2x64x512x512_3_3_1_1_02_02 none
      (shapeCast S2x512x64x64 (Host.dotGeneral dot_S2x512x768_S768x4096_S2x512x4096_2_0_01_1_n_n none x wq) shapeCasts_S2x512x4096_S2x512x64x64) k)
    (broadcastInDim S2x64x512x512 ![] bcast_S_S2x64x512x512 (constant (F := Ideal) S_ .f32 0x3E000000#32))
def masked : FVec Ideal S2x64x512x512 .f32 :=
  select (broadcastInDim S2x64x512x512 ![0, 1, 2, 3] bcast_S1x1x512x512_S2x64x512x512_0_1_2_3 (broadcastInDim S1x1x512x512 ![2, 3] bcast_S512x512_S1x1x512x512_2_3 mask))
    (raw x wq k) (broadcastInDim S2x64x512x512 ![] bcast_S_S2x64x512x512 (id (constant (F := Ideal) S_ .f32 0xFF800000#32)))

/-- Each row's greatest score. -/
def top : FVec Ideal S2x64x512 .f32 :=
  Host.reduce FloatOps.maximumf (masked x wq k) (constant (F := Ideal) S_ .f32 0xFF800000#32) reducesTo_S2x64x512x512_S2x64x512_d3 h_S_

/-- The exponentials, their sums, and the weights. -/
def expo : FVec Ideal S2x64x512x512 .f32 :=
  Host.exp (subf (masked x wq k) (broadcastInDim S2x64x512x512 ![0, 1, 2, 3] bcast_S2x64x512x1_S2x64x512x512_0_1_2_3
    (broadcastInDim S2x64x512x1 ![0, 1, 2] bcast_S2x64x512_S2x64x512x1_0_1_2 (top x wq k))))
def total : FVec Ideal S2x64x512x1 .f32 :=
  select (broadcastInDim S2x64x512x1 ![0, 1, 2, 3] bcast_S1x1x512x1_S2x64x512x1_0_1_2_3 (broadcastInDim S1x1x512x1 ![2] bcast_S512_S1x1x512x1_2 keep))
    (broadcastInDim S2x64x512x1 ![0, 1, 2] bcast_S2x64x512_S2x64x512x1_0_1_2
      (Host.reduceAdd (expo x wq k) (constant (F := Ideal) S_ .f32 0x00000000#32) reducesTo_S2x64x512x512_S2x64x512_d3 h_S_))
    (broadcastInDim S2x64x512x1 ![] bcast_S_S2x64x512x1 (id (constant (F := Ideal) S_ .f32 0x3F800000#32)))
def weight : FVec Ideal S2x64x512x512 .f32 :=
  select (broadcastInDim S2x64x512x512 ![0, 1, 2, 3] bcast_S1x1x512x1_S2x64x512x512_0_1_2_3 (broadcastInDim S1x1x512x1 ![2] bcast_S512_S1x1x512x1_2 keep))
    (Host.divf (expo x wq k) (broadcastInDim S2x64x512x512 ![0, 1, 2, 3] bcast_S2x64x512x1_S2x64x512x512_0_1_2_3 (total x wq k)))
    (broadcastInDim S2x64x512x512 ![] bcast_S_S2x64x512x512 (id (constant (F := Ideal) S_ .f32 0x00000000#32)))

/-- The weighted means of the values, a row's heads side by side. -/
def ctx : FVec Ideal S2x512x4096 .f32 :=
  shapeCast S2x512x4096 (transpose S2x512x64x64 [0, 3, 1, 2] (Host.dotGeneral dot_S2x512x64x64_S2x64x512x512_S2x64x64x512_1_3_3_2_02_01 none v (weight x wq k))
    transposes_S2x64x64x512_S2x512x64x64_0_3_1_2) shapeCasts_S2x512x64x64_S2x512x4096

/-- The result. -/
def result : FVec Ideal S2x512x768 .f32 :=
  Host.dotGeneral dot_S2x512x4096_S4096x768_S2x512x768_2_0_01_1_n_n none (ctx x wq k v) wo

end Values

theorem res_eq (m : (ℓ : Loc nD τ sig) → Buf (Elt Ideal) ℓ) (c : Dev nD) :
    Cert.ReferenceIdeal.Value.res_main_v39 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

end Cert.Ref

end
-- ==== Proof.RefMask.lean ====
/- # The reference's mask

A query looks at the keys whose block has its own block's remainder modulo 4. It always looks at some key. -/
module

public import proofs.«01_k».proof.Proof.RefStages

@[expose] public section

set_option maxRecDepth 16384

noncomputable section

namespace Cert.Ref

open Cert.ReferenceIdeal Cert.ReferenceIdeal.Gen
open Idealize.ShloMosaic Idealize.SL.Sem

theorem blk_apply (i : Fin 512) : blk (ix1 i) = BitVec.ofNat 32 (i.val / 64) := by
  pointwise [blk]
  revert i
  decide +kernel

theorem four_apply (j : S_.Idx) : four j = 4#32 := by
  pointwise [four]
  rfl

theorem qMod_apply (i : Fin 512) : qMod (ix2 i 0) = BitVec.ofNat 32 (i.val / 64 % 4) := by
  pointwise [qMod, four_apply, blk_apply]
  revert i
  decide +kernel

theorem kMod_apply (i : Fin 512) : kMod (ix2 0 i) = BitVec.ofNat 32 (i.val / 64 % 4) := by
  pointwise [kMod, four_apply, blk_apply]
  revert i
  decide +kernel

theorem mask_apply (i j : Fin 512) : mask (ix2 i j) = if i.val / 64 % 4 = j.val / 64 % 4 then 1#1 else 0#1 := by
  pointwise [mask, qMod_apply, kMod_apply, blk_apply]
  have h : ∀ a b : Fin 8, IntOp.ori (IntOp.cmpi CmpIPredicate.eq (BitVec.ofNat 32 a.val) (BitVec.ofNat 32 b.val))
      (IntOp.cmpi CmpIPredicate.eq (BitVec.ofNat 32 (b.val % 4)) (BitVec.ofNat 32 (a.val % 4)))
      = if a.val % 4 = b.val % 4 then 1#1 else 0#1 := by decide +kernel
  exact h ⟨i.val / 64, by omega⟩ ⟨j.val / 64, by omega⟩

theorem keep_apply (i : Fin 512) : keep (ix1 i) = 1#1 := by
  pointwise [keep, mask_apply]
  rw [← Finset.insert_erase (Finset.mem_univ i), Finset.fold_insert (Finset.notMem_erase i _), if_pos rfl]
  have h : ∀ a : BitVec 1, IntOp.ori 1#1 a = 1#1 := by decide
  exact h _

end Cert.Ref

end
-- ==== Proof.Consts.lean ====
/- # The three float literals whose values matter: an eighth and the two infinities -/
module

public import Idealize.ShloMosaic.Lib.Pointwise

@[expose] public section

noncomputable section

namespace Cert.Consts

open Idealize.ShloMosaic

theorem eighth : Ideal.ofBits .f32 0x3E000000#32 = ((1 / 8 : ℝ) : EReal) := by
  simp [Ideal.ofBits, Ideal.ieee, -EReal.coe_mul]
  norm_num

theorem negInf : Ideal.ofBits .f32 0xFF800000#32 = ⊥ := by
  simp [Ideal.ofBits, Ideal.ieee]

theorem posInf : Ideal.ofBits .f32 0x7F800000#32 = ⊤ := by
  simp [Ideal.ofBits, Ideal.ieee]

end Cert.Consts

end
-- ==== Proof.RefValue.lean ====
/- # The reference, read at an index over the reals -/
module

public import proofs.«01_k».proof.Proof.RefMask
public import proofs.«01_k».proof.Proof.Consts

@[expose] public section

set_option maxRecDepth 16384

noncomputable section

namespace Cert.Ref

open Cert.ReferenceIdeal Cert.ReferenceIdeal.Gen
open Idealize.ShloMosaic Idealize.SL.Sem

variable (x : FVec Ideal S2x512x768 .f32) (wq : FVec Ideal S768x4096 .f32) (k v : FVec Ideal S2x512x64x64 .f32) (wo : FVec Ideal S4096x768 .f32)

/-- The head and the place in it of column `q`, and the column of a place in a head. -/
def headR (q : Fin 4096) : Fin 64 := ⟨q.val / 64, by omega⟩
def dimR (q : Fin 4096) : Fin 64 := ⟨q.val % 64, Nat.mod_lt _ (by decide)⟩
def colR (h d : Fin 64) : Fin 4096 := ⟨h.val * 64 + d.val, by omega⟩

/-- Key `j` is one that query `i` looks at. -/
abbrev Sees (i j : Fin 512) : Prop := i.val / 64 % 4 = j.val / 64 % 4

/-- A score. -/
def scoreR (b : Fin 2) (h : Fin 64) (i j : Fin 512) : EReal :=
  (∑ d : Fin 64, (∑ e : Fin 768, x (ix3 b i e) * wq (ix2 e (colR h d))) * k (ix4 b j h d)) * Ideal.ofBits .f32 0x3E000000#32

theorem raw_apply (b : Fin 2) (h : Fin 64) (i j : Fin 512) : raw x wq k (ix4 b h i j) = scoreR x wq k b h i j := by
  pointwise [raw, scoreR]
  rfl

theorem masked_apply (b : Fin 2) (h : Fin 64) (i j : Fin 512) :
    masked x wq k (ix4 b h i j) = if Sees i j then scoreR x wq k b h i j else ⊥ := by
  pointwise [masked, mask_apply, raw_apply]
  by_cases c : Sees i j
  · rw [if_pos c, if_pos c]
    rfl
  · rw [if_neg c, if_neg c]
    exact Consts.negInf

/-- The greatest score of a row. -/
def topR (b : Fin 2) (h : Fin 64) (i : Fin 512) : EReal :=
  Finset.univ.fold max ⊥ fun j : Fin 512 => if Sees i j then scoreR x wq k b h i j else ⊥

theorem top_apply (b : Fin 2) (h : Fin 64) (i : Fin 512) : top x wq k (ix3 b h i) = topR x wq k b h i := by
  pointwise [top, masked_apply, topR]
  rw [Consts.negInf]

def expR (b : Fin 2) (h : Fin 64) (i j : Fin 512) : EReal :=
  Ideal.exp ((if Sees i j then scoreR x wq k b h i j else ⊥) - topR x wq k b h i)

theorem expo_apply (b : Fin 2) (h : Fin 64) (i j : Fin 512) : expo x wq k (ix4 b h i j) = expR x wq k b h i j := by
  pointwise [expo, masked_apply, top_apply, expR]

theorem total_apply (b : Fin 2) (h : Fin 64) (i : Fin 512) : total x wq k (ix4 b h i 0) = ∑ j, expR x wq k b h i j := by
  pointwise [total, keep_apply, expo_apply]

theorem weight_apply (b : Fin 2) (h : Fin 64) (i j : Fin 512) :
    weight x wq k (ix4 b h i j) = Ideal.div (expR x wq k b h i j) (∑ j, expR x wq k b h i j) := by
  pointwise [weight, keep_apply, expo_apply, total_apply]

/-- A weighted mean of the values. -/
def ctxR (b : Fin 2) (i : Fin 512) (h d : Fin 64) : EReal :=
  ∑ j : Fin 512, v (ix4 b j h d) * Ideal.div (expR x wq k b h i j) (∑ j, expR x wq k b h i j)

theorem ctx_apply (b : Fin 2) (i : Fin 512) (q : Fin 4096) : ctx x wq k v (ix3 b i q) = ctxR x wq k v b i (headR q) (dimR q) := by
  pointwise [ctx, weight_apply, ctxR]
  rfl

theorem result_apply (b : Fin 2) (i : Fin 512) (n : Fin 768) :
    result x wq k v wo (ix3 b i n) = ∑ q : Fin 4096, ctxR x wq k v b i (headR q) (dimR q) * wo (ix2 q n) := by
  pointwise [result, ctx_apply]

end Cert.Ref

end
-- ==== Proof.Softmax.lean ====
/- # A softmax and the same mean without the shift

The reference subtracts the greatest score, takes exponentials, divides each by their sum and averages the values. The
kernel takes the exponentials of the scores as they are and divides once, at the end. For finite scores both are the
same extended real, whatever the values are. -/
module

public import Idealize.ShloMosaic.Lib.Pointwise

@[expose] public section

noncomputable section

namespace Cert.Softmax

open Idealize.ShloMosaic

variable {J : Type} [Fintype J] [DecidableEq J]

/-- A factor that is a nonnegative real distributes over a sum of extended reals. -/
theorem sum_mul_coe {K : Type} (S : Finset K) (f : K → EReal) (a : ℝ) (ha : 0 ≤ a) :
    (∑ j ∈ S, f j) * (a : EReal) = ∑ j ∈ S, f j * (a : EReal) := by
  classical
  induction S using Finset.induction_on with
  | empty => simp
  | insert j S hj ih =>
    rw [Finset.sum_insert hj, Finset.sum_insert hj, ← ih, mul_comm, mul_comm (f j), mul_comm (∑ j ∈ S, f j)]
    exact EReal.left_distrib_of_nonneg_of_ne_top (by exact_mod_cast ha) (EReal.coe_ne_top a) _ _

theorem coe_sum {K : Type} (S : Finset K) (f : K → ℝ) : ((∑ j ∈ S, f j : ℝ) : EReal) = ∑ j ∈ S, (f j : EReal) := by
  classical
  induction S using Finset.induction_on with
  | empty => simp
  | insert j S hj ih => rw [Finset.sum_insert hj, Finset.sum_insert hj, EReal.coe_add, ih]

theorem exp_coe (r : ℝ) : Ideal.exp (r : EReal) = (Real.exp r : EReal) := rfl
theorem exp_bot : Ideal.exp ⊥ = 0 := rfl

/-- A fold of maxima over entries that are real or minus infinity is real or minus infinity, and at least each entry. -/
theorem fold_max_cases (S : Finset J) (f : J → EReal) (hf : ∀ j, f j = ⊥ ∨ ∃ r : ℝ, f j = r) :
    (S.fold max ⊥ f = ⊥ ∨ ∃ r : ℝ, S.fold max ⊥ f = r) ∧ ∀ j ∈ S, f j ≤ S.fold max ⊥ f := by
  induction S using Finset.induction_on with
  | empty => simp
  | insert j S hj ih =>
    rw [Finset.fold_insert hj]
    refine ⟨?_, ?_⟩
    · rcases max_choice (f j) (S.fold max ⊥ f) with e | e <;> rw [e]
      · exact hf j
      · exact ih.1
    · intro i hi
      rcases Finset.mem_insert.mp hi with rfl | hi
      · exact le_max_left _ _
      · exact (ih.2 i hi).trans (le_max_right _ _)

theorem fold_max_real (f : J → EReal) (hf : ∀ j, f j = ⊥ ∨ ∃ r : ℝ, f j = r) (j₀ : J) (r₀ : ℝ) (h₀ : f j₀ = r₀) :
    ∃ r : ℝ, Finset.univ.fold max ⊥ f = r := by
  obtain ⟨h, hle⟩ := fold_max_cases Finset.univ f hf
  rcases h with h | h
  · have := hle j₀ (Finset.mem_univ _)
    rw [h, h₀] at this
    exact absurd (le_bot_iff.mp this) (EReal.coe_ne_bot r₀)
  · exact h

variable (s : J → ℝ) (M : J → Prop) [DecidablePred M] (v : J → EReal)

/-- The sum of the exponentials of the scores that are looked at. -/
def denom : ℝ := ∑ j with M j, Real.exp (s j)

theorem denom_pos (j₀ : J) (h₀ : M j₀) : 0 < denom s M :=
  Finset.sum_pos (fun j _ => Real.exp_pos _) ⟨j₀, Finset.mem_filter.mpr ⟨Finset.mem_univ _, h₀⟩⟩

/-- The shifted exponentials, and their sum. -/
theorem exp_shift (t : ℝ) (j : J) :
    Ideal.exp ((if M j then (s j : EReal) else ⊥) - (t : EReal)) = ((if M j then Real.exp (s j) * Real.exp (-t) else 0 : ℝ) : EReal) := by
  by_cases c : M j
  · rw [if_pos c, if_pos c, ← EReal.coe_sub, exp_coe, sub_eq_add_neg, Real.exp_add]
  · rw [if_neg c, if_neg c, EReal.bot_sub, exp_bot, EReal.coe_zero]

theorem sum_shift (t : ℝ) :
    ∑ j, Ideal.exp ((if M j then (s j : EReal) else ⊥) - (t : EReal)) = ((denom s M * Real.exp (-t) : ℝ) : EReal) := by
  simp only [exp_shift]
  rw [← coe_sum, ← Finset.sum_filter, denom, Finset.sum_mul]

/-- A weight of the softmax, which no longer depends on the shift. -/
theorem weight_eq (t : ℝ) (j₀ : J) (h₀ : M j₀) (j : J) :
    Ideal.div (Ideal.exp ((if M j then (s j : EReal) else ⊥) - (t : EReal)))
        (∑ j, Ideal.exp ((if M j then (s j : EReal) else ⊥) - (t : EReal)))
      = ((if M j then Real.exp (s j) * (denom s M)⁻¹ else 0 : ℝ) : EReal) := by
  have hd := denom_pos s M j₀ h₀
  have ht := Real.exp_pos (-t)
  rw [sum_shift, exp_shift, Ideal.div_coe (mul_pos hd ht).ne', ← EReal.coe_mul]
  congr 1
  by_cases c : M j
  · rw [if_pos c, if_pos c]
    field_simp
  · rw [if_neg c, if_neg c, zero_mul]

/-- The two means are equal. -/
theorem mean_eq (j₀ : J) (h₀ : M j₀) :
    (∑ j, v j * Ideal.div (Ideal.exp ((if M j then (s j : EReal) else ⊥) - Finset.univ.fold max ⊥ fun j => if M j then (s j : EReal) else ⊥))
        (∑ j, Ideal.exp ((if M j then (s j : EReal) else ⊥) - Finset.univ.fold max ⊥ fun j => if M j then (s j : EReal) else ⊥)))
      = Ideal.div (∑ j with M j, Ideal.exp (s j) * v j) (∑ j with M j, Ideal.exp (s j)) := by
  obtain ⟨t, ht⟩ := fold_max_real (fun j => if M j then (s j : EReal) else ⊥)
    (fun j => by by_cases c : M j <;> simp [c]) j₀ (s j₀) (if_pos h₀)
  rw [ht]
  have hd := denom_pos s M j₀ h₀
  simp only [weight_eq s M t j₀ h₀, exp_coe]
  rw [← coe_sum, ← denom, Ideal.div_coe hd.ne', sum_mul_coe _ _ _ (by positivity), Finset.sum_filter]
  refine Finset.sum_congr rfl fun j _ => ?_
  by_cases c : M j
  · rw [if_pos c, if_pos c, EReal.coe_mul, one_div, ← mul_assoc, mul_comm (v j)]
  · rw [if_neg c, if_neg c, EReal.coe_zero, mul_zero]

end Cert.Softmax

end
-- ==== Proof.Meet.lean ====
/- # The kernel's sum over devices is the reference's result

Each device holds eight of the 64 heads. Its contribution to a row is the part of the reference's last product that
those heads give, and the devices' contributions add up to the whole product. -/
module

public import proofs.«01_k».proof.Proof.KerValue
public import proofs.«01_k».proof.Proof.RefValue
public import proofs.«01_k».proof.Proof.Softmax

@[expose] public section

set_option maxRecDepth 16384

noncomputable section

namespace Cert.Meet

open Cert.KernelIdeal
open Idealize.ShloMosaic
open Cert.Exchange Cert.Ref Cert.Softmax

/-! ## Sums cut in blocks -/

theorem sum_rows {A : Type} [AddCommMonoid A] (f : Fin 512 → A) : ∑ j, f j = ∑ g : Fin 8, ∑ r : Fin 64, f (row g r) := by
  refine ((Equiv.sum_comp (finProdFinEquiv (m := 8) (n := 64)) f).symm.trans (Fintype.sum_prod_type _)).trans ?_
  refine Finset.sum_congr rfl fun g _ => Finset.sum_congr rfl fun r _ => congrArg f (Fin.ext ?_)
  show r.val + 64 * g.val = 64 * g.val + r.val
  omega

/-- Column `q` of device `d`'s 512 columns, and head `h` of its eight heads, among all of them. -/
def colAt (d : Fin 8) (q : Fin 512) : Fin 4096 := ⟨512 * d.val + q.val, by omega⟩
def headAt (d h : Fin 8) : Fin 64 := ⟨8 * d.val + h.val, by omega⟩

theorem sum_cols {A : Type} [AddCommMonoid A] (f : Fin 4096 → A) : ∑ j, f j = ∑ d : Fin 8, ∑ q : Fin 512, f (colAt d q) := by
  refine ((Equiv.sum_comp (finProdFinEquiv (m := 8) (n := 512)) f).symm.trans (Fintype.sum_prod_type _)).trans ?_
  refine Finset.sum_congr rfl fun g _ => Finset.sum_congr rfl fun r _ => congrArg f (Fin.ext ?_)
  show r.val + 512 * g.val = 512 * g.val + r.val
  omega

theorem sees_blocks (ch : Fin 8) : (Finset.univ.filter fun g : Fin 8 => ch.val % 4 = g.val % 4) = {lowG ch, highG ch} := by
  revert ch; decide
theorem low_ne_high (ch : Fin 8) : lowG ch ≠ highG ch := by revert ch; decide

/-- The keys a row looks at are the two blocks the kernel loads. -/
theorem sum_sees {A : Type} [AddCommMonoid A] (i : Fin 512) (f : Fin 512 → A) :
    ∑ j with Sees i j, f j = ∑ p : Fin 64, f (row (lowG (chunkOf i)) p) + ∑ p : Fin 64, f (row (highG (chunkOf i)) p) := by
  rw [Finset.sum_filter, sum_rows]
  have h : ∀ (g : Fin 8) (r : Fin 64), Sees i (row g r) ↔ (chunkOf i).val % 4 = g.val % 4 := by
    intro g r
    show i.val / 64 % 4 = (64 * g.val + r.val) / 64 % 4 ↔ i.val / 64 % 4 = g.val % 4
    rw [show (64 * g.val + r.val) / 64 = g.val by omega]
  simp only [h]
  generalize chunkOf i = ch
  have e : ∀ g : Fin 8, (∑ r : Fin 64, if ch.val % 4 = g.val % 4 then f (row g r) else 0)
      = if ch.val % 4 = g.val % 4 then ∑ r : Fin 64, f (row g r) else 0 := by
    intro g
    split <;> simp
  simp only [e]
  have hg : ∀ F : Fin 8 → A, (∑ g : Fin 8, if ch.val % 4 = g.val % 4 then F g else 0) = F (lowG ch) + F (highG ch) := by
    intro F
    rw [← Finset.sum_filter, sees_blocks]
    exact Finset.sum_pair (low_ne_high ch)
  exact hg fun g => ∑ r : Fin 64, f (row g r)

/-! ## One head -/

section
variable (x : FVec Ideal Cert.ReferenceIdeal.S2x512x768 .f32) (wq : FVec Ideal Cert.ReferenceIdeal.S768x4096 .f32)
  (k v : FVec Ideal Cert.ReferenceIdeal.S2x512x64x64 .f32) (wo : FVec Ideal Cert.ReferenceIdeal.S4096x768 .f32)
variable (I : Dev nD → Inp Ideal)

/-- The devices' inputs are the arrays, cut by heads. -/
structure Cut : Prop where
  x : ∀ d b i e, (I d).x (ix3 b i e) = x (ix3 b i e)
  wq : ∀ d e q, (I d).wq (ix2 e q) = wq (ix2 e (colAt d q))
  k : ∀ d b j h t, (I d).k (ix4 b j h t) = k (ix4 b j (headAt d h) t)
  v : ∀ d b j h t, (I d).v (ix4 b j h t) = v (ix4 b j (headAt d h) t)
  wo : ∀ d q n, (I d).wo (ix2 q n) = wo (ix2 (colAt d q) n)

/-- The activations, the query projection and the keys are real numbers. -/
structure Finite : Prop where
  x : ∀ j, ∃ r : ℝ, x j = r
  wq : ∀ j, ∃ r : ℝ, wq j = r
  k : ∀ j, ∃ r : ℝ, k j = r

variable {x wq k v wo I}

/-- A score is a real number, and the kernel's is the reference's: an eighth of the queries, or of the products. -/
theorem score_real (hf : Finite x wq k) (b : Fin 2) (h : Fin 64) (i : Fin 512) : ∃ s : Fin 512 → ℝ, ∀ j, scoreR x wq k b h i j = s j ∧
    ∑ d : Fin 64, ((∑ e : Fin 768, x (ix3 b i e) * wq (ix2 e (colR h d))) * Ideal.ofBits .f32 0x3E000000#32) * k (ix4 b j h d) = s j := by
  choose xr hx using hf.x
  choose wr hw using hf.wq
  choose kr hk using hf.k
  refine ⟨fun j => (∑ d : Fin 64, (∑ e : Fin 768, xr (ix3 b i e) * wr (ix2 e (colR h d))) * kr (ix4 b j h d)) * (1 / 8), fun j => ⟨?_, ?_⟩⟩
  · unfold scoreR
    simp only [hx, hw, hk, Consts.eighth, ← EReal.coe_mul, ← coe_sum]
  · simp only [hx, hw, hk, Consts.eighth, ← EReal.coe_mul, ← coe_sum]
    congr 1
    rw [Finset.sum_mul]
    exact Finset.sum_congr rfl fun d _ => by ring

theorem colAt_colOf (d h : Fin 8) (t : Fin 64) : colAt d (colOf h t) = colR (headAt d h) t := by
  apply Fin.ext
  show 512 * d.val + (h.val * 64 + t.val) = (8 * d.val + h.val) * 64 + t.val
  omega

theorem headR_colAt (d : Fin 8) (q : Fin 512) : headR (colAt d q) = headAt d (headOf q) := by
  apply Fin.ext
  show (512 * d.val + q.val) / 64 = 8 * d.val + q.val / 64
  omega

theorem dimR_colAt (d : Fin 8) (q : Fin 512) : dimR (colAt d q) = dimOf q := by
  apply Fin.ext
  show (512 * d.val + q.val) % 64 = q.val % 64
  omega

/-- A device's weighted mean is the reference's. -/
theorem ctx_eq (hf : Finite x wq k) (hc : Cut x wq k v wo I) (d : Fin 8) (b : Fin 2) (i : Fin 512) (h : Fin 8) (t : Fin 64) :
    ctxG (I d) b i h (lowG (chunkOf i)) (highG (chunkOf i)) t = ctxR x wq k v b i (headAt d h) t := by
  obtain ⟨s, hs⟩ := score_real hf b (headAt d h) i
  have hk : ∀ g p, scoreK (I d) b i h g p = s (row g p) := by
    intro g p
    rw [← (hs (row g p)).2]
    unfold scoreK qv
    simp only [hc.x, hc.wq, hc.k, colAt_colOf]
  have hr : ∀ j, scoreR x wq k b (headAt d h) i j = s j := fun j => (hs j).1
  unfold ctxG ctxR expR topR
  simp only [hk, hr, hc.v]
  rw [mean_eq s (Sees i) (fun j => v (ix4 b j (headAt d h) t)) i rfl, sum_sees, sum_sees]

/-- The devices' contributions add up to the reference's result. -/
theorem sum_contrib (hf : Finite x wq k) (hc : Cut x wq k v wo I) (b : Fin 2) (i : Fin 512) (n : Fin 768) :
    ∑ d : Dev nD, contrib (I d) b i n = result x wq k v wo (ix3 b i n) := by
  rw [result_apply, sum_cols]
  refine Finset.sum_congr rfl fun d _ => ?_
  unfold contrib contribG
  refine Finset.sum_congr rfl fun q _ => ?_
  rw [ctx_eq hf hc, hc.wo, headR_colAt, dimR_colAt]

/-- What every device ends with is the reference's result. -/
theorem out_eq (hf : Finite x wq k) (hc : Cut x wq k v wo I) (c : Dev nD) : outC I c = result x wq k v wo := by
  funext j
  rw [eq_ix3 j]
  exact (out_apply I c (j 0) (j 1) (j 2)).trans (sum_contrib hf hc _ _ _)

end

end Cert.Meet

end
-- ==== Proof.Inputs.lean ====
/- # The devices' inputs are parts of the reference's arrays

Before the kernel starts, each device cuts its own columns out of the query projection and its own rows out of the
output projection. The activations it has whole, and the keys and the values it has for its own heads. -/
module

public import proofs.«01_k».proof.Proof.Region
public import proofs.«01_k».proof.Proof.Meet
public import Idealize.ShloMosaic.Lib.StableHlo.RunRead
public import Idealize.ShloMosaic.Lib.DynamicIndex
public import Idealize.ShloMosaic.Lib.LayoutAt

@[expose] public section

set_option maxRecDepth 16384

noncomputable section

namespace Cert.Meet

open Cert.KernelIdeal Cert.KernelIdeal.Gen
open Idealize.ShloMosaic Idealize.ShloMosaic.TcCoe
open Cert.Exchange Cert.Ref

/-- Where device `c`'s columns start, as the program computes it. -/
def startV (c : Dev nD) : IVec S_ 32 :=
  let w : IVec S_ 32 := muli (Host.remui (Host.divui (constantI S_ 32 c.word) (constantI S_ 32 1#32)) (constantI S_ 32 8#32)) (constantI S_ 32 512#32)
  select (cmpi .slt w (constantI S_ 32 0#32)) (addi w (constantI S_ 32 4096#32)) w

/-- It is `512 c`. -/
theorem startV_toInt : ∀ c : Dev nD, (startV c (Shape.Idx.first h_S_)).toInt = ((512 * c.val : Nat) : Int) := by decide

variable (m : (ℓ : Loc nD τ sig) → Buf (Elt Ideal) ℓ) (c : Dev nD)

/-! The start words, read where the slices are cut. -/

theorem start_wq : StableHlo.upto (hostOps0 c) (V0 m c) 14 (Proc.devRef .tc main_v8) = startV c := by
  after_reads_simp
  rfl

theorem zero_wq : StableHlo.upto (hostOps0 c) (V0 m c) 14 (Proc.devRef .tc main_c_4) = fun _ => 0#32 := by
  after_reads_simp
  rfl

/-- Device `c`'s columns of the query projection. -/
theorem v1_wq (off : S768x4096.Slices ![0, 512 * c.val] S768x512) :
    V1 m c main_v9 = extractStridedSlice S768x512 ![0, 512 * c.val] (V0 m c main_arg1) off := by
  after_reads_simp [StableHlo.unaryIndexed_result_read]
  refine Host.dynamicSlice_eq_extractStridedSlice _ _ _ _ _ off fun a => ?_
  match a with
  | ⟨0, _⟩ => exact congrArg (fun f : IVec S_ 32 => (f (Shape.Idx.first h_S_)).toInt) (zero_wq m c)
  | ⟨1, _⟩ => exact (congrArg (fun f : IVec S_ 32 => (f (Shape.Idx.first h_S_)).toInt) (start_wq m c)).trans (startV_toInt c)

theorem start_wo : StableHlo.upto (hostOps0 c) (V0 m c) 23 (Proc.devRef .tc main_v13) = startV c := by
  after_reads_simp
  rfl

theorem zero_wo : StableHlo.upto (hostOps0 c) (V0 m c) 23 (Proc.devRef .tc main_c_8) = fun _ => 0#32 := by
  after_reads_simp
  rfl

/-- Device `c`'s rows of the output projection. -/
theorem v1_wo (off : S4096x768.Slices ![512 * c.val, 0] S512x768) :
    V1 m c main_v14 = extractStridedSlice S512x768 ![512 * c.val, 0] (V0 m c main_arg4) off := by
  after_reads_simp [StableHlo.unaryIndexed_result_read]
  refine Host.dynamicSlice_eq_extractStridedSlice _ _ _ _ _ off fun a => ?_
  match a with
  | ⟨0, _⟩ => exact (congrArg (fun f : IVec S_ 32 => (f (Shape.Idx.first h_S_)).toInt) (start_wo m c)).trans (startV_toInt c)
  | ⟨1, _⟩ => exact congrArg (fun f : IVec S_ 32 => (f (Shape.Idx.first h_S_)).toInt) (zero_wo m c)

theorem off_wq : ∀ c : Dev nD, S768x4096.Slices ![0, 512 * c.val] S768x512 := by decide
theorem off_wo : ∀ c : Dev nD, S4096x768.Slices ![512 * c.val, 0] S512x768 := by decide

/-! The two slices, read at an index. -/

theorem wq_at (e : Fin 768) (q : Fin 512) :
    (V1 m c main_v9 : S768x512.Idx → EReal) (ix2 e q) = (V0 m c main_arg1 : S768x4096.Idx → EReal) (ix2 e (colAt c q)) := by
  refine (congrFun (v1_wq m c (off_wq c)) (ix2 e q)).trans ?_
  pointwise [colAt]

theorem wo_at (q : Fin 512) (n : Fin 768) :
    (V1 m c main_v14 : S512x768.Idx → EReal) (ix2 q n) = (V0 m c main_arg4 : S4096x768.Idx → EReal) (ix2 (colAt c q) n) := by
  refine (congrFun (v1_wo m c (off_wo c)) (ix2 q n)).trans ?_
  pointwise [colAt]

/-- Device `c`'s block of the keys, or of the values, holds heads `8 c`, …, `8 c + 7`. -/
theorem block_at (X : (⟨4, ![2, 512, 64, 64]⟩ : Shape).Idx → EReal) (b : Fin 2) (j : Fin 512) (h : Fin 8) (t : Fin 64) :
    (Layout.block ⟨4, ![2, 512, 8, 64]⟩ ⟨4, ![2, 512, 64, 64]⟩ 2 8 c X) (ix4 b j h t) = X (ix4 b j (headAt c h) t) := by
  unfold headAt
  shard_norm
  shard_ext

variable {m}
variable {x : (⟨3, ![2, 512, 768]⟩ : Shape).Idx → EReal} {wq : S768x4096.Idx → EReal}
  {k v : (⟨4, ![2, 512, 64, 64]⟩ : Shape).Idx → EReal} {wo : S4096x768.Idx → EReal}

/-- Where the memory of every device holds its part of the arrays, so do the kernel's inputs. -/
theorem cut
    (h : ∀ c : Dev nD, m ((c.tc : Thread nD τ).loc main_arg0) = x ∧ m ((c.tc : Thread nD τ).loc main_arg1) = wq
      ∧ m ((c.tc : Thread nD τ).loc main_arg2) = Layout.block ⟨4, ![2, 512, 8, 64]⟩ ⟨4, ![2, 512, 64, 64]⟩ 2 8 c k
      ∧ m ((c.tc : Thread nD τ).loc main_arg3) = Layout.block ⟨4, ![2, 512, 8, 64]⟩ ⟨4, ![2, 512, 64, 64]⟩ 2 8 c v
      ∧ m ((c.tc : Thread nD τ).loc main_arg4) = wo) : Cut x wq k v wo (inp m) where
  x d b i e := congrFun ((V1_of m d main_arg0 (by decide)).trans (h d).1) _
  wq d e q := (wq_at m d e q).trans (congrFun (h d).2.1 _)
  k d b j h' t := (congrFun ((V1_of m d main_arg2 (by decide)).trans (h d).2.2.1) _).trans (block_at d k b j h' t)
  v d b j h' t := (congrFun ((V1_of m d main_arg3 (by decide)).trans (h d).2.2.2.1) _).trans (block_at d v b j h' t)
  wo d q n := (wo_at m d q n).trans (congrFun (h d).2.2.2.2 _)

end Cert.Meet

end
-- ==== Proof.Pre.lean ====
/- # What the precondition says

Every entry of the activations, of the query projection and of the keys is a real number: its absolute value is below
infinity. A device's precondition says so of its own keys, and the devices together have them all. -/
module

public import proofs.«01_k».proof.Defs
public import proofs.«01_k».proof.Proof.Meet
public import proofs.«01_k».proof.Proof.Inputs
public import proofs.«01_k».proof.Proof.Gen.Pre_finite_scores_KernelIdeal
public import Idealize.ShloMosaic.Lib.ReduceAll

@[expose] public section

set_option maxRecDepth 16384

noncomputable section

namespace Cert.Meet

open Cert.KernelIdeal
open Idealize.ShloMosaic Idealize.ShloMosaic.TcCoe

/-- An extended real whose absolute value is below infinity is a real. -/
theorem real_of_abs_lt (a : EReal) (h : max a (-a) < ⊤) : ∃ r : ℝ, a = r := by
  induction a using EReal.rec with
  | bot => exact absurd h (by simp)
  | coe r => exact ⟨r, rfl⟩
  | top => exact absurd h (by simp)

/-- The same, as the program compares. -/
theorem real_of_cmp (a : EReal) (h : Ideal.cmp .olt (max a (-a)) (Ideal.ofBits .f32 0x7F800000#32) = 1#1) :
    ∃ r : ℝ, a = r := by
  rw [Consts.posInf] at h
  refine real_of_abs_lt a ?_
  by_contra hn
  have : Ideal.cmp .olt (max a (-a)) ⊤ = 0#1 := by
    simp only [Ideal.cmp, hn]
    rfl
  rw [this] at h
  exact absurd h (by decide)

theorem and_split (a b : BitVec 1) (h : a &&& b = 1#1) : a = 1#1 ∧ b = 1#1 := by
  revert a b; decide

section One
variable [Cert.Pre_finite_scores_KernelIdeal.Facts]
variable (x : FVec Ideal ⟨3, ![2, 512, 768]⟩ .f32) (wq : FVec Ideal ⟨2, ![768, 4096]⟩ .f32)
  (k v : FVec Ideal ⟨4, ![2, 512, 8, 64]⟩ .f32) (wo : FVec Ideal ⟨2, ![4096, 768]⟩ .f32)

/-- One device's precondition, taken apart. -/
theorem fn_real (h : Cert.Pre_finite_scores_KernelIdeal.fn (F := Ideal) x wq k v wo = fun _ => 1#1) :
    (∀ j, ∃ r : ℝ, (x j : EReal) = r) ∧ (∀ j, ∃ r : ℝ, (wq j : EReal) = r) ∧ (∀ j, ∃ r : ℝ, (k j : EReal) = r) := by
  haveI : Subsingleton (⟨0, ![]⟩ : Shape).Idx := ⟨fun a b => funext fun i => i.elim0⟩
  have h0 := congrFun h ix0
  dsimp only [Cert.Pre_finite_scores_KernelIdeal.fn] at h0
  obtain ⟨h1, hk⟩ := and_split _ _ h0
  obtain ⟨hx, hw⟩ := and_split _ _ h1
  refine ⟨fun j => ?_, fun j => ?_, fun j => ?_⟩
  · exact real_of_cmp _ (Host.reduce_andi_all _ _ _ _ _ hx j)
  · exact real_of_cmp _ (Host.reduce_andi_all _ _ _ _ _ hw j)
  · exact real_of_cmp _ (Host.reduce_andi_all _ _ _ _ _ hk j)

end One

variable [Cert.Pre_finite_scores_KernelIdeal.Facts] {m : (ℓ : Loc nD τ sig) → Buf (Elt Ideal) ℓ}
variable {x : (⟨3, ![2, 512, 768]⟩ : Shape).Idx → EReal} {wq : S768x4096.Idx → EReal}
  {k : (⟨4, ![2, 512, 64, 64]⟩ : Shape).Idx → EReal}

/-- A key is a real number: it is one of the keys of the device that has its head. -/
theorem key_real {K : Dev nD → (⟨4, ![2, 512, 8, 64]⟩ : Shape).Idx → EReal} (hr : ∀ c j, ∃ r : ℝ, K c j = r)
    (h : ∀ c, K c = Layout.block ⟨4, ![2, 512, 8, 64]⟩ ⟨4, ![2, 512, 64, 64]⟩ 2 8 c k) (b : Fin 2) (i : Fin 512) (g t : Fin 64) :
    ∃ r : ℝ, k (ix4 b i g t) = r := by
  obtain ⟨r, e⟩ := hr (⟨g.val / 8, by omega⟩ : Fin 8) (ix4 b i ⟨g.val % 8, Nat.mod_lt _ (by decide)⟩ t)
  refine ⟨r, ?_⟩
  rw [← e, h]
  refine ((block_at _ k b i _ t).trans (congrArg (fun g => k (ix4 b i g t)) (Fin.ext ?_))).symm
  show 8 * (g.val / 8) + g.val % 8 = g.val
  omega

/-- Where every device's memory meets the precondition, the whole arrays are real. -/
theorem finite (hp : Cert.Pre_KernelIdeal_finite_scores_KernelIdeal m)
    (h : ∀ c : Dev nD, m ((c.tc : Thread nD τ).loc main_arg0) = x ∧ m ((c.tc : Thread nD τ).loc main_arg1) = wq
      ∧ m ((c.tc : Thread nD τ).loc main_arg2) = Layout.block ⟨4, ![2, 512, 8, 64]⟩ ⟨4, ![2, 512, 64, 64]⟩ 2 8 c k) :
    Finite x wq k := by
  have hr := fun c => fn_real _ _ _ _ _ (hp c)
  refine ⟨fun j => ?_, fun j => ?_, fun j => ?_⟩
  · obtain ⟨r, e⟩ := (hr 0).1 j
    exact ⟨r, (congrFun (h 0).1 j).symm.trans e⟩
  · obtain ⟨r, e⟩ := (hr 0).2.1 j
    exact ⟨r, (congrFun (h 0).2.1 j).symm.trans e⟩
  · rw [eq_ix4 j]
    generalize j 0 = b
    generalize j 1 = i
    generalize j 2 = g
    generalize j 3 = t
    exact key_real (fun c => (hr c).2.2) (fun c => (h c).2.2) b i g t

end Cert.Meet

end
-- ==== Proof.Value.lean ====
/- # The value

Every device ends with the reference's result. -/
module

public import proofs.«01_k».proof.Defs
public import proofs.«01_k».proof.Proof.Frames
public import proofs.«01_k».proof.Proof.Pre
public import proofs.«01_k».proof.Proof.RefStages

@[expose] public section

noncomputable section

namespace Cert.Proof

open Idealize.ShloMosaic Idealize.SL.Sem

set_option maxRecDepth 16384

/-- The kernel on eight devices and the reference on one have the same result. -/
theorem algebraic [Cert.Pre_finite_scores_KernelIdeal.Facts] :
    Cert.algebraic_KernelIdeal_ReferenceIdeal_pre_finite_scores_KernelIdeal := by
  intro m g m' g' hp h
  refine ⟨Cert.ReferenceIdeal.Value.res_main_v39 m' 0, ?_, ?_⟩
  · have hf := Cert.Meet.finite hp fun c => ⟨(h c).1, (h c).2.1, (h c).2.2.1⟩
    have hc := Cert.Meet.cut h
    refine (θ_run Cert.KernelIdeal.defs _ _).mono (fun r hr c => ?_) (Cert.Exchange.run_main (F := Ideal) m g)
    refine ⟨(hr.1 c).1.1.trans ?_, (hr.1 c).1.2⟩
    exact (Cert.Meet.out_eq hf hc c).trans (Cert.Ref.res_eq m' 0).symm
  · exact (θ_run Cert.ReferenceIdeal.defs _ _).mono (fun r hr => hr 0) (Cert.ReferenceIdeal.Value.run (F := Ideal) m' g')

end Cert.Proof

end
-- ==== Proof.lean ====
/- # The claims -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Value

@[expose] public section

noncomputable section

namespace Cert.Proof

theorem claim : Cert.Claim :=
  haveI := Cert.Pre_finite_scores_KernelIdeal.Gen.facts
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, fun m g _ => frame_kernelIdeal m g trivial,
    frame_referenceIdeal, fun m g _ => frame_referenceIdeal m g trivial, trivial, algebraic⟩

end Cert.Proof

end
